-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32768x3072 : Shape := ⟨2, ![32768, 3072]⟩
abbrev S32x8 : Shape := ⟨2, ![32, 8]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)
  reducesTo_S32768x3072_S_d0_1 : S32768x3072.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64 .f32 := Host.absf main_arg4
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  let main_v25 : FVec F S64 .f32 := Host.absf main_arg5
  let main_cst_8 : FVec F S_ .f32 := constant S_ .f32 0x7F800000#32
  let main_v26 : FVec F S64 .f32 := broadcastInDim S64 ![] bcast_S_S64 main_cst_8
  let main_v27 : IVec S64 1 := cmpf .olt main_v25 main_v26
  let main_c_9 : IVec S_ 1 := constantI S_ 1 1#1
  let main_v28 : IVec S_ 1 := (fun x v => Host.reduce IntOp.andi x v reducesTo_S64_S_d0 h_S_) main_v27 main_c_9
  let main_v29 : IVec S_ 1 := andi main_v24 main_v28
  main_v29

def fn {F : FTy → Type} [FloatOps F] (main_arg0 : FVec F S32768x3072 .bf16) (main_arg1 : FVec F S32x8 .f32) (main_arg2 : FVec F S64 .f32) (main_arg3 : FVec F S64 .f32) (main_arg4 : FVec F S64 .f32) (main_arg5 : FVec F S64 .f32) (main_arg6 : FVec F S128 .f32) : IVec S_ 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_c : IVec S_ 1 := constantI S_ 1 1#1
  let main_v4 : IVec S_ 1 := (fun x v => Host.reduce IntOp.andi x v reducesTo_S32768x3072_S_d0_1 h_S_) main_v3 main_c
  let main_v5 : FVec F S32x8 .f32 := Host.absf main_arg1
  let main_cst_0 : FVec F S_ .f32 := constant S_ .f32 0x7F800000#32
  let main_v6 : FVec F S32x8 .f32 := broadcastInDim S32x8 ![] bcast_S_S32x8 main_cst_0
  let main_v7 : IVec S32x8 1 := cmpf .olt main_v5 main_v6
  let main_c_1 : IVec S_ 1 := constantI S_ 1 1#1
  let main_v8 : IVec S_ 1 := (fun x v => Host.reduce IntOp.andi x v reducesTo_S32x8_S_d0_1 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_arg5 main_v14 main_v15 main_v16
-- ==== Kernel.lean ====
abbrev S32768x3072 : Shape := ⟨2, ![32768, 3072]⟩
abbrev S32x8 : Shape := ⟨2, ![32, 8]⟩
abbrev S64 : Shape := ⟨1, ![64]⟩
abbrev S128 : Shape := ⟨1, ![128]⟩
abbrev S1x8 : Shape := ⟨2, ![1, 8]⟩
abbrev S8 : Shape := ⟨1, ![8]⟩
abbrev S640 : Shape := ⟨1, ![640]⟩
abbrev S_ : Shape := ⟨0, ![]⟩
abbrev S640x1 : Shape := ⟨2, ![640, 1]⟩
abbrev S640x8 : Shape := ⟨2, ![640, 8]⟩
abbrev S8x640 : Shape := ⟨2, ![8, 640]⟩
abbrev S8x129 : Shape := ⟨2, ![8, 129]⟩
abbrev S8x255 : Shape := ⟨2, ![8, 255]⟩
abbrev S8x256 : Shape := ⟨2, ![8, 256]⟩
abbrev S1x8x1x640 : Shape := ⟨4, ![1, 8, 1, 640]⟩
abbrev S1x8x256x640 : Shape := ⟨4, ![1, 8, 256, 640]⟩
abbrev S8x163840 : Shape := ⟨2, ![8, 163840]⟩
abbrev S8x163584 : Shape := ⟨2, ![8, 163584]⟩
abbrev S8x256x639 : Shape := ⟨3, ![8, 256, 639]⟩
abbrev S8x256x384 : Shape := ⟨3, ![8, 256, 384]⟩
abbrev S1x64 : Shape := ⟨2, ![1, 64]⟩
abbrev S1x128 : Shape := ⟨2, ![1, 128]⟩
abbrev S32768x1024 : Shape := ⟨2, ![32768, 1024]⟩
abbrev S1024x128 : Shape := ⟨2, ![1024, 128]⟩
abbrev S16384x128 : Shape := ⟨2, ![16384, 128]⟩
abbrev S1x256x384 : Shape := ⟨3, ![1, 256, 384]⟩
abbrev S2048x128 : Shape := ⟨2, ![2048, 128]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1x256x128 : Shape := ⟨3, ![1, 256, 128]⟩
abbrev S256x896 : Shape := ⟨2, ![256, 896]⟩
abbrev S256x256 : Shape := ⟨2, ![256, 256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1x256x256 : Shape := ⟨3, ![1, 256, 256]⟩
abbrev S256x384 : Shape := ⟨2, ![256, 384]⟩
abbrev S256x640 : Shape := ⟨2, ![256, 640]⟩
abbrev S1 : Shape := ⟨1, ![1]⟩
abbrev S1x1 : Shape := ⟨2, ![1, 1]⟩
abbrev S1024 : Shape := ⟨1, ![1024]⟩
abbrev S1024x1 : Shape := ⟨2, ![1024, 1]⟩

abbrev nBuf : Space → Nat
  | .hbm => 70
  | .vmem => 19
  | .smem => 0
  | _ => 0

abbrev bufTy : (tb : Table) → Fin (tcTables nBuf tb) → BufTy
  | .hbm, ⟨0, _⟩ => ⟨S32768x3072, .bf16⟩
  | .hbm, ⟨1, _⟩ => ⟨S32x8, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S1x8, .f32⟩
  | .hbm, ⟨8, _⟩ => ⟨S8, .f32⟩
  | .hbm, ⟨9, _⟩ => ⟨S640, .i32⟩
  | .hbm, ⟨10, _⟩ => ⟨S_, .i32⟩
  | .hbm, ⟨11, _⟩ => ⟨S640, .i32⟩
  | .hbm, ⟨12, _⟩ => ⟨S640, .i32⟩
  | .hbm, ⟨13, _⟩ => ⟨S_, .i32⟩
  | .hbm, ⟨14, _⟩ => ⟨S640, .i32⟩
  | .hbm, ⟨15, _⟩ => ⟨S640, .i32⟩
  | .hbm, ⟨16, _⟩ => ⟨S640, .f32⟩
  | .hbm, ⟨17, _⟩ => ⟨S_, .f32⟩
  | .hbm, ⟨18, _⟩ => ⟨S640, .f32⟩
  | .hbm, ⟨19, _⟩ => ⟨S640, .f32⟩
  | .hbm, ⟨20, _⟩ => ⟨S640, .f32⟩
  | .hbm, ⟨21, _⟩ => ⟨S_, .f32⟩
  | .hbm, ⟨22, _⟩ => ⟨S640, .f32⟩
  | .hbm, ⟨23, _⟩ => ⟨S640, .f32⟩
  | .hbm, ⟨24, _⟩ => ⟨S_, .f32⟩
  | .hbm, ⟨25, _⟩ => ⟨S640, .f32⟩
  | .hbm, ⟨26, _⟩ => ⟨S640, .f32⟩
  | .hbm, ⟨27, _⟩ => ⟨S640, .i32⟩
  | .hbm, ⟨28, _⟩ => ⟨S_, .i32⟩
  | .hbm, ⟨29, _⟩ => ⟨S640, .i32⟩
  | .hbm, ⟨30, _⟩ => ⟨S640, .i32⟩
  | .hbm, ⟨31, _⟩ => ⟨S_, .i32⟩
  | .hbm, ⟨32, _⟩ => ⟨S640, .i32⟩
  | .hbm, ⟨33, _⟩ => ⟨S640, .i32⟩
  | .hbm, ⟨34, _⟩ => ⟨S_, .i32⟩
  | .hbm, ⟨35, _⟩ => ⟨S640, .i32⟩
  | .hbm, ⟨36, _⟩ => ⟨S640, .i1⟩
  | .hbm, ⟨37, _⟩ => ⟨S640, .i32⟩
  | .hbm, ⟨38, _⟩ => ⟨S_, .i32⟩
  | .hbm, ⟨39, _⟩ => ⟨S640, .i32⟩
  | .hbm, ⟨40, _⟩ => ⟨S640, .i1⟩
  | .hbm, ⟨41, _⟩ => ⟨S_, .i32⟩
  | .hbm, ⟨42, _⟩ => ⟨S640, .i32⟩
  | .hbm, ⟨43, _⟩ => ⟨S640, .i32⟩
  | .hbm, ⟨44, _⟩ => ⟨S640, .i32⟩
  | .hbm, ⟨45, _⟩ => ⟨S640x1, .i32⟩
  | .hbm, ⟨46, _⟩ => ⟨S640x8, .f32⟩
  | .hbm, ⟨47, _⟩ => ⟨S1x8, .f32⟩
  | .hbm, ⟨48, _⟩ => ⟨S640x8, .f32⟩
  | .hbm, ⟨49, _⟩ => ⟨S640x8, .f32⟩
  | .hbm, ⟨50, _⟩ => ⟨S8x640, .f32⟩
  | .hbm, ⟨51, _⟩ => ⟨S8x129, .f32⟩
  | .hbm, ⟨52, _⟩ => ⟨S8x129, .f32⟩
  | .hbm, ⟨53, _⟩ => ⟨S_, .f32⟩
  | .hbm, ⟨54, _⟩ => ⟨S8x255, .f32⟩
  | .hbm, ⟨55, _⟩ => ⟨S8x256, .f32⟩
  | .hbm, ⟨56, _⟩ => ⟨S8x256, .f32⟩
  | .hbm, ⟨57, _⟩ => ⟨S8x640, .f32⟩
  | .hbm, ⟨58, _⟩ => ⟨S1x8x1x640, .f32⟩
  | .hbm, ⟨59, _⟩ => ⟨S1x8x256x640, .f32⟩
  | .hbm, ⟨60, _⟩ => ⟨S8x163840, .f32⟩
  | .hbm, ⟨61, _⟩ => ⟨S8x163584, .f32⟩
  | .hbm, ⟨62, _⟩ => ⟨S8x256x639, .f32⟩
  | .hbm, ⟨63, _⟩ => ⟨S8x256x384, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x128, .f32⟩
  | .hbm, ⟨69, _⟩ => ⟨S32768x1024, .bf16⟩
  | .local _ .vmem, ⟨0, _⟩ => ⟨S1024x128, .bf16⟩
  | .local _ .vmem, ⟨1, _⟩ => ⟨S1024x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x256x384, .f32⟩
  | .local _ .vmem, ⟨7, _⟩ => ⟨S1x256x384, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S1024x128, .bf16⟩
  | .local _ .vmem, ⟨14, _⟩ => ⟨S1024x128, .bf16⟩
  | .local _ .vmem, ⟨15, _⟩ => ⟨S2048x128, .bf16⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![2, 8, 16], ![false, false, false]⟩

@[reducible] def k0_t1_loop (i : grid0.Coords) : Scf.Loop 32 :=
  let c0_i32_16 : BitVec 32 := 0#32
  let arg2 : BitVec 32 := BitVec.ofNat 32 (i 2).val
  let c1_i32 : BitVec 32 := 1#32
  let v31 : BitVec 32 := Scalar.subi arg2 c1_i32
  let c0_i32 : BitVec 32 := 0#32
  let v32 : BitVec 32 := Scalar.maxsi v31 c0_i32
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_18 : BitVec 32 := 1#32
  ⟨c0_i32_16, v37, c1_i32_18⟩
def k0_mult1 (i : grid0.Coords) (k0_t1 : Fin (k0_t1_loop i).trips) : BitVec 32 :=
  let c0_i32_16 : BitVec 32 := 0#32
  let c1_i32_18 : BitVec 32 := 1#32
  let arg17 : BitVec 32 := Scf.iv c0_i32_16 c1_i32_18 k0_t1
  let c1024_i32_230 : BitVec 32 := 1024#32
  let v437 : BitVec 32 := Scalar.muli arg17 c1024_i32_230
  v437
def k0_off1 (i : grid0.Coords) (k0_t1 : Fin (k0_t1_loop i).trips) : Fin 2 → Nat :=
  let c0_i32_16 : BitVec 32 := 0#32
  let c1_i32_18 : BitVec 32 := 1#32
  let arg17 : BitVec 32 := Scf.iv c0_i32_16 c1_i32_18 k0_t1
  let c1024_i32_230 : BitVec 32 := 1024#32
  let v437 : BitVec 32 := Scalar.muli arg17 c1024_i32_230
  let v438 : BitVec 32 := v437
  let v464 : Index := Scalar.indexCast v438
  let c0_281 : Index := 0#32
  ![v464.toNat, 0]
@[reducible] def k0_t2_loop (i : grid0.Coords) : Scf.Loop 32 :=
  let c0_i32_16 : BitVec 32 := 0#32
  let arg2 : BitVec 32 := BitVec.ofNat 32 (i 2).val
  let c1_i32 : BitVec 32 := 1#32
  let v31 : BitVec 32 := Scalar.subi arg2 c1_i32
  let c0_i32 : BitVec 32 := 0#32
  let v32 : BitVec 32 := Scalar.maxsi v31 c0_i32
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let v34 : BitVec 32 := Scalar.addi c0_i32_16 v33
  let c1_i32_19 : BitVec 32 := 1#32
  ⟨v37, v34, c1_i32_19⟩
def k0_mult2 (i : grid0.Coords) (k0_t2 : Fin (k0_t2_loop i).trips) : BitVec 32 :=
  let c0_i32_16 : BitVec 32 := 0#32
  let arg2 : BitVec 32 := BitVec.ofNat 32 (i 2).val
  let c1_i32 : BitVec 32 := 1#32
  let v31 : BitVec 32 := Scalar.subi arg2 c1_i32
  let c0_i32 : BitVec 32 := 0#32
  let v32 : BitVec 32 := Scalar.maxsi v31 c0_i32
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg17 : BitVec 32 := Scf.iv v37 c1_i32_19 k0_t2
  let c1024_i32_230 : BitVec 32 := 1024#32
  let v437 : BitVec 32 := Scalar.muli arg17 c1024_i32_230
  v437
def k0_off2 (i : grid0.Coords) (k0_t2 : Fin (k0_t2_loop i).trips) : Fin 2 → Nat :=
  let c0_i32_16 : BitVec 32 := 0#32
  let arg2 : BitVec 32 := BitVec.ofNat 32 (i 2).val
  let c1_i32 : BitVec 32 := 1#32
  let v31 : BitVec 32 := Scalar.subi arg2 c1_i32
  let c0_i32 : BitVec 32 := 0#32
  let v32 : BitVec 32 := Scalar.maxsi v31 c0_i32
  let v33 : BitVec 32 := Scalar.subi v32 c0_i32_16
  let c1_i32_17 : BitVec 32 := 1#32
  let v35 : BitVec 32 := Scalar.divsi v33 c1_i32_17
  let v36 : BitVec 32 := Scalar.muli v35 c1_i32_17
  let v37 : BitVec 32 := Scalar.addi c0_i32_16 v36
  let c1_i32_19 : BitVec 32 := 1#32
  let arg17 : BitVec 32 := Scf.iv v37 c1_i32_19 k0_t2
  let c1024_i32_230 : BitVec 32 := 1024#32
  let v437 : BitVec 32 := Scalar.muli arg17 c1024_i32_230
  let v438 : BitVec 32 := v437
  let v464 : Index := Scalar.indexCast v438
  let c0_281 : Index := 0#32
  ![v464.toNat, 0]
def k0_cond1 (i : grid0.Coords) : BitVec 1 :=
  let arg2 : BitVec 32 := BitVec.ofNat 32 (i 2).val
  let c1_i32_20 : BitVec 32 := 1#32
  let v38 : BitVec 1 := Scalar.cmpi .sge arg2 c1_i32_20
  let v39 : BitVec 32 := Scalar.extui v38
  let c0_i32_21 : BitVec 32 := 0#32
  let v40 : BitVec 1 := Scalar.cmpi .ne v39 c0_i32_21
  v40

def k0_mult3 (i : grid0.Coords) : BitVec 32 :=
  let arg2 : BitVec 32 := BitVec.ofNat 32 (i 2).val
  let c1_i32_230 : BitVec 32 := 1#32
  let v437 : BitVec 32 := Scalar.subi arg2 c1_i32_230
  let c1024_i32_231 : BitVec 32 := 1024#32
  let v438 : BitVec 32 := Scalar.muli v437 c1024_i32_231
  v438
def k0_off3 (i : grid0.Coords) : Fin 2 → Nat :=
  let arg2 : BitVec 32 := BitVec.ofNat 32 (i 2).val
  let c1_i32_230 : BitVec 32 := 1#32
  let v437 : BitVec 32 := Scalar.subi arg2 c1_i32_230
  let c1024_i32_231 : BitVec 32 := 1024#32
  let v438 : BitVec 32 := Scalar.muli v437 c1024_i32_231
  let v439 : BitVec 32 := v438
  let v465 : Index := Scalar.indexCast v439
  let c0_282 : Index := 0#32
  ![v465.toNat, 0]
def k0_mult4 (i : grid0.Coords) : BitVec 32 :=
  let arg2 : BitVec 32 := BitVec.ofNat 32 (i 2).val
  let c1024_i32 : BitVec 32 := 1024#32
  let v41 : BitVec 32 := Scalar.muli arg2 c1024_i32
  v41
def k0_off4 (i : grid0.Coords) : Fin 2 → Nat :=
  let arg2 : BitVec 32 := BitVec.ofNat 32 (i 2).val
  let c1024_i32 : BitVec 32 := 1024#32
  let v41 : BitVec 32 := Scalar.muli arg2 c1024_i32
  let v42 : BitVec 32 := v41
  let v68 : Index := Scalar.indexCast v42
  let c0_66 : Index := 0#32
  ![v68.toNat, 0]
def k0_off5 (i : grid0.Coords) : Fin 2 → Nat :=
  let arg2 : BitVec 32 := BitVec.ofNat 32 (i 2).val
  let c1024_i32 : BitVec 32 := 1024#32
  let v41 : BitVec 32 := Scalar.muli arg2 c1024_i32
  let v42 : BitVec 32 := v41
  let v72 : Index := Scalar.indexCast v42
  let c0_70 : Index := 0#32
  ![v72.toNat, 0]
def k0_off6 (i : grid0.Coords) : Fin 2 → Nat :=
  let arg2 : BitVec 32 := BitVec.ofNat 32 (i 2).val
  let c1024_i32 : BitVec 32 := 1024#32
  let v41 : BitVec 32 := Scalar.muli arg2 c1024_i32
  let v42 : BitVec 32 := v41
  let v76 : Index := Scalar.indexCast v42
  let c0_74 : Index := 0#32
  ![v76.toNat, 0]
def k0_off7 (i : grid0.Coords) : Fin 2 → Nat :=
  let arg2 : BitVec 32 := BitVec.ofNat 32 (i 2).val
  let c1024_i32 : BitVec 32 := 1024#32
  let v41 : BitVec 32 := Scalar.muli arg2 c1024_i32
  let v42 : BitVec 32 := v41
  let v80 : Index := Scalar.indexCast v42
  let c0_78 : Index := 0#32
  ![v80.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "log2e" => some (((Real.log 2)⁻¹ : ℝ) : EReal)
  | "q_scale" => some (((1 / 8) * (Real.log 2)⁻¹ : ℝ) : EReal)
  | _ => none
-- ==== ReferenceIdeal.lean ====
abbrev S32768x3072 : Shape := ⟨2, ![32768, 3072]⟩
abbrev S32x8 : Shape := ⟨2, ![32, 8]⟩
abbrev S64 : Shape := ⟨1, ![64]⟩
abbrev S128 : Shape := ⟨1, ![128]⟩
abbrev S2x16384x3072 : Shape := ⟨3, ![2, 16384, 3072]⟩
abbrev S2x16384x1024 : Shape := ⟨3, ![2, 16384, 1024]⟩
abbrev S_ : Shape := ⟨0, ![]⟩
abbrev S2x16384x8x2x64 : Shape := ⟨5, ![2, 16384, 8, 2, 64]⟩
abbrev S2x8x2x16384x64 : Shape := ⟨5, ![2, 8, 2, 16384, 64]⟩
abbrev S2x16384x8x128 : Shape := ⟨4, ![2, 16384, 8, 128]⟩
abbrev S2x8x16384x128 : Shape := ⟨4, ![2, 8, 16384, 128]⟩
abbrev S2x8x2x16384x16384 : Shape := ⟨5, ![2, 8, 2, 16384, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16384x16384x1 : Shape := ⟨3, ![16384, 16384, 1]⟩
abbrev S16384x16384x8 : Shape := ⟨3, ![16384, 16384, 8]⟩
abbrev S8x16384x16384 : Shape := ⟨3, ![8, 16384, 16384]⟩
abbrev S1x8x1x16384x16384 : Shape := ⟨5, ![1, 8, 1, 16384, 16384]⟩
abbrev S2x8x2x16384 : Shape := ⟨4, ![2, 8, 2, 16384]⟩
abbrev S2x8x2x16384x1 : Shape := ⟨5, ![2, 8, 2, 16384, 1]⟩
abbrev S2x8x1x16384x16384 : Shape := ⟨5, ![2, 8, 1, 16384, 16384]⟩
abbrev S2x8x16384x16384 : Shape := ⟨4, ![2, 8, 16384, 16384]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S32768x1024 : Shape := ⟨2, ![32768, 1024]⟩

abbrev nBuf : Space → Nat
  | .hbm => 133
  | .vmem => 0
  | .smem => 0
  | _ => 0

abbrev hbmTy0_0 (i : Nat) : BufTy := match i % 128 with
  | 0 => ⟨S32768x3072, .bf16⟩
  | 1 => ⟨S32x8, .f32⟩
  | 2 => ⟨S64, .f32⟩
  | 3 => ⟨S64, .f32⟩
  | 4 => ⟨S64, .f32⟩
  | 5 => ⟨S64, .f32⟩
  | 6 => ⟨S128, .f32⟩
  | 7 => ⟨S32768x3072, .f32⟩
  | 8 => ⟨S2x16384x3072, .f32⟩
  | 9 => ⟨S2x16384x1024, .f32⟩
  | 10 => ⟨S2x16384x1024, .f32⟩
  | 11 => ⟨S2x16384x1024, .f32⟩
  | 12 => ⟨S_, .f32⟩
  | 13 => ⟨S2x16384x1024, .f32⟩
  | 14 => ⟨S2x16384x1024, .f32⟩
  | 15 => ⟨S2x16384x8x2x64, .f32⟩
  | 16 => ⟨S2x8x2x16384x64, .f32⟩
  | 17 => ⟨S2x16384x8x2x64, .f32⟩
  | 18 => ⟨S2x8x2x16384x64, .f32⟩
  | 19 => ⟨S2x16384x8x128, .f32⟩
  | 20 => ⟨S2x8x16384x128, .f32⟩
  | 21 => ⟨S64, .f32⟩
  | 22 => ⟨S_, .f32⟩
  | 23 => ⟨S_, .f32⟩
  | 24 => ⟨S_, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S2x8x2x16384x16384, .f32⟩
  | 33 => ⟨S16384, .i32⟩
  | 34 => ⟨S16384x1, .i32⟩
  | 35 => ⟨S16384, .i32⟩
  | 36 => ⟨S1x16384, .i32⟩
  | 37 => ⟨S16384x16384, .i32⟩
  | 38 => ⟨S16384x16384, .i32⟩
  | 39 => ⟨S16384x16384, .i32⟩
  | 40 => ⟨S_, .i32⟩
  | 41 => ⟨S16384x16384, .i32⟩
  | 42 => ⟨S16384x16384, .i32⟩
  | 43 => ⟨S_, .i32⟩
  | 44 => ⟨S16384x16384, .i32⟩
  | 45 => ⟨S16384x16384, .i32⟩
  | 46 => ⟨S16384x16384, .f32⟩
  | 47 => ⟨S_, .f32⟩
  | 48 => ⟨S16384x16384, .f32⟩
  | 49 => ⟨S16384x16384, .f32⟩
  | 50 => ⟨S16384x16384, .f32⟩
  | 51 => ⟨S_, .f32⟩
  | 52 => ⟨S16384x16384, .f32⟩
  | 53 => ⟨S16384x16384, .f32⟩
  | 54 => ⟨S_, .f32⟩
  | 55 => ⟨S16384x16384, .f32⟩
  | 56 => ⟨S16384x16384, .f32⟩
  | 57 => ⟨S16384x16384, .i32⟩
  | 58 => ⟨S_, .i32⟩
  | 59 => ⟨S16384x16384, .i32⟩
  | 60 => ⟨S16384x16384, .i32⟩
  | 61 => ⟨S_, .i32⟩
  | 62 => ⟨S16384x16384, .i32⟩
  | 63 => ⟨S16384x16384, .i1⟩
  | 64 => ⟨S_, .i32⟩
  | 65 => ⟨S16384x16384, .i32⟩
  | 66 => ⟨S16384x16384, .i32⟩
  | 67 => ⟨S16384x16384, .i32⟩
  | 68 => ⟨S_, .i32⟩
  | 69 => ⟨S16384x16384, .i32⟩
  | 70 => ⟨S16384x16384, .i1⟩
  | 71 => ⟨S_, .i32⟩
  | 72 => ⟨S16384x16384, .i32⟩
  | 73 => ⟨S16384x16384, .i32⟩
  | 74 => ⟨S16384x16384, .i32⟩
  | 75 => ⟨S16384x16384x1, .i32⟩
  | 76 => ⟨S16384x16384x8, .f32⟩
  | 77 => ⟨S8x16384x16384, .f32⟩
  | 78 => ⟨S_, .i32⟩
  | 79 => ⟨S16384x16384, .i32⟩
  | 80 => ⟨S16384x16384, .i1⟩
  | 81 => ⟨S1x8x1x16384x16384, .f32⟩
  | 82 => ⟨S2x8x2x16384x16384, .f32⟩
  | 83 => ⟨S2x8x2x16384x16384, .f32⟩
  | 84 => ⟨S_, .f32⟩
  | 85 => ⟨S_, .f32⟩
  | 86 => ⟨S2x8x2x16384x16384, .i1⟩
  | 87 => ⟨S2x8x2x16384x16384, .f32⟩
  | 88 => ⟨S2x8x2x16384x16384, .f32⟩
  | 89 => ⟨S_, .f32⟩
  | 90 => ⟨S2x8x2x16384, .f32⟩
  | 91 => ⟨S_, .f32⟩
  | 92 => ⟨S2x8x2x16384, .f32⟩
  | 93 => ⟨S2x8x2x16384, .f32⟩
  | 94 => ⟨S2x8x2x16384x1, .f32⟩
  | 95 => ⟨S2x8x2x16384x16384, .f32⟩
  | 96 => ⟨S2x8x2x16384x16384, .f32⟩
  | 97 => ⟨S2x8x2x16384x16384, .f32⟩
  | 98 => ⟨S_, .f32⟩
  | 99 => ⟨S2x8x2x16384, .f32⟩
  | 100 => ⟨S2x8x2x16384x1, .f32⟩
  | 101 => ⟨S2x8x2x16384x16384, .f32⟩
  | 102 => ⟨S2x8x2x16384x16384, .f32⟩
  | 103 => ⟨S2x8x1x16384x16384, .f32⟩
  | 104 => ⟨S2x8x16384x16384, .f32⟩
  | 105 => ⟨S2x8x1x16384x16384, .f32⟩
  | 106 => ⟨S2x8x16384x16384, .f32⟩
  | 107 => ⟨S2x8x16384x16384, .f32⟩
  | 108 => ⟨S2x8x16384x16384, .f32⟩
  | 109 => ⟨S2x8x16384x16384, .f32⟩
  | 110 => ⟨S2x8x16384x128, .f32⟩
  | 111 => ⟨S2x16384x8x128, .f32⟩
  | 112 => ⟨S2x16384x8x128, .f32⟩
  | 113 => ⟨S_, .f32⟩
  | 114 => ⟨S2x16384x8, .f32⟩
  | 115 => ⟨S2x16384x8x1, .f32⟩
  | 116 => ⟨S_, .f32⟩
  | 117 => ⟨S2x16384x8x1, .f32⟩
  | 118 => ⟨S2x16384x8x1, .f32⟩
  | 119 => ⟨S_, .f32⟩
  | 120 => ⟨S2x16384x8x1, .f32⟩
  | 121 => ⟨S2x16384x8x1, .f32⟩
  | 122 => ⟨S2x16384x8x1, .f32⟩
  | 123 => ⟨S2x16384x8x128, .f32⟩
  | 124 => ⟨S2x16384x8x128, .f32⟩
  | 125 => ⟨S1x1x1x128, .f32⟩
  | 126 => ⟨S2x16384x8x128, .f32⟩
  | 127 => ⟨S2x16384x8x128, .f32⟩
  | _ => ⟨S32768x3072, .bf16⟩

abbrev hbmTy0_1 (i : Nat) : BufTy := match i % 128 with
  | 0 => ⟨S_, .f32⟩
  | 1 => ⟨S2x16384x8x128, .f32⟩
  | 2 => ⟨S2x16384x8x128, .f32⟩
  | 3 => ⟨S32768x1024, .f32⟩
  | 4 => ⟨S32768x1024, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_v29 : Ref sig .tc := ⟨.hbm, 41, rfl⟩
abbrev main_v30 : Ref sig .tc := ⟨.hbm, 42, rfl⟩
abbrev main_c_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_v42 : Ref sig .tc := ⟨.hbm, 59, rfl⟩
abbrev main_v43 : Ref sig .tc := ⟨.hbm, 60, rfl⟩
abbrev main_c_8 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_10 : Ref sig .tc := ⟨.hbm, 68, rfl⟩
abbrev main_v49 : Ref sig .tc := ⟨.hbm, 69, rfl⟩
abbrev main_v50 : Ref sig .tc := ⟨.hbm, 70, rfl⟩
abbrev main_c_11 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_12 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_17 : Ref sig .tc := ⟨.hbm, 113, rfl⟩
abbrev main_v84 : Ref sig .tc := ⟨.hbm, 114, rfl⟩
abbrev main_v85 : Ref sig .tc := ⟨.hbm, 115, rfl⟩
abbrev main_cst_18 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_20 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2x2048 : Shape := ⟨2, ![2, 2048]⟩
abbrev S2048x3328 : Shape := ⟨2, ![2048, 3328]⟩
abbrev S3328 : Shape := ⟨1, ![3328]⟩
abbrev S32768x2048 : Shape := ⟨2, ![32768, 2048]⟩
abbrev S1x2048 : Shape := ⟨2, ![1, 2048]⟩
abbrev S2x1x2048 : Shape := ⟨3, ![2, 1, 2048]⟩
abbrev S1x3328 : Shape := ⟨2, ![1, 3328]⟩
abbrev S32768x3328 : Shape := ⟨2, ![32768, 3328]⟩
abbrev S256x2048 : Shape := ⟨2, ![256, 2048]⟩
abbrev S1x1x2048 : Shape := ⟨3, ![1, 1, 2048]⟩
abbrev S256x3328 : Shape := ⟨2, ![256, 3328]⟩
abbrev S8x3328 : Shape := ⟨2, ![8, 3328]⟩
abbrev S256 : Shape := ⟨1, ![256]⟩
abbrev S256x1 : Shape := ⟨2, ![256, 1]⟩

abbrev nBuf : Space → Nat
  | .hbm => 13
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x3328, .f32⟩
  | .hbm, ⟨5, _⟩ => ⟨S3328, .f32⟩
  | .hbm, ⟨6, _⟩ => ⟨S32768x2048, .f32⟩
  | .hbm, ⟨7, _⟩ => ⟨S2048x3328, .bf16⟩
  | .hbm, ⟨8, _⟩ => ⟨S1x2048, .f32⟩
  | .hbm, ⟨9, _⟩ => ⟨S2x1x2048, .f32⟩
  | .hbm, ⟨10, _⟩ => ⟨S2x1x2048, .f32⟩
  | .hbm, ⟨11, _⟩ => ⟨S1x3328, .f32⟩
  | .hbm, ⟨12, _⟩ => ⟨S32768x3328, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x3328, .bf16⟩
  | .local _ .vmem, ⟨8, _⟩ => ⟨S1x3328, .f32⟩
  | .local _ .vmem, ⟨9, _⟩ => ⟨S256x3328, .f32⟩
  | .local _ .vmem, ⟨10, _⟩ => ⟨S256x3328, .f32⟩
  | .local _ .vmem, ⟨11, _⟩ => ⟨S8x3328, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3328 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3328 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S2x16384x2048 : Shape := ⟨3, ![2, 16384, 2048]⟩
abbrev S2048 : Shape := ⟨1, ![2048]⟩
abbrev S2x2048 : Shape := ⟨2, ![2, 2048]⟩
abbrev S2048x3328 : Shape := ⟨2, ![2048, 3328]⟩
abbrev S3328 : Shape := ⟨1, ![3328]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x3328 : Shape := ⟨3, ![2, 16384, 3328]⟩
abbrev S2x16385x3328 : Shape := ⟨3, ![2, 16385, 3328]⟩
abbrev S1x1x3328 : Shape := ⟨3, ![1, 1, 3328]⟩
abbrev S32768x3328 : Shape := ⟨2, ![32768, 3328]⟩

abbrev nBuf : Space → Nat
  | .hbm => 42
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x3328, .f32⟩
  | .hbm, ⟨5, _⟩ => ⟨S3328, .f32⟩
  | .hbm, ⟨6, _⟩ => ⟨S2x16384x2048, .f32⟩
  | .hbm, ⟨7, _⟩ => ⟨S_, .f32⟩
  | .hbm, ⟨8, _⟩ => ⟨S2x16384, .f32⟩
  | .hbm, ⟨9, _⟩ => ⟨S2x16384x1, .f32⟩
  | .hbm, ⟨10, _⟩ => ⟨S_, .f32⟩
  | .hbm, ⟨11, _⟩ => ⟨S2x16384x1, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S2x16384x1, .f32⟩
  | .hbm, ⟨17, _⟩ => ⟨S2x16384x2048, .f32⟩
  | .hbm, ⟨18, _⟩ => ⟨S2x16384x2048, .f32⟩
  | .hbm, ⟨19, _⟩ => ⟨S1x1x2048, .f32⟩
  | .hbm, ⟨20, _⟩ => ⟨S2x16384x2048, .f32⟩
  | .hbm, ⟨21, _⟩ => ⟨S2x16384x2048, .f32⟩
  | .hbm, ⟨22, _⟩ => ⟨S2x1x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x16384x2048, .f32⟩
  | .hbm, ⟨27, _⟩ => ⟨S2x16384x2048, .f32⟩
  | .hbm, ⟨28, _⟩ => ⟨S2x1x2048, .f32⟩
  | .hbm, ⟨29, _⟩ => ⟨S2x16384x2048, .f32⟩
  | .hbm, ⟨30, _⟩ => ⟨S2x16384x2048, .f32⟩
  | .hbm, ⟨31, _⟩ => ⟨S2x16384x3328, .f32⟩
  | .hbm, ⟨32, _⟩ => ⟨S_, .i32⟩
  | .hbm, ⟨33, _⟩ => ⟨S_, .f32⟩
  | .hbm, ⟨34, _⟩ => ⟨S2x16385x3328, .f32⟩
  | .hbm, ⟨35, _⟩ => ⟨S2x16384x3328, .f32⟩
  | .hbm, ⟨36, _⟩ => ⟨S2x16384x3328, .f32⟩
  | .hbm, ⟨37, _⟩ => ⟨S1x1x3328, .f32⟩
  | .hbm, ⟨38, _⟩ => ⟨S2x16384x3328, .f32⟩
  | .hbm, ⟨39, _⟩ => ⟨S2x16384x3328, .f32⟩
  | .hbm, ⟨40, _⟩ => ⟨S2x16384x3328, .f32⟩
  | .hbm, ⟨41, _⟩ => ⟨S32768x3328, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048 : Shape := ⟨1, ![2048]⟩
abbrev S2x2048 : Shape := ⟨2, ![2, 2048]⟩
abbrev S2048x3072 : Shape := ⟨2, ![2048, 3072]⟩
abbrev S32768x2048 : Shape := ⟨2, ![32768, 2048]⟩
abbrev S_ : Shape := ⟨0, ![]⟩
abbrev S3072 : Shape := ⟨1, ![3072]⟩
abbrev S1x2048 : Shape := ⟨2, ![1, 2048]⟩
abbrev S2x1x2048 : Shape := ⟨3, ![2, 1, 2048]⟩
abbrev S1x3072 : Shape := ⟨2, ![1, 3072]⟩
abbrev S32768x3072 : Shape := ⟨2, ![32768, 3072]⟩
abbrev S256x2048 : Shape := ⟨2, ![256, 2048]⟩
abbrev S1x1x2048 : Shape := ⟨3, ![1, 1, 2048]⟩
abbrev S256x3072 : Shape := ⟨2, ![256, 3072]⟩
abbrev S8x3072 : Shape := ⟨2, ![8, 3072]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x3072, .f32⟩
  | .hbm, ⟨5, _⟩ => ⟨S32768x2048, .f32⟩
  | .hbm, ⟨6, _⟩ => ⟨S2048x3072, .bf16⟩
  | .hbm, ⟨7, _⟩ => ⟨S_, .f32⟩
  | .hbm, ⟨8, _⟩ => ⟨S3072, .f32⟩
  | .hbm, ⟨9, _⟩ => ⟨S1x2048, .f32⟩
  | .hbm, ⟨10, _⟩ => ⟨S2x1x2048, .f32⟩
  | .hbm, ⟨11, _⟩ => ⟨S2x1x2048, .f32⟩
  | .hbm, ⟨12, _⟩ => ⟨S1x3072, .f32⟩
  | .hbm, ⟨13, _⟩ => ⟨S32768x3072, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x3072, .bf16⟩
  | .local _ .vmem, ⟨8, _⟩ => ⟨S1x3072, .f32⟩
  | .local _ .vmem, ⟨9, _⟩ => ⟨S256x3072, .bf16⟩
  | .local _ .vmem, ⟨10, _⟩ => ⟨S256x3072, .bf16⟩
  | .local _ .vmem, ⟨11, _⟩ => ⟨S8x3072, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x16384x2048 : Shape := ⟨3, ![2, 16384, 2048]⟩
abbrev S2048 : Shape := ⟨1, ![2048]⟩
abbrev S2x2048 : Shape := ⟨2, ![2, 2048]⟩
abbrev S2048x3072 : Shape := ⟨2, ![2048, 3072]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x1x2048 : Shape := ⟨3, ![2, 1, 2048]⟩
abbrev S2x16384x3072 : Shape := ⟨3, ![2, 16384, 3072]⟩
abbrev S32768x3072 : Shape := ⟨2, ![32768, 3072]⟩

abbrev nBuf : Space → Nat
  | .hbm => 33
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x2048, .f32⟩
  | .hbm, ⟨3, _⟩ => ⟨S2x2048, .f32⟩
  | .hbm, ⟨4, _⟩ => ⟨S2048x3072, .f32⟩
  | .hbm, ⟨5, _⟩ => ⟨S2x16384x2048, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x2048, .f32⟩
  | .hbm, ⟨17, _⟩ => ⟨S2x16384x2048, .f32⟩
  | .hbm, ⟨18, _⟩ => ⟨S1x1x2048, .f32⟩
  | .hbm, ⟨19, _⟩ => ⟨S2x16384x2048, .f32⟩
  | .hbm, ⟨20, _⟩ => ⟨S2x16384x2048, .f32⟩
  | .hbm, ⟨21, _⟩ => ⟨S2x1x2048, .f32⟩
  | .hbm, ⟨22, _⟩ => ⟨S_, .f32⟩
  | .hbm, ⟨23, _⟩ => ⟨S2x1x2048, .f32⟩
  | .hbm, ⟨24, _⟩ => ⟨S2x1x2048, .f32⟩
  | .hbm, ⟨25, _⟩ => ⟨S2x16384x2048, .f32⟩
  | .hbm, ⟨26, _⟩ => ⟨S2x16384x2048, .f32⟩
  | .hbm, ⟨27, _⟩ => ⟨S2x1x2048, .f32⟩
  | .hbm, ⟨28, _⟩ => ⟨S2x16384x2048, .f32⟩
  | .hbm, ⟨29, _⟩ => ⟨S2x16384x2048, .f32⟩
  | .hbm, ⟨30, _⟩ => ⟨S2x16384x3072, .f32⟩
  | .hbm, ⟨31, _⟩ => ⟨S32768x3072, .f32⟩
  | .hbm, ⟨32, _⟩ => ⟨S32768x3072, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Claims.lean ====
/- The claims about the programs that need no value: each program runs to the end, leaves its arguments as they were and
   every semaphore at zero, and the idealised kernel is the printed one with its two named constants. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Claims

open Idealize.ShloMosaic Idealize.SL.Sem

/-- The shape relations the precondition's operations take hold. -/
theorem pre_facts : Cert.Pre_finite.Facts where
  bitsLt_bf16_f32 := by decide
  bcast_S_S32768x3072 := by decide
  reducesTo_S32768x3072_S_d0_1 := by decide
  h_S_ := by decide
  bcast_S_S32x8 := by decide
  reducesTo_S32x8_S_d0_1 := by decide
  bcast_S_S64 := by decide
  reducesTo_S64_S_d0 := by decide

/-- The kernel as printed runs to the end, its arguments unchanged and its semaphores at zero. -/
theorem frame_p : Cert.quiescent_Kernel (hKernel := Cert.Kernel.Gen.facts) := fun m g _ => Cert.Kernel.Gen.frame m g

/-- So does the kernel over the extended reals. -/
theorem frame_pi : Cert.quiescent_KernelIdeal (hKernelIdeal := Cert.KernelIdeal.Gen.facts) := fun m g _ => Cert.KernelIdeal.Gen.frame m g

/-- So does the reference. -/
theorem frame_ri : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The two frames under the precondition follow from the frames without it. -/
theorem frame_pi_finite : Cert.quiescent_KernelIdeal_pre_finite (hKernelIdeal := Cert.KernelIdeal.Gen.facts) (hPre_finite := pre_facts) :=
  fun m g _ => Cert.KernelIdeal.Gen.frame m g

theorem frame_ri_finite : Cert.quiescent_ReferenceIdeal_pre_finite (hReferenceIdeal := Cert.ReferenceIdeal.Gen.facts) (hPre_finite := pre_facts) :=
  fun m g _ => frame_ri m g trivial

/-- The two named constants are what the ideal kernel's table says they are. -/
theorem preserves : Cert.preserves_Kernel_KernelIdeal :=
  ⟨IdealRules.named_const.statement Cert.KernelIdeal.κ "q_scale" .f32 0x3E38AA3B#32 (((1 / 8) * (Real.log 2)⁻¹ : ℝ) : EReal) rfl,
   IdealRules.named_const.statement Cert.KernelIdeal.κ "log2e" .f32 0x3FB8AA3B#32 (((Real.log 2)⁻¹ : ℝ) : EReal) rfl⟩

end Cert.Claims

end
-- ==== Proof.RowStep.lean ====
module

public import Idealize.ShloMosaic.PureOps.Ideal
public import Idealize.ShloMosaic.PureOps.Ideal.Laws

@[expose] public section

/-!
  One row of a running softmax, over the extended reals.

  A row carries a running maximum, a running sum and a running weighted sum of values, the last two scaled by
  `2 ^ (-maximum)`. `RowOK Z Y M L A` says that the three hold what a row must hold after keys whose weights add up to
  `Z` and whose weighted values add up to `Y`; `rowOK_step` is one block of further keys.
-/

noncomputable section

namespace Cert.Flash

open Idealize.ShloMosaic

/-- `s` is the logarithm to base two of the weight `W`, a masked score (minus infinity) being the logarithm of zero. -/
def IsLog2 (s : EReal) (W : ℝ) : Prop :=
  (s = ⊥ ∧ W = 0) ∨ ∃ r : ℝ, s = (r : EReal) ∧ W = Real.rpow 2 r

/-- What a row holds, lane by lane: one finite maximum in every lane, the weights' sum `Z` and the weighted values' sums
    `Y`, both scaled down by two to the maximum. -/
def RowOK (Z : ℝ) (Y : Fin 128 → ℝ) (M L A : Fin 128 → EReal) : Prop :=
  ∃ μ : ℝ, ∀ c, M c = (μ : EReal) ∧ L c = ((Real.rpow 2 (-μ) * Z : ℝ) : EReal)
    ∧ A c = ((Real.rpow 2 (-μ) * Y c : ℝ) : EReal)

/-- A row before any key. -/
theorem rowOK_init (μ : ℝ) : RowOK 0 (fun _ => 0) (fun _ => (μ : EReal)) (fun _ => 0) (fun _ => 0) :=
  ⟨μ, fun _ => ⟨rfl, by simp, by simp⟩⟩

/-- Two to a masked or finite score less a finite maximum is the weight scaled down by two to the maximum. -/
theorem exp2_sub {s : EReal} {W : ℝ} (h : IsLog2 s W) (μ : ℝ) :
    Ideal.exp2 (s - (μ : EReal)) = ((Real.rpow 2 (-μ) * W : ℝ) : EReal) := by
  rcases h with ⟨rfl, rfl⟩ | ⟨r, rfl, rfl⟩
  · rw [EReal.bot_sub, Ideal.exp2_bot]; simp
  · rw [← EReal.coe_sub, Ideal.exp2_coe]
    congr 1
    show (2 : ℝ) ^ (r - μ) = (2 : ℝ) ^ (-μ) * (2 : ℝ) ^ r
    rw [← Real.rpow_add (by norm_num)]; congr 1; ring

/-- The maximum of a finite number and of masked or finite scores is finite. -/
theorem max_fold_finite {w : ℕ} (μ : ℝ) (s : Fin w → EReal) (b : EReal) (hb : b = ⊥) (hs : ∀ k, s k ≠ ⊤) :
    ∃ μ' : ℝ, max (μ : EReal) (Finset.univ.fold max b s) = (μ' : EReal) := by
  have h : ∀ t : Finset (Fin w), t.fold max b s ≠ ⊤ := by
    intro t
    induction t using Finset.induction_on with
    | empty => rw [Finset.fold_empty, hb]; exact bot_ne_top
    | insert a t ha ih =>
      rw [Finset.fold_insert ha]
      rcases max_choice (s a) (t.fold max b s) with h | h <;> rw [h]
      · exact hs a
      · exact ih
  refine ⟨(max (μ : EReal) (Finset.univ.fold max b s)).toReal, (EReal.coe_toReal ?_ ?_).symm⟩
  · rcases max_choice (μ : EReal) (Finset.univ.fold max b s) with h' | h' <;> rw [h']
    · exact EReal.coe_ne_top μ
    · exact h _
  · intro h'
    have := le_max_left (μ : EReal) (Finset.univ.fold max b s)
    rw [h'] at this
    exact EReal.coe_ne_bot μ (le_bot_iff.mp this)

theorem IsLog2.ne_top {s : EReal} {W : ℝ} (h : IsLog2 s W) : s ≠ ⊤ := by
  rcases h with ⟨rfl, _⟩ | ⟨r, rfl, _⟩
  · exact bot_ne_top
  · exact EReal.coe_ne_top r

/-- A finite sum of real numbers, taken over the extended reals. -/
theorem coe_sum {ι : Type*} (t : Finset ι) (f : ι → ℝ) : ∑ k ∈ t, ((f k : ℝ) : EReal) = ((∑ k ∈ t, f k : ℝ) : EReal) := by
  classical
  induction t using Finset.induction_on with
  | empty => simp
  | insert a t ha ih => rw [Finset.sum_insert ha, Finset.sum_insert ha, ih, EReal.coe_add]

/-- One block of `w` further keys with scores `s` of weights `W` and finite values `v`: the new maximum is the old one
    or the block's greatest score, sum and weighted sum are the old ones rescaled plus the block's. `κ` is the lane
    that the maximum is read from at each key. -/
theorem rowOK_step {w : ℕ} {Z : ℝ} {Y : Fin 128 → ℝ} {M L A : Fin 128 → EReal} (h : RowOK Z Y M L A)
    (s : Fin w → EReal) (W : Fin w → ℝ) (hs : ∀ k, IsLog2 (s k) (W k)) (v : Fin w → Fin 128 → ℝ)
    (κ : Fin w → Fin 128) (b : EReal) (hb : b = ⊥) :
    RowOK (Z + ∑ k, W k) (fun c => Y c + ∑ k, W k * v k c)
      (fun c => max (M c) (Finset.univ.fold max b s))
      (fun c => Ideal.exp2 (M c - max (M c) (Finset.univ.fold max b s)) * L c
        + ∑ k, Ideal.exp2 (s k - max (M (κ k)) (Finset.univ.fold max b s)))
      (fun c => Ideal.exp2 (M c - max (M c) (Finset.univ.fold max b s)) * A c
        + ∑ k, Ideal.exp2 (s k - max (M (κ k)) (Finset.univ.fold max b s)) * (v k c : EReal)) := by
  obtain ⟨μ, hM⟩ := h
  obtain ⟨μ', hμ'⟩ := max_fold_finite μ s b hb fun k => (hs k).ne_top
  have hα : Ideal.exp2 ((μ : EReal) - (μ' : EReal)) * ((Real.rpow 2 (-μ) * Z : ℝ) : EReal)
      = ((Real.rpow 2 (-μ') * Z : ℝ) : EReal) ∧ ∀ c, Ideal.exp2 ((μ : EReal) - (μ' : EReal)) * ((Real.rpow 2 (-μ) * Y c : ℝ) : EReal)
      = ((Real.rpow 2 (-μ') * Y c : ℝ) : EReal) := by
    have h1 : ∀ x : ℝ, Ideal.exp2 ((μ : EReal) - (μ' : EReal)) * ((Real.rpow 2 (-μ) * x : ℝ) : EReal)
        = ((Real.rpow 2 (-μ') * x : ℝ) : EReal) := by
      intro x
      rw [← EReal.coe_sub, Ideal.exp2_coe, ← EReal.coe_mul]
      congr 1
      show (2 : ℝ) ^ (μ - μ') * ((2 : ℝ) ^ (-μ) * x) = (2 : ℝ) ^ (-μ') * x
      rw [← mul_assoc, ← Real.rpow_add (by norm_num)]; congr 2; ring
    exact ⟨h1 Z, fun c => h1 (Y c)⟩
  refine ⟨μ', fun c => ⟨?_, ?_, ?_⟩⟩
  · simp only [(hM c).1]; exact hμ'
  · simp only [(hM _).1, (hM c).2.1, hμ', hα.1, exp2_sub (hs _) μ']
    rw [coe_sum, ← EReal.coe_add, ← Finset.mul_sum]; congr 1; ring
  · simp only [(hM _).1, (hM c).2.2, hμ', hα.2, exp2_sub (hs _) μ', ← EReal.coe_mul]
    rw [coe_sum, ← EReal.coe_add]; congr 1
    rw [mul_add, Finset.mul_sum]; congr 1
    exact Finset.sum_congr rfl fun k _ => by ring

/-- Dividing the weighted sum by the sum leaves the weighted mean: the scale cancels. -/
theorem rowOK_div {Z : ℝ} {Y : Fin 128 → ℝ} {M L A : Fin 128 → EReal} (h : RowOK Z Y M L A) (hZ : 0 < Z) (c : Fin 128) :
    Ideal.div (A c) (L c) = ((Y c / Z : ℝ) : EReal) := by
  obtain ⟨μ, hM⟩ := h
  have hp : (0 : ℝ) < Real.rpow 2 (-μ) := Real.rpow_pos_of_pos (by norm_num) _
  rw [(hM c).2.1, (hM c).2.2, Ideal.div_coe (mul_pos hp hZ).ne', ← EReal.coe_mul]
  congr 1
  field_simp

end Cert.Flash

end
-- ==== Proof.Rows.lean ====
/-
The running arrays of the kernel - maximum, sum and weighted sum - hold 2048 rows, written as eight blocks of 256 rows.
This file states what it means for the three arrays to hold the state of the online softmax, and that eight new
blocks, each right at its rows, give the right arrays.
-/
module
public import proofs.«01_k».proof.Proof.Gen.KernelIdeal
public import proofs.«01_k».proof.Proof.RowStep
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- Row `r` of the block `b` of 256 rows, among the 2048 rows. -/
def rowAt (b : Fin 8) (r : Fin 256) : Fin 2048 := ⟨256 * b.val + r.val, by omega⟩

/-- Every row is a row of one of the eight blocks. -/
theorem rowAt_surj (ρ : Fin 2048) : ∃ b r, rowAt b r = ρ :=
  ⟨⟨ρ.val / 256, by omega⟩, ⟨ρ.val % 256, Nat.mod_lt _ (by norm_num)⟩, Fin.ext (Nat.div_add_mod _ _)⟩

theorem blk_inb (b : Fin 8) : ∀ a, (![256 * b.val, 0] : Fin 2 → ℕ) a + S256x128.size a ≤ S2048x128.size a :=
  Fin.forall_fin_two.mpr ⟨by show 256 * b.val + 256 ≤ 2048; omega, by show 0 + 128 ≤ 128; omega⟩

/-- Block `b` of an array of 2048 rows, as the kernel loads it. -/
def rdBlk {sp : Space} {e : EltTy} (m : Memref sig .tc sp S2048x128 e) (f : m.view.ty.Contents (Elt Ideal)) (b : Fin 8) :
    S256x128.Idx → Elt Ideal e :=
  View.readAt (Elt Ideal) m.view (Rect.unit (s := S2048x128) ![256 * b.val, 0] S256x128.size (blk_inb b)).toLoadRect f

/-- A loaded block at a row and a column is the array at that row of the block. -/
theorem rdBlk_at {sp : Space} {e : EltTy} (m : Memref sig .tc sp S2048x128 e) (f : m.view.ty.Contents (Elt Ideal))
    (b : Fin 8) (r : Fin 256) (c : Fin 128) :
    rdBlk m f b (ix2 r c) = m.view.read (Elt Ideal) f (ix2 (rowAt b r) c) := by
  unfold rdBlk
  show m.view.read (Elt Ideal) f _ = _
  congr 1
  funext a
  refine Fin.ext ?_
  revert a
  refine Fin.forall_fin_two.mpr ⟨?_, ?_⟩
  · show 256 * b.val + 1 * r.val = 256 * b.val + r.val
    omega
  · show 0 + 1 * c.val = c.val
    omega

/-- The eight blocks of 256 rows as the kernel stores them, the last stored first. -/
def pieces8 (p : Fin 8 → FVec Ideal S256x128 .f32) : List (View.Piece (Elt Ideal) S2048x128 .f32) :=
  [⟨Rect.unit (s := S2048x128) ![256 * (7 : Fin 8).val, 0] S256x128.size (blk_inb 7), shapeCast S256x128 (p 7) shapeCasts_S256x128_S256x128⟩,
   ⟨Rect.unit (s := S2048x128) ![256 * (6 : Fin 8).val, 0] S256x128.size (blk_inb 6), shapeCast S256x128 (p 6) shapeCasts_S256x128_S256x128⟩,
   ⟨Rect.unit (s := S2048x128) ![256 * (5 : Fin 8).val, 0] S256x128.size (blk_inb 5), shapeCast S256x128 (p 5) shapeCasts_S256x128_S256x128⟩,
   ⟨Rect.unit (s := S2048x128) ![256 * (4 : Fin 8).val, 0] S256x128.size (blk_inb 4), shapeCast S256x128 (p 4) shapeCasts_S256x128_S256x128⟩,
   ⟨Rect.unit (s := S2048x128) ![256 * (3 : Fin 8).val, 0] S256x128.size (blk_inb 3), shapeCast S256x128 (p 3) shapeCasts_S256x128_S256x128⟩,
   ⟨Rect.unit (s := S2048x128) ![256 * (2 : Fin 8).val, 0] S256x128.size (blk_inb 2), shapeCast S256x128 (p 2) shapeCasts_S256x128_S256x128⟩,
   ⟨Rect.unit (s := S2048x128) ![256 * (1 : Fin 8).val, 0] S256x128.size (blk_inb 1), shapeCast S256x128 (p 1) shapeCasts_S256x128_S256x128⟩,
   ⟨Rect.unit (s := S2048x128) ![256 * (0 : Fin 8).val, 0] S256x128.size (blk_inb 0), shapeCast S256x128 (p 0) shapeCasts_S256x128_S256x128⟩]

/-- One stored block over earlier ones, read at a row: the block itself at its own rows, the earlier contents elsewhere. -/
theorem read_blk (m : Memref sig .tc .vmem S2048x128 .f32) (f : m.view.ty.Contents (Elt Ideal)) (b' b : Fin 8)
    (p : FVec Ideal S256x128 .f32) (L : List (View.Piece (Elt Ideal) S2048x128 .f32)) (r : Fin 256) (c : Fin 128) :
    m.view.read (Elt Ideal) (m.view.writes (Elt Ideal) f
        (⟨Rect.unit (s := S2048x128) ![256 * b'.val, 0] S256x128.size (blk_inb b'), shapeCast S256x128 p shapeCasts_S256x128_S256x128⟩ :: L))
        (ix2 (rowAt b r) c)
      = if b = b' then p (ix2 r c) else m.view.read (Elt Ideal) (m.view.writes (Elt Ideal) f L) (ix2 (rowAt b r) c) := by
  rw [shapeCast_self]
  split
  · next h =>
    subst h
    exact View.read_writes_cons_rows_of_mem m.view f (blk_inb b) p L (ix2 (rowAt b r) c) (ix2 r c) rfl rfl rfl
  · next h =>
    have hb : b.val ≠ b'.val := fun e => h (Fin.ext e)
    refine View.read_writes_cons_unit_of_not_mem m.view f (blk_inb b') p L (ix2 (rowAt b r) c) rfl (0 : Fin 2) ?_
    show 256 * b.val + r.val < 256 * b'.val ∨ 256 * b'.val + 256 ≤ 256 * b.val + r.val
    omega

/-- The eight blocks read back. -/
theorem read_pieces8 (m : Memref sig .tc .vmem S2048x128 .f32) (f : m.view.ty.Contents (Elt Ideal))
    (p : Fin 8 → FVec Ideal S256x128 .f32) (b : Fin 8) (r : Fin 256) (c : Fin 128) :
    m.view.read (Elt Ideal) (m.view.writes (Elt Ideal) f (pieces8 p)) (ix2 (rowAt b r) c) = p b (ix2 r c) := by
  unfold pieces8
  rw [read_blk, read_blk, read_blk, read_blk, read_blk, read_blk, read_blk, read_blk]
  fin_cases b <;> rfl

/-- The three arrays hold, at every row, the running maximum, sum and weighted sum of the weights `Z` and `Y`. -/
def State (m14 m15 m16 : Memref sig .tc .vmem S2048x128 .f32) (f14 : m14.view.ty.Contents (Elt Ideal))
    (f15 : m15.view.ty.Contents (Elt Ideal)) (f16 : m16.view.ty.Contents (Elt Ideal)) (Z : Fin 2048 → ℝ) (Y : Fin 2048 → Fin 128 → ℝ) : Prop :=
  ∀ ρ, RowOK (Z ρ) (Y ρ) (fun c => m14.view.read (Elt Ideal) f14 (ix2 ρ c)) (fun c => m15.view.read (Elt Ideal) f15 (ix2 ρ c))
    (fun c => m16.view.read (Elt Ideal) f16 (ix2 ρ c))

/-- The state at the rows of a block, in terms of the loaded blocks. -/
theorem State.blk {m14 m15 m16 : Memref sig .tc .vmem S2048x128 .f32} {f14 : m14.view.ty.Contents (Elt Ideal)}
    {f15 : m15.view.ty.Contents (Elt Ideal)} {f16 : m16.view.ty.Contents (Elt Ideal)} {Z : Fin 2048 → ℝ} {Y : Fin 2048 → Fin 128 → ℝ}
    (h : State m14 m15 m16 f14 f15 f16 Z Y) (b : Fin 8) (r : Fin 256) :
    RowOK (Z (rowAt b r)) (Y (rowAt b r)) (fun c => rdBlk m14 f14 b (ix2 r c)) (fun c => rdBlk m15 f15 b (ix2 r c))
      (fun c => rdBlk m16 f16 b (ix2 r c)) := by
  have := h (rowAt b r)
  simpa only [rdBlk_at] using this

/-- Eight new blocks, each right at its rows, give the state. -/
theorem State.of_blks {m14 m15 m16 : Memref sig .tc .vmem S2048x128 .f32} {f14 : m14.view.ty.Contents (Elt Ideal)}
    {f15 : m15.view.ty.Contents (Elt Ideal)} {f16 : m16.view.ty.Contents (Elt Ideal)} {Z : Fin 2048 → ℝ} {Y : Fin 2048 → Fin 128 → ℝ}
    (p q a : Fin 8 → FVec Ideal S256x128 .f32)
    (h : ∀ b r, RowOK (Z (rowAt b r)) (Y (rowAt b r)) (fun c => p b (ix2 r c)) (fun c => q b (ix2 r c)) (fun c => a b (ix2 r c))) :
    State m14 m15 m16 (m14.view.writes (Elt Ideal) f14 (pieces8 p)) (m15.view.writes (Elt Ideal) f15 (pieces8 q))
      (m16.view.writes (Elt Ideal) f16 (pieces8 a)) Z Y := by
  intro ρ
  obtain ⟨b, r, rfl⟩ := rowAt_surj ρ
  simp only [read_pieces8]
  exact h b r

end Cert.Flash

end
-- ==== Proof.Consts.lean ====
/- The numbers the programs write, at the extended reals. -/
module

public import Idealize.ShloMosaic.PureOps.Ideal

@[expose] public section

noncomputable section

namespace Cert.Flash

open Idealize.ShloMosaic

/-- Minus infinity. -/
theorem ofBits_neg_inf : Ideal.ofBits FTy.f32 0xFF800000#32 = ⊥ := by
  simp [Ideal.ofBits, Ideal.ieee]

/-- Plus infinity. -/
theorem ofBits_inf : Ideal.ofBits FTy.f32 0x7F800000#32 = ⊤ := by
  simp [Ideal.ofBits, Ideal.ieee]

/-- The maximum's first value is finite. -/
theorem ofBits_floor : ∃ μ : ℝ, Ideal.ofBits FTy.f32 0xF149F2CA#32 = (μ : EReal) := by
  simp only [Ideal.ofBits, Ideal.ieee]
  rw [if_neg (by decide), if_neg (by decide)]
  exact ⟨_, rfl⟩

end Cert.Flash

end
-- ==== Proof.Block.lean ====
/- One sub-block of 256 rows against `w` keys: the payloads, and what they leave in each of its rows. -/
module

public import proofs.«01_k».proof.Proof.Gen.KernelIdeal.Skeleton
public import proofs.«01_k».proof.Proof.Gen.KernelIdeal
public import proofs.«01_k».proof.Proof.RowStep
public import proofs.«01_k».proof.Proof.Consts
public import Idealize.ShloMosaic.Lib.Pointwise
public import Idealize.ShloMosaic.PureOps.Ideal

@[expose] public section

set_option maxRecDepth 16384

noncomputable section

namespace Cert.Flash

open Idealize.ShloMosaic Idealize.ShloMosaic.Pointwise
open Cert.KernelIdeal Cert.KernelIdeal.Gen

/-! ## 256 keys -/

/-- The new maximum of every row. -/
def max256 (m : FVec Ideal S256x128 .f32) (s : FVec Ideal S256x256 .f32) : FVec Ideal S256x128 .f32 :=
  maximumf m (broadcastTo S256x128 (shapeCast S256x1 (multiReduction .maximumf [1] S256 s 0xFF800000#32 reduces_S256x256_S256 (.inl rfl) rfl) shapeCasts_S256_S256x1) broadcasts_S256x1_S256x128)

/-- The scores less the new maximum, two to that. -/
def exp256 (m : FVec Ideal S256x128 .f32) (s : FVec Ideal S256x256 .f32) : FVec Ideal S256x256 .f32 :=
  exp2 (subf s (concatenate S256x256 1 [⟨S256x128, max256 m s⟩, ⟨S256x128, max256 m s⟩] concatenates_S256x128_S256x128_S256x256_d1))

/-- The new sum of every row. -/
def sum256 (m l : FVec Ideal S256x128 .f32) (s : FVec Ideal S256x256 .f32) : FVec Ideal S256x128 .f32 :=
  addf (mulf (exp2 (subf m (max256 m s))) l) (broadcastTo S256x128 (shapeCast S256x1 (multiReduction .add [1] S256 (exp256 m s) 0x00000000#32 reduces_S256x256_S256 (.inl rfl) rfl) shapeCasts_S256_S256x1) broadcasts_S256x1_S256x128)

/-- The new weighted sums of every row. -/
def acc256 (m a : FVec Ideal S256x128 .f32) (s : FVec Ideal S256x256 .f32) (v : FVec Ideal S256x128 .bf16) : FVec Ideal S256x128 .f32 :=
  addf (mulf (exp2 (subf m (max256 m s))) a) (matmul dot_S256x256_S256x128_S256x128_1_0_0_1_n_n none (truncf .bf16 (exp256 m s) bitsLt_bf16_f32) v (constant S256x128 .f32 0x00000000#32))

theorem max256_at (m : FVec Ideal S256x128 .f32) (s : FVec Ideal S256x256 .f32) (r : Fin 256) (c : Fin 128) :
    max256 m s (ix2 r c) = max (m (ix2 r c)) (Finset.univ.fold max ⊥ fun x : Fin 256 => s (ix2 r x)) := by
  rw [← ofBits_neg_inf]
  pointwise [max256]

theorem exp256_at (m : FVec Ideal S256x128 .f32) (s : FVec Ideal S256x256 .f32) (r : Fin 256) (k : Fin 256) :
    ∃ κ : Fin 128, exp256 m s (ix2 r k) = Ideal.exp2 (s (ix2 r k) - max256 m s (ix2 r κ)) := by
  unfold exp256
  generalize max256 m s = X
  pointwise
  split_ifs <;> exact ⟨_, rfl⟩

theorem sum256_at (m l : FVec Ideal S256x128 .f32) (s : FVec Ideal S256x256 .f32) (r : Fin 256) (c : Fin 128) :
    sum256 m l s (ix2 r c) = Ideal.exp2 (m (ix2 r c) - max256 m s (ix2 r c)) * l (ix2 r c) + ∑ x : Fin 256, exp256 m s (ix2 r x) := by
  unfold sum256
  generalize max256 m s = X
  generalize exp256 m s = E
  pointwise
  rfl

theorem acc256_at (m a : FVec Ideal S256x128 .f32) (s : FVec Ideal S256x256 .f32) (v : FVec Ideal S256x128 .bf16) (r : Fin 256) (c : Fin 128) :
    acc256 m a s v (ix2 r c) = Ideal.exp2 (m (ix2 r c) - max256 m s (ix2 r c)) * a (ix2 r c)
      + ∑ x : Fin 256, exp256 m s (ix2 r x) * v (ix2 x c) := by
  unfold acc256
  generalize max256 m s = X
  generalize exp256 m s = E
  pointwise
  rfl

/-- A row that holds the sums of some keys holds, after 256 more, the sums of all of them. -/
theorem step256 (m l a : FVec Ideal S256x128 .f32) (s : FVec Ideal S256x256 .f32) (v : FVec Ideal S256x128 .bf16)
    (r : Fin 256) {Z : ℝ} {Y : Fin 128 → ℝ} (h : RowOK Z Y (fun c => m (ix2 r c)) (fun c => l (ix2 r c)) (fun c => a (ix2 r c)))
    (W : Fin 256 → ℝ) (hs : ∀ k, IsLog2 (s (ix2 r k)) (W k)) (v' : Fin 256 → Fin 128 → ℝ) (hv : ∀ k c, v (ix2 k c) = (v' k c : EReal)) :
    RowOK (Z + ∑ k, W k) (fun c => Y c + ∑ k, W k * v' k c) (fun c => max256 m s (ix2 r c)) (fun c => sum256 m l s (ix2 r c))
      (fun c => acc256 m a s v (ix2 r c)) := by
  choose κ hκ using exp256_at m s r
  have := rowOK_step h (fun k => s (ix2 r k)) W hs v' κ ⊥ rfl
  simpa only [max256_at, sum256_at, acc256_at, hκ, hv] using this

/-! ## 512 keys -/

/-- The new maximum of every row. -/
def max512 (m : FVec Ideal S256x128 .f32) (s : FVec Ideal S256x512 .f32) : FVec Ideal S256x128 .f32 :=
  maximumf m (broadcastTo S256x128 (shapeCast S256x1 (multiReduction .maximumf [1] S256 s 0xFF800000#32 reduces_S256x512_S256 (.inl rfl) rfl) shapeCasts_S256_S256x1) broadcasts_S256x1_S256x128)

/-- The scores less the new maximum, two to that. -/
def exp512 (m : FVec Ideal S256x128 .f32) (s : FVec Ideal S256x512 .f32) : FVec Ideal S256x512 .f32 :=
  exp2 (subf s (concatenate S256x512 1 [⟨S256x128, max512 m s⟩, ⟨S256x128, max512 m s⟩, ⟨S256x128, max512 m s⟩, ⟨S256x128, max512 m s⟩] concatenates_S256x128_S256x128_S256x128_S256x128_S256x512_d1))

/-- The new sum of every row. -/
def sum512 (m l : FVec Ideal S256x128 .f32) (s : FVec Ideal S256x512 .f32) : FVec Ideal S256x128 .f32 :=
  addf (mulf (exp2 (subf m (max512 m s))) l) (broadcastTo S256x128 (shapeCast S256x1 (multiReduction .add [1] S256 (exp512 m s) 0x00000000#32 reduces_S256x512_S256 (.inl rfl) rfl) shapeCasts_S256_S256x1) broadcasts_S256x1_S256x128)

/-- The new weighted sums of every row. -/
def acc512 (m a : FVec Ideal S256x128 .f32) (s : FVec Ideal S256x512 .f32) (v : FVec Ideal S512x128 .bf16) : FVec Ideal S256x128 .f32 :=
  addf (mulf (exp2 (subf m (max512 m s))) a) (matmul dot_S256x512_S512x128_S256x128_1_0_0_1_n_n none (truncf .bf16 (exp512 m s) bitsLt_bf16_f32) v (constant S256x128 .f32 0x00000000#32))

theorem max512_at (m : FVec Ideal S256x128 .f32) (s : FVec Ideal S256x512 .f32) (r : Fin 256) (c : Fin 128) :
    max512 m s (ix2 r c) = max (m (ix2 r c)) (Finset.univ.fold max ⊥ fun x : Fin 512 => s (ix2 r x)) := by
  rw [← ofBits_neg_inf]
  pointwise [max512]

theorem exp512_at (m : FVec Ideal S256x128 .f32) (s : FVec Ideal S256x512 .f32) (r : Fin 256) (k : Fin 512) :
    ∃ κ : Fin 128, exp512 m s (ix2 r k) = Ideal.exp2 (s (ix2 r k) - max512 m s (ix2 r κ)) := by
  unfold exp512
  generalize max512 m s = X
  pointwise
  split_ifs <;> exact ⟨_, rfl⟩

theorem sum512_at (m l : FVec Ideal S256x128 .f32) (s : FVec Ideal S256x512 .f32) (r : Fin 256) (c : Fin 128) :
    sum512 m l s (ix2 r c) = Ideal.exp2 (m (ix2 r c) - max512 m s (ix2 r c)) * l (ix2 r c) + ∑ x : Fin 512, exp512 m s (ix2 r x) := by
  unfold sum512
  generalize max512 m s = X
  generalize exp512 m s = E
  pointwise
  rfl

theorem acc512_at (m a : FVec Ideal S256x128 .f32) (s : FVec Ideal S256x512 .f32) (v : FVec Ideal S512x128 .bf16) (r : Fin 256) (c : Fin 128) :
    acc512 m a s v (ix2 r c) = Ideal.exp2 (m (ix2 r c) - max512 m s (ix2 r c)) * a (ix2 r c)
      + ∑ x : Fin 512, exp512 m s (ix2 r x) * v (ix2 x c) := by
  unfold acc512
  generalize max512 m s = X
  generalize exp512 m s = E
  pointwise
  rfl

/-- A row that holds the sums of some keys holds, after 512 more, the sums of all of them. -/
theorem step512 (m l a : FVec Ideal S256x128 .f32) (s : FVec Ideal S256x512 .f32) (v : FVec Ideal S512x128 .bf16)
    (r : Fin 256) {Z : ℝ} {Y : Fin 128 → ℝ} (h : RowOK Z Y (fun c => m (ix2 r c)) (fun c => l (ix2 r c)) (fun c => a (ix2 r c)))
    (W : Fin 512 → ℝ) (hs : ∀ k, IsLog2 (s (ix2 r k)) (W k)) (v' : Fin 512 → Fin 128 → ℝ) (hv : ∀ k c, v (ix2 k c) = (v' k c : EReal)) :
    RowOK (Z + ∑ k, W k) (fun c => Y c + ∑ k, W k * v' k c) (fun c => max512 m s (ix2 r c)) (fun c => sum512 m l s (ix2 r c))
      (fun c => acc512 m a s v (ix2 r c)) := by
  choose κ hκ using exp512_at m s r
  have := rowOK_step h (fun k => s (ix2 r k)) W hs v' κ ⊥ rfl
  simpa only [max512_at, sum512_at, acc512_at, hκ, hv] using this

/-! ## 768 keys -/

/-- The new maximum of every row. -/
def max768 (m : FVec Ideal S256x128 .f32) (s : FVec Ideal S256x768 .f32) : FVec Ideal S256x128 .f32 :=
  maximumf m (broadcastTo S256x128 (shapeCast S256x1 (multiReduction .maximumf [1] S256 s 0xFF800000#32 reduces_S256x768_S256 (.inl rfl) rfl) shapeCasts_S256_S256x1) broadcasts_S256x1_S256x128)

/-- The scores less the new maximum, two to that. -/
def exp768 (m : FVec Ideal S256x128 .f32) (s : FVec Ideal S256x768 .f32) : FVec Ideal S256x768 .f32 :=
  exp2 (subf s (concatenate S256x768 1 [⟨S256x128, max768 m s⟩, ⟨S256x128, max768 m s⟩, ⟨S256x128, max768 m s⟩, ⟨S256x128, max768 m s⟩, ⟨S256x128, max768 m s⟩, ⟨S256x128, max768 m s⟩] concatenates_S256x128_S256x128_S256x128_S256x128_S256x128_S256x128_S256x768_d1))

/-- The new sum of every row. -/
def sum768 (m l : FVec Ideal S256x128 .f32) (s : FVec Ideal S256x768 .f32) : FVec Ideal S256x128 .f32 :=
  addf (mulf (exp2 (subf m (max768 m s))) l) (broadcastTo S256x128 (shapeCast S256x1 (multiReduction .add [1] S256 (exp768 m s) 0x00000000#32 reduces_S256x768_S256 (.inl rfl) rfl) shapeCasts_S256_S256x1) broadcasts_S256x1_S256x128)

/-- The new weighted sums of every row. -/
def acc768 (m a : FVec Ideal S256x128 .f32) (s : FVec Ideal S256x768 .f32) (v : FVec Ideal S768x128 .bf16) : FVec Ideal S256x128 .f32 :=
  addf (mulf (exp2 (subf m (max768 m s))) a) (matmul dot_S256x768_S768x128_S256x128_1_0_0_1_n_n none (truncf .bf16 (exp768 m s) bitsLt_bf16_f32) v (constant S256x128 .f32 0x00000000#32))

theorem max768_at (m : FVec Ideal S256x128 .f32) (s : FVec Ideal S256x768 .f32) (r : Fin 256) (c : Fin 128) :
    max768 m s (ix2 r c) = max (m (ix2 r c)) (Finset.univ.fold max ⊥ fun x : Fin 768 => s (ix2 r x)) := by
  rw [← ofBits_neg_inf]
  pointwise [max768]

theorem exp768_at (m : FVec Ideal S256x128 .f32) (s : FVec Ideal S256x768 .f32) (r : Fin 256) (k : Fin 768) :
    ∃ κ : Fin 128, exp768 m s (ix2 r k) = Ideal.exp2 (s (ix2 r k) - max768 m s (ix2 r κ)) := by
  unfold exp768
  generalize max768 m s = X
  pointwise
  split_ifs <;> exact ⟨_, rfl⟩

theorem sum768_at (m l : FVec Ideal S256x128 .f32) (s : FVec Ideal S256x768 .f32) (r : Fin 256) (c : Fin 128) :
    sum768 m l s (ix2 r c) = Ideal.exp2 (m (ix2 r c) - max768 m s (ix2 r c)) * l (ix2 r c) + ∑ x : Fin 768, exp768 m s (ix2 r x) := by
  unfold sum768
  generalize max768 m s = X
  generalize exp768 m s = E
  pointwise
  rfl

theorem acc768_at (m a : FVec Ideal S256x128 .f32) (s : FVec Ideal S256x768 .f32) (v : FVec Ideal S768x128 .bf16) (r : Fin 256) (c : Fin 128) :
    acc768 m a s v (ix2 r c) = Ideal.exp2 (m (ix2 r c) - max768 m s (ix2 r c)) * a (ix2 r c)
      + ∑ x : Fin 768, exp768 m s (ix2 r x) * v (ix2 x c) := by
  unfold acc768
  generalize max768 m s = X
  generalize exp768 m s = E
  pointwise
  rfl

/-- A row that holds the sums of some keys holds, after 768 more, the sums of all of them. -/
theorem step768 (m l a : FVec Ideal S256x128 .f32) (s : FVec Ideal S256x768 .f32) (v : FVec Ideal S768x128 .bf16)
    (r : Fin 256) {Z : ℝ} {Y : Fin 128 → ℝ} (h : RowOK Z Y (fun c => m (ix2 r c)) (fun c => l (ix2 r c)) (fun c => a (ix2 r c)))
    (W : Fin 768 → ℝ) (hs : ∀ k, IsLog2 (s (ix2 r k)) (W k)) (v' : Fin 768 → Fin 128 → ℝ) (hv : ∀ k c, v (ix2 k c) = (v' k c : EReal)) :
    RowOK (Z + ∑ k, W k) (fun c => Y c + ∑ k, W k * v' k c) (fun c => max768 m s (ix2 r c)) (fun c => sum768 m l s (ix2 r c))
      (fun c => acc768 m a s v (ix2 r c)) := by
  choose κ hκ using exp768_at m s r
  have := rowOK_step h (fun k => s (ix2 r k)) W hs v' κ ⊥ rfl
  simpa only [max768_at, sum768_at, acc768_at, hκ, hv] using this

/-! ## 1024 keys -/

/-- The new maximum of every row. -/
def max1024 (m : FVec Ideal S256x128 .f32) (s : FVec Ideal S256x1024 .f32) : FVec Ideal S256x128 .f32 :=
  maximumf m (broadcastTo S256x128 (shapeCast S256x1 (multiReduction .maximumf [1] S256 s 0xFF800000#32 reduces_S256x1024_S256 (.inl rfl) rfl) shapeCasts_S256_S256x1) broadcasts_S256x1_S256x128)

/-- The scores less the new maximum, two to that. -/
def exp1024 (m : FVec Ideal S256x128 .f32) (s : FVec Ideal S256x1024 .f32) : FVec Ideal S256x1024 .f32 :=
  exp2 (subf s (concatenate S256x1024 1 [⟨S256x128, max1024 m s⟩, ⟨S256x128, max1024 m s⟩, ⟨S256x128, max1024 m s⟩, ⟨S256x128, max1024 m s⟩, ⟨S256x128, max1024 m s⟩, ⟨S256x128, max1024 m s⟩, ⟨S256x128, max1024 m s⟩, ⟨S256x128, max1024 m s⟩] concatenates_S256x128_S256x128_S256x128_S256x128_S256x128_S256x128_S256x128_S256x128_S256x1024_d1))

/-- The new sum of every row. -/
def sum1024 (m l : FVec Ideal S256x128 .f32) (s : FVec Ideal S256x1024 .f32) : FVec Ideal S256x128 .f32 :=
  addf (mulf (exp2 (subf m (max1024 m s))) l) (broadcastTo S256x128 (shapeCast S256x1 (multiReduction .add [1] S256 (exp1024 m s) 0x00000000#32 reduces_S256x1024_S256 (.inl rfl) rfl) shapeCasts_S256_S256x1) broadcasts_S256x1_S256x128)

/-- The new weighted sums of every row. -/
def acc1024 (m a : FVec Ideal S256x128 .f32) (s : FVec Ideal S256x1024 .f32) (v : FVec Ideal S1024x128 .bf16) : FVec Ideal S256x128 .f32 :=
  addf (mulf (exp2 (subf m (max1024 m s))) a) (matmul dot_S256x1024_S1024x128_S256x128_1_0_0_1_n_n none (truncf .bf16 (exp1024 m s) bitsLt_bf16_f32) v (constant S256x128 .f32 0x00000000#32))

theorem max1024_at (m : FVec Ideal S256x128 .f32) (s : FVec Ideal S256x1024 .f32) (r : Fin 256) (c : Fin 128) :
    max1024 m s (ix2 r c) = max (m (ix2 r c)) (Finset.univ.fold max ⊥ fun x : Fin 1024 => s (ix2 r x)) := by
  rw [← ofBits_neg_inf]
  pointwise [max1024]

theorem exp1024_at (m : FVec Ideal S256x128 .f32) (s : FVec Ideal S256x1024 .f32) (r : Fin 256) (k : Fin 1024) :
    ∃ κ : Fin 128, exp1024 m s (ix2 r k) = Ideal.exp2 (s (ix2 r k) - max1024 m s (ix2 r κ)) := by
  unfold exp1024
  generalize max1024 m s = X
  pointwise
  split_ifs <;> exact ⟨_, rfl⟩

theorem sum1024_at (m l : FVec Ideal S256x128 .f32) (s : FVec Ideal S256x1024 .f32) (r : Fin 256) (c : Fin 128) :
    sum1024 m l s (ix2 r c) = Ideal.exp2 (m (ix2 r c) - max1024 m s (ix2 r c)) * l (ix2 r c) + ∑ x : Fin 1024, exp1024 m s (ix2 r x) := by
  unfold sum1024
  generalize max1024 m s = X
  generalize exp1024 m s = E
  pointwise
  rfl

theorem acc1024_at (m a : FVec Ideal S256x128 .f32) (s : FVec Ideal S256x1024 .f32) (v : FVec Ideal S1024x128 .bf16) (r : Fin 256) (c : Fin 128) :
    acc1024 m a s v (ix2 r c) = Ideal.exp2 (m (ix2 r c) - max1024 m s (ix2 r c)) * a (ix2 r c)
      + ∑ x : Fin 1024, exp1024 m s (ix2 r x) * v (ix2 x c) := by
  unfold acc1024
  generalize max1024 m s = X
  generalize exp1024 m s = E
  pointwise
  rfl

/-- A row that holds the sums of some keys holds, after 1024 more, the sums of all of them. -/
theorem step1024 (m l a : FVec Ideal S256x128 .f32) (s : FVec Ideal S256x1024 .f32) (v : FVec Ideal S1024x128 .bf16)
    (r : Fin 256) {Z : ℝ} {Y : Fin 128 → ℝ} (h : RowOK Z Y (fun c => m (ix2 r c)) (fun c => l (ix2 r c)) (fun c => a (ix2 r c)))
    (W : Fin 1024 → ℝ) (hs : ∀ k, IsLog2 (s (ix2 r k)) (W k)) (v' : Fin 1024 → Fin 128 → ℝ) (hv : ∀ k c, v (ix2 k c) = (v' k c : EReal)) :
    RowOK (Z + ∑ k, W k) (fun c => Y c + ∑ k, W k * v' k c) (fun c => max1024 m s (ix2 r c)) (fun c => sum1024 m l s (ix2 r c))
      (fun c => acc1024 m a s v (ix2 r c)) := by
  choose κ hκ using exp1024_at m s r
  have := rowOK_step h (fun k => s (ix2 r k)) W hs v' κ ⊥ rfl
  simpa only [max1024_at, sum1024_at, acc1024_at, hκ, hv] using this

end Cert.Flash

end
-- ==== Proof.Trip.lean ====
/- One trip of the kernel's loop over the far tiles: it takes the state to the state with 1024 more keys. -/
module
public import proofs.«01_k».proof.Proof.Gen.KernelIdeal
public import proofs.«01_k».proof.Proof.RowStep
public import proofs.«01_k».proof.Proof.Rows
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The scores of a block against 1024 keys. -/
def score1024 (q : FVec Ideal S256x128 .bf16) (t : FVec Ideal S1024x128 .bf16) : FVec Ideal S256x1024 .f32 :=
  matmul dot_S256x128_S1024x128_S256x1024_1_1_0_0_n_n none q t (constant S256x1024 .f32 0x00000000#32)

/-- A score is the inner product of the query's row and the key's row. -/
theorem score1024_at (q : FVec Ideal S256x128 .bf16) (t : FVec Ideal S1024x128 .bf16) (r : Fin 256) (k : Fin 1024) :
    score1024 q t (ix2 r k) = ∑ x : Fin 128, (q (ix2 r x) : EReal) * t (ix2 k x) := by
  pointwise [score1024]

/-- The 1024 keys that a trip loads. -/
abbrev keysT (arg4 : Memref sig .tc .vmem S16384x128 .bf16) (X : BufTy.Contents (Elt Ideal) arg4.view.ty) (i : grid0.Coords)
    (k : Fin (k0_t1_loop i).trips) : FVec Ideal S1024x128 .bf16 :=
  View.readAt (Elt Ideal) arg4.view (Rect.unit (s := S16384x128) (k0_off1 i k) S1024x128.size (k0_off1_inb i k)).toLoadRect X

theorem trip_pieces (𝒱 : Variants) (c : Dev nD) (bd : Option 𝒱.V) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg2 : BitVec 32) (v31 : BitVec 32) (X_arg4 : BufTy.Contents (Elt Ideal) arg4.view.ty) (X_arg5 : BufTy.Contents (Elt Ideal) arg5.view.ty) (X_arg13 : BufTy.Contents (Elt Ideal) arg13.view.ty) (k : Fin (k0_t1_loop i).trips)
    (f14 : BufTy.Contents (Elt Ideal) arg14.view.ty) (f15 : BufTy.Contents (Elt Ideal) arg15.view.ty) (f16 : BufTy.Contents (Elt Ideal) arg16.view.ty) :
    tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 k f14 f15 f16
      = (pieces8 (fun b => max1024 (rdBlk arg14 f14 b) (score1024 (rdBlk arg13 X_arg13 b) (keysT arg4 X_arg4 i k))),
         pieces8 (fun b => sum1024 (rdBlk arg14 f14 b) (rdBlk arg15 f15 b) (score1024 (rdBlk arg13 X_arg13 b) (keysT arg4 X_arg4 i k))),
         pieces8 (fun b => acc1024 (rdBlk arg14 f14 b) (rdBlk arg16 f16 b) (score1024 (rdBlk arg13 X_arg13 b) (keysT arg4 X_arg4 i k)) (keysT arg5 X_arg5 i k))) := by
  unfold tripL_k0_t1 trip_k0_t1
  rfl

/-- A trip adds the weights of its 1024 keys to the state. -/
theorem trip_state (𝒱 : Variants) (c : Dev nD) (bd : Option 𝒱.V) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg2 : BitVec 32) (v31 : BitVec 32) (X_arg4 : BufTy.Contents (Elt Ideal) arg4.view.ty) (X_arg5 : BufTy.Contents (Elt Ideal) arg5.view.ty) (X_arg13 : BufTy.Contents (Elt Ideal) arg13.view.ty) (k : Fin (k0_t1_loop i).trips)
    (f14 : BufTy.Contents (Elt Ideal) arg14.view.ty) (f15 : BufTy.Contents (Elt Ideal) arg15.view.ty) (f16 : BufTy.Contents (Elt Ideal) arg16.view.ty)
    {Z : Fin 2048 → ℝ} {Y : Fin 2048 → Fin 128 → ℝ} (h : State arg14 arg15 arg16 f14 f15 f16 Z Y)
    (W : Fin 2048 → Fin 1024 → ℝ) (V : Fin 1024 → Fin 128 → ℝ)
    (hs : ∀ ρ j, IsLog2 (∑ x : Fin 128, (arg13.view.read (Elt Ideal) X_arg13 (ix2 ρ x) : EReal) * keysT arg4 X_arg4 i k (ix2 j x)) (W ρ j))
    (hv : ∀ j c, keysT arg5 X_arg5 i k (ix2 j c) = (V j c : EReal)) :
    State arg14 arg15 arg16
      (arg14.view.writes (Elt Ideal) f14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 k f14 f15 f16).1)
      (arg15.view.writes (Elt Ideal) f15 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 k f14 f15 f16).2.1)
      (arg16.view.writes (Elt Ideal) f16 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 k f14 f15 f16).2.2)
      (fun ρ => Z ρ + ∑ j, W ρ j) (fun ρ c => Y ρ c + ∑ j, W ρ j * V j c) := by
  rw [trip_pieces]
  dsimp only
  refine State.of_blks _ _ _ ?_
  intro b r
  refine step1024 _ _ _ _ _ r (h.blk b r) (W (rowAt b r)) (fun j => ?_) V hv
  rw [score1024_at]
  simpa only [rdBlk_at] using hs (rowAt b r) j

end Cert.Flash

end
-- ==== Proof.Loop.lean ====
/- The kernel's loop over the far tiles: all of its trips together add the weights of all the far keys to the state. -/
module
public import proofs.«01_k».proof.Proof.Gen.KernelIdeal
public import proofs.«01_k».proof.Proof.RowStep
public import proofs.«01_k».proof.Proof.Trip
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The loop over the far tiles runs over the tiles before the last but one. -/
theorem t1_trips : ∀ i : grid0.Coords, (k0_t1_loop i).trips = (i 2).val - 1 := by
  decide +kernel

/-- The loop for what the unrolled loop leaves over has no trips. -/
theorem t2_trips (i : grid0.Coords) : (k0_t2_loop i).trips = 0 := Nat.le_zero.mp (k0_t2_abs i).2.1

/-- A trip loads the keys of its tile. -/
theorem k0_off1_eq (i : grid0.Coords) (k : Fin (k0_t1_loop i).trips) : k0_off1 i k = ![1024 * k.val, 0] := by
  have hk : k.val < 16 := lt_of_lt_of_le k.isLt (le_trans (k0_t1_abs i).2.1 (by norm_num))
  have key : ∀ n : Fin 16, (Scalar.indexCast (Scalar.muli (Scf.iv 0#32 1#32 n) 1024#32) : Index).toNat = 1024 * n.val := by
    decide +kernel
  unfold k0_off1
  exact congrArg (fun t => (![t, 0] : Fin 2 → ℕ)) (key ⟨k.val, hk⟩)

/-- The near tile is the one before the query block's. -/
theorem k0_off3_eq : ∀ i : grid0.Coords, 1 ≤ (i 2).val → k0_off3 i = ![1024 * ((i 2).val - 1), 0] := by
  decide +kernel

/-- Rows `o, o + 1, …` of an array of 16384 rows, as the kernel loads them, at a row and a column. -/
theorem readAt_rows {w : ℕ} {e : EltTy} (m : Memref sig .tc .vmem S16384x128 e) (X : BufTy.Contents (Elt Ideal) m.view.ty) {off : Fin 2 → ℕ} {o : ℕ}
    (ho : off = ![o, 0]) (inb : ∀ a, off a + (⟨2, ![w, 128]⟩ : Shape).size a ≤ S16384x128.size a) (j : Fin w) (c : Fin 128) (hj : o + j.val < 16384) :
    View.readAt (Elt Ideal) m.view (Rect.unit (s := S16384x128) off (⟨2, ![w, 128]⟩ : Shape).size inb).toLoadRect X (ix2 j c)
      = m.view.read (Elt Ideal) X (ix2 ⟨o + j.val, hj⟩ c) := by
  subst ho
  show m.view.read (Elt Ideal) X _ = _
  congr 1
  funext a
  refine Fin.ext ?_
  revert a
  refine Fin.forall_fin_two.mpr ⟨?_, ?_⟩
  · show o + 1 * j.val = o + j.val
    omega
  · show 0 + 1 * c.val = c.val
    omega

/-- A sum over the first `n + w` numbers, the last `w` of them apart. -/
theorem sum_range_add_fin (f : ℕ → ℝ) (n w : ℕ) : ∑ j ∈ Finset.range (n + w), f j = ∑ j ∈ Finset.range n, f j + ∑ j : Fin w, f (n + j.val) := by
  rw [Finset.sum_range_add, Finset.sum_range (fun x => f (n + x))]

/-- After `n` trips the state has grown by the weights of the first `1024 n` keys. -/
theorem loop_state (𝒱 : Variants) (c : Dev nD) (bd : Option 𝒱.V) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg2 : BitVec 32) (v31 : BitVec 32) (X_arg4 : BufTy.Contents (Elt Ideal) arg4.view.ty) (X_arg5 : BufTy.Contents (Elt Ideal) arg5.view.ty) (X_arg13 : BufTy.Contents (Elt Ideal) arg13.view.ty) (G_arg14 : BufTy.Contents (Elt Ideal) arg14.view.ty) (G_arg15 : BufTy.Contents (Elt Ideal) arg15.view.ty) (G_arg16 : BufTy.Contents (Elt Ideal) arg16.view.ty)
    {Z : Fin 2048 → ℝ} {Y : Fin 2048 → Fin 128 → ℝ} (h : State arg14 arg15 arg16 G_arg14 G_arg15 G_arg16 Z Y)
    (W : Fin 2048 → ℕ → ℝ) (V : ℕ → Fin 128 → ℝ)
    (hs : ∀ ρ (j : Fin 16384), j.val < 1024 * (k0_t1_loop i).trips →
      IsLog2 (∑ x : Fin 128, (arg13.view.read (Elt Ideal) X_arg13 (ix2 ρ x) : EReal) * arg4.view.read (Elt Ideal) X_arg4 (ix2 j x)) (W ρ j.val))
    (hv : ∀ (j : Fin 16384) c, arg5.view.read (Elt Ideal) X_arg5 (ix2 j c) = (V j.val c : EReal)) (n : ℕ) (hn : n ≤ (k0_t1_loop i).trips) :
    State arg14 arg15 arg16
      (arg14.view.writes (Elt Ideal) G_arg14 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 G_arg14 G_arg15 G_arg16 n).1)
      (arg15.view.writes (Elt Ideal) G_arg15 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 G_arg14 G_arg15 G_arg16 n).2.1)
      (arg16.view.writes (Elt Ideal) G_arg16 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 G_arg14 G_arg15 G_arg16 n).2.2)
      (fun ρ => Z ρ + ∑ j ∈ Finset.range (1024 * n), W ρ j) (fun ρ c => Y ρ c + ∑ j ∈ Finset.range (1024 * n), W ρ j * V j c) := by
  induction n with
  | zero =>
    rw [pb_k0_t1.eq_1]
    simpa using h
  | succ n ih =>
    have hlt : n < (k0_t1_loop i).trips := hn
    have h14 : (k0_t1_loop i).trips ≤ 14 := (k0_t1_abs i).2.1
    have ih := ih (le_of_lt hlt)
    have e := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 G_arg14 G_arg15 G_arg16 ⟨n, hlt⟩
    dsimp only at e
    rw [e]
    dsimp only
    rw [View.writes_append, View.writes_append, View.writes_append]
    have st := trip_state 𝒱 c bd i arg3 harg3 arg4 harg4 arg5 harg5 arg6 harg6 arg7 harg7 arg8 harg8 arg9 harg9 arg10 harg10 arg11 harg11 arg12 harg12 arg13 harg13 arg14 harg14 arg15 harg15 arg16 harg16 arg2 v31 X_arg4 X_arg5 X_arg13 ⟨n, hlt⟩ _ _ _ ih
      (fun ρ j => W ρ (1024 * n + j.val)) (fun j c => V (1024 * n + j.val) c) (fun ρ j => ?_) (fun j c => ?_)
    · have hz : ∀ f : ℕ → ℝ, ∑ j ∈ Finset.range (1024 * (n + 1)), f j = ∑ j ∈ Finset.range (1024 * n), f j + ∑ j : Fin 1024, f (1024 * n + j.val) := fun f => by
        rw [Nat.mul_add, Nat.mul_one, sum_range_add_fin]
      simp only [hz, ← add_assoc]
      exact st
    · have hj : 1024 * n + j.val < 16384 := by omega
      have := hs ρ ⟨1024 * n + j.val, hj⟩ (by show 1024 * n + j.val < _; omega)
      have ek : ∀ x, keysT arg4 X_arg4 i ⟨n, hlt⟩ (ix2 j x) = arg4.view.read (Elt Ideal) X_arg4 (ix2 ⟨1024 * n + j.val, hj⟩ x) := fun x =>
        readAt_rows arg4 X_arg4 (k0_off1_eq i ⟨n, hlt⟩) _ j x hj
      simpa only [ek] using this
    · have hj : 1024 * n + j.val < 16384 := by omega
      exact (readAt_rows arg5 X_arg5 (k0_off1_eq i ⟨n, hlt⟩) _ j c hj).trans (hv ⟨1024 * n + j.val, hj⟩ c)

end Cert.Flash

end
-- ==== Proof.Score.lean ====
/-
The scores of a block of 256 rows against a tile of keys, and the bias that is added to the columns near the diagonal.
-/
module
public import proofs.«01_k».proof.Proof.Gen.KernelIdeal
public import proofs.«01_k».proof.Proof.RowStep
public import proofs.«01_k».proof.Proof.Trip
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- One over the logarithm of two, by which the kernel multiplies the bias. -/
abbrev lg : EReal := (((Real.log 2)⁻¹ : ℝ) : EReal)

/-- The named constant of the kernel is one over the logarithm of two. -/
theorem named_lg : (Named.named (F := Ideal) κ "log2e" 0x3FB8AA3B#32 : Ideal .f32) = lg :=
  IdealRules.named_const.ideal_named_scalar _ _ _ _ rfl

/-- The scores of a block against 256 keys. -/
def score256 (q : FVec Ideal S256x128 .bf16) (t : FVec Ideal S256x128 .bf16) : FVec Ideal S256x256 .f32 :=
  matmul dot_S256x128_S256x128_S256x256_1_1_0_0_n_n none q t (constant S256x256 .f32 0x00000000#32)

/-- A score is the inner product of the query's row and the key's row. -/
theorem score256_at (q : FVec Ideal S256x128 .bf16) (t : FVec Ideal S256x128 .bf16) (r : Fin 256) (k : Fin 256) :
    score256 q t (ix2 r k) = ∑ x : Fin 128, (q (ix2 r x) : EReal) * t (ix2 k x) := by
  pointwise [score256]

/-- The scores of a block against 512 keys. -/
def score512 (q : FVec Ideal S256x128 .bf16) (t : FVec Ideal S512x128 .bf16) : FVec Ideal S256x512 .f32 :=
  matmul dot_S256x128_S512x128_S256x512_1_1_0_0_n_n none q t (constant S256x512 .f32 0x00000000#32)

/-- A score is the inner product of the query's row and the key's row. -/
theorem score512_at (q : FVec Ideal S256x128 .bf16) (t : FVec Ideal S512x128 .bf16) (r : Fin 256) (k : Fin 512) :
    score512 q t (ix2 r k) = ∑ x : Fin 128, (q (ix2 r x) : EReal) * t (ix2 k x) := by
  pointwise [score512]

/-- The scores of a block against 768 keys. -/
def score768 (q : FVec Ideal S256x128 .bf16) (t : FVec Ideal S768x128 .bf16) : FVec Ideal S256x768 .f32 :=
  matmul dot_S256x128_S768x128_S256x768_1_1_0_0_n_n none q t (constant S256x768 .f32 0x00000000#32)

/-- A score is the inner product of the query's row and the key's row. -/
theorem score768_at (q : FVec Ideal S256x128 .bf16) (t : FVec Ideal S768x128 .bf16) (r : Fin 256) (k : Fin 768) :
    score768 q t (ix2 r k) = ∑ x : Fin 128, (q (ix2 r x) : EReal) * t (ix2 k x) := by
  pointwise [score768]

/-- The scores of the first block of the diagonal tile with the bias added. -/
def bias256 (s : FVec Ideal S256x256 .f32) (tb : FVec Ideal S1x256x256 .f32) : FVec Ideal S256x256 .f32 :=
  addf s (mulf (shapeCast S256x256 tb shapeCasts_S1x256x256_S256x256) (broadcast S256x256 (Named.named (F := Ideal) κ "log2e" 0x3FB8AA3B#32)))

theorem bias256_at (s : FVec Ideal S256x256 .f32) (tb : FVec Ideal S1x256x256 .f32) (r : Fin 256) (T : ℕ → EReal)
    (ht : ∀ n : Fin 256, tb (ix3 (0 : Fin 1) r n) = T (128 + n.val)) (k : Fin 256) :
    bias256 s tb (ix2 r k) = (s (ix2 r k) : EReal) + T (k.val + 128) * lg := by
  rw [← named_lg, Nat.add_comm, ← ht]
  pointwise [bias256]

/-- The scores of a block against 512 keys with the bias added to the last 384 columns. -/
def bias512 (s : FVec Ideal S256x512 .f32) (tb : FVec Ideal S1x256x384 .f32) : FVec Ideal S256x512 .f32 :=
  concatenate S256x512 1 [⟨S256x128, extractStridedSlice S256x128 ![0, 0] s slices_S256x512_o0_0_S256x128⟩, ⟨S256x384, addf (extractStridedSlice S256x384 ![0, 128] s slices_S256x512_o0_128_S256x384) (mulf (shapeCast S256x384 tb shapeCasts_S1x256x384_S256x384) (broadcast S256x384 (Named.named (F := Ideal) κ "log2e" 0x3FB8AA3B#32)))⟩] concatenates_S256x128_S256x384_S256x512_d1

theorem bias512_at (s : FVec Ideal S256x512 .f32) (tb : FVec Ideal S1x256x384 .f32) (r : Fin 256) (T : ℕ → EReal)
    (ht : ∀ n : Fin 384, tb (ix3 (0 : Fin 1) r n) = T n.val) (k : Fin 512) :
    bias512 s tb (ix2 r k) = if k.val < 128 then (s (ix2 r k) : EReal) else (s (ix2 r k) : EReal) + T (k.val - 128) * lg := by
  have hT : ∀ h : k.val - 128 < 384, T (k.val - 128) = tb (ix3 (0 : Fin 1) r ⟨k.val - 128, h⟩) := fun h => (ht ⟨_, h⟩).symm
  rw [← named_lg]
  pointwise [bias512]
  split
  · rfl
  · next h =>
    have e : (⟨128 + (k.val - 128), by omega⟩ : Fin 512) = k := Fin.ext (by show 128 + (k.val - 128) = k.val; omega)
    rw [hT (by omega), e]

/-- The scores of a block against 768 keys with the bias added to the last 384 columns. -/
def bias768 (s : FVec Ideal S256x768 .f32) (tb : FVec Ideal S1x256x384 .f32) : FVec Ideal S256x768 .f32 :=
  concatenate S256x768 1 [⟨S256x384, extractStridedSlice S256x384 ![0, 0] s slices_S256x768_o0_0_S256x384⟩, ⟨S256x384, addf (extractStridedSlice S256x384 ![0, 384] s slices_S256x768_o0_384_S256x384) (mulf (shapeCast S256x384 tb shapeCasts_S1x256x384_S256x384) (broadcast S256x384 (Named.named (F := Ideal) κ "log2e" 0x3FB8AA3B#32)))⟩] concatenates_S256x384_S256x384_S256x768_d1

theorem bias768_at (s : FVec Ideal S256x768 .f32) (tb : FVec Ideal S1x256x384 .f32) (r : Fin 256) (T : ℕ → EReal)
    (ht : ∀ n : Fin 384, tb (ix3 (0 : Fin 1) r n) = T n.val) (k : Fin 768) :
    bias768 s tb (ix2 r k) = if k.val < 384 then (s (ix2 r k) : EReal) else (s (ix2 r k) : EReal) + T (k.val - 384) * lg := by
  have hT : ∀ h : k.val - 384 < 384, T (k.val - 384) = tb (ix3 (0 : Fin 1) r ⟨k.val - 384, h⟩) := fun h => (ht ⟨_, h⟩).symm
  rw [← named_lg]
  pointwise [bias768]
  split
  · rfl
  · next h =>
    have e : (⟨384 + (k.val - 384), by omega⟩ : Fin 768) = k := Fin.ext (by show 384 + (k.val - 384) = k.val; omega)
    rw [hT (by omega), e]

/-- The scores of a block against 1024 keys with the bias added to the last 384 columns. -/
def bias1024 (s : FVec Ideal S256x1024 .f32) (tb : FVec Ideal S1x256x384 .f32) : FVec Ideal S256x1024 .f32 :=
  concatenate S256x1024 1 [⟨S256x640, extractStridedSlice S256x640 ![0, 0] s slices_S256x1024_o0_0_S256x640⟩, ⟨S256x384, addf (extractStridedSlice S256x384 ![0, 640] s slices_S256x1024_o0_640_S256x384) (mulf (shapeCast S256x384 tb shapeCasts_S1x256x384_S256x384) (broadcast S256x384 (Named.named (F := Ideal) κ "log2e" 0x3FB8AA3B#32)))⟩] concatenates_S256x640_S256x384_S256x1024_d1

theorem bias1024_at (s : FVec Ideal S256x1024 .f32) (tb : FVec Ideal S1x256x384 .f32) (r : Fin 256) (T : ℕ → EReal)
    (ht : ∀ n : Fin 384, tb (ix3 (0 : Fin 1) r n) = T n.val) (k : Fin 1024) :
    bias1024 s tb (ix2 r k) = if k.val < 640 then (s (ix2 r k) : EReal) else (s (ix2 r k) : EReal) + T (k.val - 640) * lg := by
  have hT : ∀ h : k.val - 640 < 384, T (k.val - 640) = tb (ix3 (0 : Fin 1) r ⟨k.val - 640, h⟩) := fun h => (ht ⟨_, h⟩).symm
  rw [← named_lg]
  pointwise [bias1024]
  split
  · rfl
  · next h =>
    have e : (⟨640 + (k.val - 640), by omega⟩ : Fin 1024) = k := Fin.ext (by show 640 + (k.val - 640) = k.val; omega)
    rw [hT (by omega), e]

/-- The scores of the first block of the near tile, with the bias added to the last 128 columns. -/
def near1024 (s : FVec Ideal S256x1024 .f32) (tb : FVec Ideal S1x256x128 .f32) : FVec Ideal S256x1024 .f32 :=
  concatenate S256x1024 1 [⟨S256x896, extractStridedSlice S256x896 ![0, 0] s slices_S256x1024_o0_0_S256x896⟩, ⟨S256x128, addf (extractStridedSlice S256x128 ![0, 896] s slices_S256x1024_o0_896_S256x128) (mulf (shapeCast S256x128 tb shapeCasts_S1x256x128_S256x128) (broadcast S256x128 (Named.named (F := Ideal) κ "log2e" 0x3FB8AA3B#32)))⟩] concatenates_S256x896_S256x128_S256x1024_d1

theorem near1024_at (s : FVec Ideal S256x1024 .f32) (tb : FVec Ideal S1x256x128 .f32) (r : Fin 256) (T : ℕ → EReal)
    (ht : ∀ n : Fin 128, tb (ix3 (0 : Fin 1) r n) = T n.val) (k : Fin 1024) :
    near1024 s tb (ix2 r k) = if k.val < 896 then (s (ix2 r k) : EReal) else (s (ix2 r k) : EReal) + T (k.val - 896) * lg := by
  have hT : ∀ h : k.val - 896 < 128, T (k.val - 896) = tb (ix3 (0 : Fin 1) r ⟨k.val - 896, h⟩) := fun h => (ht ⟨_, h⟩).symm
  rw [← named_lg]
  pointwise [near1024]
  split
  · rfl
  · next h =>
    have e : (⟨896 + (k.val - 896), by omega⟩ : Fin 1024) = k := Fin.ext (by show 896 + (k.val - 896) = k.val; omega)
    rw [hT (by omega), e]

end Cert.Flash

end
-- ==== Proof.Diag.lean ====
/-
What the kernel's block reads, as plain functions, and the weights of its rows; and the tile on the diagonal: its eight
blocks add the weights of the tile's keys to the state.
-/
module
public import proofs.«01_k».proof.Proof.Gen.KernelIdeal
public import proofs.«01_k».proof.Proof.RowStep
public import proofs.«01_k».proof.Proof.Loop
public import proofs.«01_k».proof.Proof.Score
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The score of row `r` of block `b` and key `j`, for the query block `qi`: the inner product, and from 128 keys before
the block's first row the bias. -/
def scoreAt (Q : Fin 2048 → Fin 128 → EReal) (K : ℕ → Fin 128 → EReal) (T : Fin 256 → ℕ → EReal) (qi : ℕ) (b : Fin 8) (r : Fin 256) (j : ℕ) : EReal :=
  if j + 128 < 1024 * qi + 256 * (b.val % 4) then ∑ x : Fin 128, Q (rowAt b r) x * K j x
  else (∑ x : Fin 128, Q (rowAt b r) x * K j x) + T r (j + 128 - (1024 * qi + 256 * (b.val % 4))) * lg

/-- The contents of the memrefs that a block reads are `Q`, `K`, `V` and `T`, and `W` are the weights that the scores give:
zero for the keys after the block's last row. -/
structure Reads (qi : ℕ) (arg4 arg5 : Memref sig .tc .vmem S16384x128 .bf16) (arg6 : Memref sig .tc .vmem S1x256x384 .f32)
    (arg13 : Memref sig .tc .vmem S2048x128 .bf16) (X4 : BufTy.Contents (Elt Ideal) arg4.view.ty) (X5 : BufTy.Contents (Elt Ideal) arg5.view.ty)
    (X6 : BufTy.Contents (Elt Ideal) arg6.view.ty) (X13 : BufTy.Contents (Elt Ideal) arg13.view.ty)
    (Q : Fin 2048 → Fin 128 → EReal) (K : ℕ → Fin 128 → EReal) (V : ℕ → Fin 128 → ℝ) (T : Fin 256 → ℕ → EReal) (W : Fin 2048 → ℕ → ℝ) : Prop where
  q : ∀ ρ x, arg13.view.read (Elt Ideal) X13 (ix2 ρ x) = Q ρ x
  k : ∀ (j : Fin 16384) x, arg4.view.read (Elt Ideal) X4 (ix2 j x) = K j.val x
  v : ∀ (j : Fin 16384) c, arg5.view.read (Elt Ideal) X5 (ix2 j c) = (V j.val c : EReal)
  t : ∀ (r : Fin 256) (n : Fin 384), arg6.view.read (Elt Ideal) X6 (ix3 (0 : Fin 1) r n) = T r n.val
  w : ∀ b r j, j < 1024 * qi + 256 * (b.val % 4) + 256 → IsLog2 (scoreAt Q K T qi b r j) (W (rowAt b r) j)
  w0 : ∀ (b : Fin 8) r j, 1024 * qi + 256 * (b.val % 4) + 256 ≤ j → W (rowAt b r) j = 0

/-- The state of all the rows after the first `n` keys. -/
abbrev StateAt (m14 m15 m16 : Memref sig .tc .vmem S2048x128 .f32) (f14 : m14.view.ty.Contents (Elt Ideal))
    (f15 : m15.view.ty.Contents (Elt Ideal)) (f16 : m16.view.ty.Contents (Elt Ideal)) (W : Fin 2048 → ℕ → ℝ) (V : ℕ → Fin 128 → ℝ) (n : ℕ) : Prop :=
  State m14 m15 m16 f14 f15 f16 (fun ρ => ∑ j ∈ Finset.range n, W ρ j) (fun ρ c => ∑ j ∈ Finset.range n, W ρ j * V j c)

/-- The bias table from its column 128 on. -/
abbrev tblR (arg6 : Memref sig .tc .vmem S1x256x384 .f32) (X : BufTy.Contents (Elt Ideal) arg6.view.ty) : FVec Ideal S1x256x256 .f32 :=
  View.readAt (Elt Ideal) arg6.view (Rect.unit (s := S1x256x384) ![0, 0, 128] S1x256x256.size inb_S1x256x384_S1x256x256_0_0_128).toLoadRect X

/-- The whole bias table. -/
abbrev tblW (arg6 : Memref sig .tc .vmem S1x256x384 .f32) (X : BufTy.Contents (Elt Ideal) arg6.view.ty) : FVec Ideal S1x256x384 .f32 :=
  View.readAt (Elt Ideal) arg6.view (Rect.unit (s := S1x256x384) ![0, 0, 0] S1x256x384.size inb_S1x256x384_S1x256x384_0_0_0).toLoadRect X

theorem tblR_at (arg6 : Memref sig .tc .vmem S1x256x384 .f32) (X : BufTy.Contents (Elt Ideal) arg6.view.ty) (r n : Fin 256) :
    tblR arg6 X (ix3 (0 : Fin 1) r n) = arg6.view.read (Elt Ideal) X (ix3 (0 : Fin 1) r (⟨128 + n.val, by omega⟩ : Fin 384)) := by
  show arg6.view.read (Elt Ideal) X _ = _
  congr 1
  funext a
  refine Fin.ext ?_
  fin_cases a
  · rfl
  · show 0 + 1 * r.val = r.val
    omega
  · show 128 + 1 * n.val = 128 + n.val
    omega

theorem tblW_at (arg6 : Memref sig .tc .vmem S1x256x384 .f32) (X : BufTy.Contents (Elt Ideal) arg6.view.ty) (r : Fin 256) (n : Fin 384) :
    tblW arg6 X (ix3 (0 : Fin 1) r n) = arg6.view.read (Elt Ideal) X (ix3 (0 : Fin 1) r n) := by
  show arg6.view.read (Elt Ideal) X _ = _
  congr 1
  funext a
  refine Fin.ext ?_
  fin_cases a
  · rfl
  · show 0 + 1 * r.val = r.val
    omega
  · show 0 + 1 * n.val = n.val
    omega

/-- A sum over the first `n + w` numbers, when the last of the first `n + m` numbers contribute nothing. -/
theorem sum_range_tail (f : ℕ → ℝ) (n w m : ℕ) (hw : w ≤ m) (h0 : ∀ j, n + w ≤ j → f j = 0) :
    ∑ j ∈ Finset.range (n + m), f j = ∑ j ∈ Finset.range n, f j + ∑ j : Fin w, f (n + j.val) := by
  rw [← sum_range_add_fin]
  symm
  refine Finset.sum_subset (Finset.range_subset_range.mpr (by omega)) fun j _ hj => h0 j ?_
  simpa using hj

/-- The first 256 keys of the diagonal tile, as the kernel loads them. -/
abbrev rowsD256 (m : Memref sig .tc .vmem S16384x128 .bf16) (X : BufTy.Contents (Elt Ideal) m.view.ty) (i : grid0.Coords) : FVec Ideal S256x128 .bf16 :=
  View.readAt (Elt Ideal) m.view (Rect.unit (s := S16384x128) (k0_off4 i) S256x128.size (k0_off4_inb i)).toLoadRect X

/-- The first 512 keys of the diagonal tile, as the kernel loads them. -/
abbrev rowsD512 (m : Memref sig .tc .vmem S16384x128 .bf16) (X : BufTy.Contents (Elt Ideal) m.view.ty) (i : grid0.Coords) : FVec Ideal S512x128 .bf16 :=
  View.readAt (Elt Ideal) m.view (Rect.unit (s := S16384x128) (k0_off5 i) S512x128.size (k0_off5_inb i)).toLoadRect X

/-- The first 768 keys of the diagonal tile, as the kernel loads them. -/
abbrev rowsD768 (m : Memref sig .tc .vmem S16384x128 .bf16) (X : BufTy.Contents (Elt Ideal) m.view.ty) (i : grid0.Coords) : FVec Ideal S768x128 .bf16 :=
  View.readAt (Elt Ideal) m.view (Rect.unit (s := S16384x128) (k0_off6 i) S768x128.size (k0_off6_inb i)).toLoadRect X

/-- The first 1024 keys of the diagonal tile, as the kernel loads them. -/
abbrev rowsD1024 (m : Memref sig .tc .vmem S16384x128 .bf16) (X : BufTy.Contents (Elt Ideal) m.view.ty) (i : grid0.Coords) : FVec Ideal S1024x128 .bf16 :=
  View.readAt (Elt Ideal) m.view (Rect.unit (s := S16384x128) (k0_off7 i) S1024x128.size (k0_off7_inb i)).toLoadRect X

section
variable {i : grid0.Coords} {arg4 arg5 : Memref sig .tc .vmem S16384x128 .bf16} {arg6 : Memref sig .tc .vmem S1x256x384 .f32}
  {arg13 : Memref sig .tc .vmem S2048x128 .bf16} {X4 : BufTy.Contents (Elt Ideal) arg4.view.ty} {X5 : BufTy.Contents (Elt Ideal) arg5.view.ty}
  {X6 : BufTy.Contents (Elt Ideal) arg6.view.ty} {X13 : BufTy.Contents (Elt Ideal) arg13.view.ty}
  {Q : Fin 2048 → Fin 128 → EReal} {K : ℕ → Fin 128 → EReal} {V : ℕ → Fin 128 → ℝ} {T : Fin 256 → ℕ → EReal} {W : Fin 2048 → ℕ → ℝ}
  {m14 m15 m16 : Memref sig .tc .vmem S2048x128 .f32} {f14 : m14.view.ty.Contents (Elt Ideal)}
  {f15 : m15.view.ty.Contents (Elt Ideal)} {f16 : m16.view.ty.Contents (Elt Ideal)}

/-- The scores of a block against the 256 keys up to its last row. -/
abbrev scoresD256 (i : grid0.Coords) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty) (b : Fin 8) : FVec Ideal S256x256 .f32 :=
  bias256 (score256 (rdBlk arg13 X13 b) (rowsD256 arg4 X4 i)) (tblR arg6 X6)

/-- A row of a block that takes 256 keys of the diagonal tile. -/
theorem diag_row256 (hr : Reads (i 2).val arg4 arg5 arg6 arg13 X4 X5 X6 X13 Q K V T W)
    (h : StateAt m14 m15 m16 f14 f15 f16 W V (1024 * (i 2).val)) (b : Fin 8) (hb : b.val % 4 = 0) (r : Fin 256) :
    RowOK (∑ j ∈ Finset.range (1024 * (i 2).val + 1024), W (rowAt b r) j) (fun c => ∑ j ∈ Finset.range (1024 * (i 2).val + 1024), W (rowAt b r) j * V j c)
      (fun c => max256 (rdBlk m14 f14 b) (scoresD256 i arg4 arg6 arg13 X4 X6 X13 b) (ix2 r c))
      (fun c => sum256 (rdBlk m14 f14 b) (rdBlk m15 f15 b) (scoresD256 i arg4 arg6 arg13 X4 X6 X13 b) (ix2 r c))
      (fun c => acc256 (rdBlk m14 f14 b) (rdBlk m16 f16 b) (scoresD256 i arg4 arg6 arg13 X4 X6 X13 b) (rowsD256 arg5 X5 i) (ix2 r c)) := by
  have hi : (i 2).val < 16 := (i 2).isLt
  have h0 := fun j (hj : 1024 * (i 2).val + 256 ≤ j) => hr.w0 b r j (by omega)
  rw [sum_range_tail (W (rowAt b r)) (1024 * (i 2).val) 256 1024 (by norm_num) h0]
  have hY : (fun c => ∑ j ∈ Finset.range (1024 * (i 2).val + 1024), W (rowAt b r) j * V j c)
      = fun c => ∑ j ∈ Finset.range (1024 * (i 2).val), W (rowAt b r) j * V j c + ∑ k : Fin 256, W (rowAt b r) (1024 * (i 2).val + k.val) * V (1024 * (i 2).val + k.val) c :=
    funext fun c => sum_range_tail (fun j => W (rowAt b r) j * V j c) (1024 * (i 2).val) 256 1024 (by norm_num) fun j hj => by rw [h0 j hj, zero_mul]
  rw [hY]
  refine step256 _ _ _ _ _ r (h.blk b r) (fun k => W (rowAt b r) (1024 * (i 2).val + k.val)) (fun k => ?_) (fun k c => V (1024 * (i 2).val + k.val) c) (fun k c => ?_)
  · have hj : 1024 * (i 2).val + k.val < 16384 := by omega
    have ek : ∀ x, rowsD256 arg4 X4 i (ix2 k x) = K (1024 * (i 2).val + k.val) x := fun x =>
      (readAt_rows arg4 X4 (k0_off4_eq i) _ k x hj).trans (hr.k ⟨_, hj⟩ x)
    unfold scoresD256
    rw [bias256_at _ _ r (T r) (fun n => (tblR_at arg6 X6 r n).trans (hr.t r ⟨128 + n.val, by omega⟩)), score256_at]
    have e := hr.w b r (1024 * (i 2).val + k.val) (by omega)
    unfold scoreAt at e
    rw [if_neg (by omega), show 1024 * (i 2).val + k.val + 128 - (1024 * (i 2).val + 256 * (b.val % 4)) = k.val + 128 by omega] at e
    simpa only [rdBlk_at, hr.q, ek] using e
  · have hj : 1024 * (i 2).val + k.val < 16384 := by omega
    exact (readAt_rows arg5 X5 (k0_off4_eq i) _ k c hj).trans (hr.v ⟨_, hj⟩ c)

/-- The scores of a block against the 512 keys up to its last row. -/
abbrev scoresD512 (i : grid0.Coords) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty) (b : Fin 8) : FVec Ideal S256x512 .f32 :=
  bias512 (score512 (rdBlk arg13 X13 b) (rowsD512 arg4 X4 i)) (tblW arg6 X6)

/-- A row of a block that takes 512 keys of the diagonal tile. -/
theorem diag_row512 (hr : Reads (i 2).val arg4 arg5 arg6 arg13 X4 X5 X6 X13 Q K V T W)
    (h : StateAt m14 m15 m16 f14 f15 f16 W V (1024 * (i 2).val)) (b : Fin 8) (hb : b.val % 4 = 1) (r : Fin 256) :
    RowOK (∑ j ∈ Finset.range (1024 * (i 2).val + 1024), W (rowAt b r) j) (fun c => ∑ j ∈ Finset.range (1024 * (i 2).val + 1024), W (rowAt b r) j * V j c)
      (fun c => max512 (rdBlk m14 f14 b) (scoresD512 i arg4 arg6 arg13 X4 X6 X13 b) (ix2 r c))
      (fun c => sum512 (rdBlk m14 f14 b) (rdBlk m15 f15 b) (scoresD512 i arg4 arg6 arg13 X4 X6 X13 b) (ix2 r c))
      (fun c => acc512 (rdBlk m14 f14 b) (rdBlk m16 f16 b) (scoresD512 i arg4 arg6 arg13 X4 X6 X13 b) (rowsD512 arg5 X5 i) (ix2 r c)) := by
  have hi : (i 2).val < 16 := (i 2).isLt
  have h0 := fun j (hj : 1024 * (i 2).val + 512 ≤ j) => hr.w0 b r j (by omega)
  rw [sum_range_tail (W (rowAt b r)) (1024 * (i 2).val) 512 1024 (by norm_num) h0]
  have hY : (fun c => ∑ j ∈ Finset.range (1024 * (i 2).val + 1024), W (rowAt b r) j * V j c)
      = fun c => ∑ j ∈ Finset.range (1024 * (i 2).val), W (rowAt b r) j * V j c + ∑ k : Fin 512, W (rowAt b r) (1024 * (i 2).val + k.val) * V (1024 * (i 2).val + k.val) c :=
    funext fun c => sum_range_tail (fun j => W (rowAt b r) j * V j c) (1024 * (i 2).val) 512 1024 (by norm_num) fun j hj => by rw [h0 j hj, zero_mul]
  rw [hY]
  refine step512 _ _ _ _ _ r (h.blk b r) (fun k => W (rowAt b r) (1024 * (i 2).val + k.val)) (fun k => ?_) (fun k c => V (1024 * (i 2).val + k.val) c) (fun k c => ?_)
  · have hj : 1024 * (i 2).val + k.val < 16384 := by omega
    have ek : ∀ x, rowsD512 arg4 X4 i (ix2 k x) = K (1024 * (i 2).val + k.val) x := fun x =>
      (readAt_rows arg4 X4 (k0_off5_eq i) _ k x hj).trans (hr.k ⟨_, hj⟩ x)
    unfold scoresD512
    rw [bias512_at _ _ r (T r) (fun n => (tblW_at arg6 X6 r n).trans (hr.t r n)), score512_at]
    have e := hr.w b r (1024 * (i 2).val + k.val) (by omega)
    unfold scoreAt at e
    by_cases hc : k.val < 128
    · rw [if_pos (by omega)] at e
      rw [if_pos hc]
      simpa only [rdBlk_at, hr.q, ek] using e
    · rw [if_neg (by omega), show 1024 * (i 2).val + k.val + 128 - (1024 * (i 2).val + 256 * (b.val % 4)) = k.val - 128 by omega] at e
      rw [if_neg hc]
      simpa only [rdBlk_at, hr.q, ek] using e
  · have hj : 1024 * (i 2).val + k.val < 16384 := by omega
    exact (readAt_rows arg5 X5 (k0_off5_eq i) _ k c hj).trans (hr.v ⟨_, hj⟩ c)

/-- The scores of a block against the 768 keys up to its last row. -/
abbrev scoresD768 (i : grid0.Coords) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty) (b : Fin 8) : FVec Ideal S256x768 .f32 :=
  bias768 (score768 (rdBlk arg13 X13 b) (rowsD768 arg4 X4 i)) (tblW arg6 X6)

/-- A row of a block that takes 768 keys of the diagonal tile. -/
theorem diag_row768 (hr : Reads (i 2).val arg4 arg5 arg6 arg13 X4 X5 X6 X13 Q K V T W)
    (h : StateAt m14 m15 m16 f14 f15 f16 W V (1024 * (i 2).val)) (b : Fin 8) (hb : b.val % 4 = 2) (r : Fin 256) :
    RowOK (∑ j ∈ Finset.range (1024 * (i 2).val + 1024), W (rowAt b r) j) (fun c => ∑ j ∈ Finset.range (1024 * (i 2).val + 1024), W (rowAt b r) j * V j c)
      (fun c => max768 (rdBlk m14 f14 b) (scoresD768 i arg4 arg6 arg13 X4 X6 X13 b) (ix2 r c))
      (fun c => sum768 (rdBlk m14 f14 b) (rdBlk m15 f15 b) (scoresD768 i arg4 arg6 arg13 X4 X6 X13 b) (ix2 r c))
      (fun c => acc768 (rdBlk m14 f14 b) (rdBlk m16 f16 b) (scoresD768 i arg4 arg6 arg13 X4 X6 X13 b) (rowsD768 arg5 X5 i) (ix2 r c)) := by
  have hi : (i 2).val < 16 := (i 2).isLt
  have h0 := fun j (hj : 1024 * (i 2).val + 768 ≤ j) => hr.w0 b r j (by omega)
  rw [sum_range_tail (W (rowAt b r)) (1024 * (i 2).val) 768 1024 (by norm_num) h0]
  have hY : (fun c => ∑ j ∈ Finset.range (1024 * (i 2).val + 1024), W (rowAt b r) j * V j c)
      = fun c => ∑ j ∈ Finset.range (1024 * (i 2).val), W (rowAt b r) j * V j c + ∑ k : Fin 768, W (rowAt b r) (1024 * (i 2).val + k.val) * V (1024 * (i 2).val + k.val) c :=
    funext fun c => sum_range_tail (fun j => W (rowAt b r) j * V j c) (1024 * (i 2).val) 768 1024 (by norm_num) fun j hj => by rw [h0 j hj, zero_mul]
  rw [hY]
  refine step768 _ _ _ _ _ r (h.blk b r) (fun k => W (rowAt b r) (1024 * (i 2).val + k.val)) (fun k => ?_) (fun k c => V (1024 * (i 2).val + k.val) c) (fun k c => ?_)
  · have hj : 1024 * (i 2).val + k.val < 16384 := by omega
    have ek : ∀ x, rowsD768 arg4 X4 i (ix2 k x) = K (1024 * (i 2).val + k.val) x := fun x =>
      (readAt_rows arg4 X4 (k0_off6_eq i) _ k x hj).trans (hr.k ⟨_, hj⟩ x)
    unfold scoresD768
    rw [bias768_at _ _ r (T r) (fun n => (tblW_at arg6 X6 r n).trans (hr.t r n)), score768_at]
    have e := hr.w b r (1024 * (i 2).val + k.val) (by omega)
    unfold scoreAt at e
    by_cases hc : k.val < 384
    · rw [if_pos (by omega)] at e
      rw [if_pos hc]
      simpa only [rdBlk_at, hr.q, ek] using e
    · rw [if_neg (by omega), show 1024 * (i 2).val + k.val + 128 - (1024 * (i 2).val + 256 * (b.val % 4)) = k.val - 384 by omega] at e
      rw [if_neg hc]
      simpa only [rdBlk_at, hr.q, ek] using e
  · have hj : 1024 * (i 2).val + k.val < 16384 := by omega
    exact (readAt_rows arg5 X5 (k0_off6_eq i) _ k c hj).trans (hr.v ⟨_, hj⟩ c)

/-- The scores of a block against the 1024 keys up to its last row. -/
abbrev scoresD1024 (i : grid0.Coords) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty) (b : Fin 8) : FVec Ideal S256x1024 .f32 :=
  bias1024 (score1024 (rdBlk arg13 X13 b) (rowsD1024 arg4 X4 i)) (tblW arg6 X6)

/-- A row of a block that takes 1024 keys of the diagonal tile. -/
theorem diag_row1024 (hr : Reads (i 2).val arg4 arg5 arg6 arg13 X4 X5 X6 X13 Q K V T W)
    (h : StateAt m14 m15 m16 f14 f15 f16 W V (1024 * (i 2).val)) (b : Fin 8) (hb : b.val % 4 = 3) (r : Fin 256) :
    RowOK (∑ j ∈ Finset.range (1024 * (i 2).val + 1024), W (rowAt b r) j) (fun c => ∑ j ∈ Finset.range (1024 * (i 2).val + 1024), W (rowAt b r) j * V j c)
      (fun c => max1024 (rdBlk m14 f14 b) (scoresD1024 i arg4 arg6 arg13 X4 X6 X13 b) (ix2 r c))
      (fun c => sum1024 (rdBlk m14 f14 b) (rdBlk m15 f15 b) (scoresD1024 i arg4 arg6 arg13 X4 X6 X13 b) (ix2 r c))
      (fun c => acc1024 (rdBlk m14 f14 b) (rdBlk m16 f16 b) (scoresD1024 i arg4 arg6 arg13 X4 X6 X13 b) (rowsD1024 arg5 X5 i) (ix2 r c)) := by
  have hi : (i 2).val < 16 := (i 2).isLt
  have h0 := fun j (hj : 1024 * (i 2).val + 1024 ≤ j) => hr.w0 b r j (by omega)
  rw [sum_range_tail (W (rowAt b r)) (1024 * (i 2).val) 1024 1024 (by norm_num) h0]
  have hY : (fun c => ∑ j ∈ Finset.range (1024 * (i 2).val + 1024), W (rowAt b r) j * V j c)
      = fun c => ∑ j ∈ Finset.range (1024 * (i 2).val), W (rowAt b r) j * V j c + ∑ k : Fin 1024, W (rowAt b r) (1024 * (i 2).val + k.val) * V (1024 * (i 2).val + k.val) c :=
    funext fun c => sum_range_tail (fun j => W (rowAt b r) j * V j c) (1024 * (i 2).val) 1024 1024 (by norm_num) fun j hj => by rw [h0 j hj, zero_mul]
  rw [hY]
  refine step1024 _ _ _ _ _ r (h.blk b r) (fun k => W (rowAt b r) (1024 * (i 2).val + k.val)) (fun k => ?_) (fun k c => V (1024 * (i 2).val + k.val) c) (fun k c => ?_)
  · have hj : 1024 * (i 2).val + k.val < 16384 := by omega
    have ek : ∀ x, rowsD1024 arg4 X4 i (ix2 k x) = K (1024 * (i 2).val + k.val) x := fun x =>
      (readAt_rows arg4 X4 (k0_off7_eq i) _ k x hj).trans (hr.k ⟨_, hj⟩ x)
    unfold scoresD1024
    rw [bias1024_at _ _ r (T r) (fun n => (tblW_at arg6 X6 r n).trans (hr.t r n)), score1024_at]
    have e := hr.w b r (1024 * (i 2).val + k.val) (by omega)
    unfold scoreAt at e
    by_cases hc : k.val < 640
    · rw [if_pos (by omega)] at e
      rw [if_pos hc]
      simpa only [rdBlk_at, hr.q, ek] using e
    · rw [if_neg (by omega), show 1024 * (i 2).val + k.val + 128 - (1024 * (i 2).val + 256 * (b.val % 4)) = k.val - 640 by omega] at e
      rw [if_neg hc]
      simpa only [rdBlk_at, hr.q, ek] using e
  · have hj : 1024 * (i 2).val + k.val < 16384 := by omega
    exact (readAt_rows arg5 X5 (k0_off7_eq i) _ k c hj).trans (hr.v ⟨_, hj⟩ c)

end

/-- The eight blocks of the new maximum. -/
def diagM (i : grid0.Coords) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty)
    (m14 : Memref sig .tc .vmem S2048x128 .f32) (f14 : m14.view.ty.Contents (Elt Ideal)) : Fin 8 → FVec Ideal S256x128 .f32 :=
  ![max256 (rdBlk m14 f14 0) (scoresD256 i arg4 arg6 arg13 X4 X6 X13 0), max512 (rdBlk m14 f14 1) (scoresD512 i arg4 arg6 arg13 X4 X6 X13 1), max768 (rdBlk m14 f14 2) (scoresD768 i arg4 arg6 arg13 X4 X6 X13 2), max1024 (rdBlk m14 f14 3) (scoresD1024 i arg4 arg6 arg13 X4 X6 X13 3), max256 (rdBlk m14 f14 4) (scoresD256 i arg4 arg6 arg13 X4 X6 X13 4), max512 (rdBlk m14 f14 5) (scoresD512 i arg4 arg6 arg13 X4 X6 X13 5), max768 (rdBlk m14 f14 6) (scoresD768 i arg4 arg6 arg13 X4 X6 X13 6), max1024 (rdBlk m14 f14 7) (scoresD1024 i arg4 arg6 arg13 X4 X6 X13 7)]

/-- The eight blocks of the new sum. -/
def diagL (i : grid0.Coords) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty)
    (m14 m15 : Memref sig .tc .vmem S2048x128 .f32) (f14 : m14.view.ty.Contents (Elt Ideal))
    (f15 : m15.view.ty.Contents (Elt Ideal)) : Fin 8 → FVec Ideal S256x128 .f32 :=
  ![sum256 (rdBlk m14 f14 0) (rdBlk m15 f15 0) (scoresD256 i arg4 arg6 arg13 X4 X6 X13 0), sum512 (rdBlk m14 f14 1) (rdBlk m15 f15 1) (scoresD512 i arg4 arg6 arg13 X4 X6 X13 1), sum768 (rdBlk m14 f14 2) (rdBlk m15 f15 2) (scoresD768 i arg4 arg6 arg13 X4 X6 X13 2), sum1024 (rdBlk m14 f14 3) (rdBlk m15 f15 3) (scoresD1024 i arg4 arg6 arg13 X4 X6 X13 3), sum256 (rdBlk m14 f14 4) (rdBlk m15 f15 4) (scoresD256 i arg4 arg6 arg13 X4 X6 X13 4), sum512 (rdBlk m14 f14 5) (rdBlk m15 f15 5) (scoresD512 i arg4 arg6 arg13 X4 X6 X13 5), sum768 (rdBlk m14 f14 6) (rdBlk m15 f15 6) (scoresD768 i arg4 arg6 arg13 X4 X6 X13 6), sum1024 (rdBlk m14 f14 7) (rdBlk m15 f15 7) (scoresD1024 i arg4 arg6 arg13 X4 X6 X13 7)]

/-- The eight blocks of the new weighted sum. -/
def diagA (i : grid0.Coords) (arg4 arg5 : Memref sig .tc .vmem S16384x128 .bf16) (arg6 : Memref sig .tc .vmem S1x256x384 .f32)
    (arg13 : Memref sig .tc .vmem S2048x128 .bf16) (X4 : BufTy.Contents (Elt Ideal) arg4.view.ty) (X5 : BufTy.Contents (Elt Ideal) arg5.view.ty)
    (X6 : BufTy.Contents (Elt Ideal) arg6.view.ty) (X13 : BufTy.Contents (Elt Ideal) arg13.view.ty)
    (m14 m16 : Memref sig .tc .vmem S2048x128 .f32) (f14 : m14.view.ty.Contents (Elt Ideal))
    (f16 : m16.view.ty.Contents (Elt Ideal)) : Fin 8 → FVec Ideal S256x128 .f32 :=
  ![acc256 (rdBlk m14 f14 0) (rdBlk m16 f16 0) (scoresD256 i arg4 arg6 arg13 X4 X6 X13 0) (rowsD256 arg5 X5 i), acc512 (rdBlk m14 f14 1) (rdBlk m16 f16 1) (scoresD512 i arg4 arg6 arg13 X4 X6 X13 1) (rowsD512 arg5 X5 i), acc768 (rdBlk m14 f14 2) (rdBlk m16 f16 2) (scoresD768 i arg4 arg6 arg13 X4 X6 X13 2) (rowsD768 arg5 X5 i), acc1024 (rdBlk m14 f14 3) (rdBlk m16 f16 3) (scoresD1024 i arg4 arg6 arg13 X4 X6 X13 3) (rowsD1024 arg5 X5 i), acc256 (rdBlk m14 f14 4) (rdBlk m16 f16 4) (scoresD256 i arg4 arg6 arg13 X4 X6 X13 4) (rowsD256 arg5 X5 i), acc512 (rdBlk m14 f14 5) (rdBlk m16 f16 5) (scoresD512 i arg4 arg6 arg13 X4 X6 X13 5) (rowsD512 arg5 X5 i), acc768 (rdBlk m14 f14 6) (rdBlk m16 f16 6) (scoresD768 i arg4 arg6 arg13 X4 X6 X13 6) (rowsD768 arg5 X5 i), acc1024 (rdBlk m14 f14 7) (rdBlk m16 f16 7) (scoresD1024 i arg4 arg6 arg13 X4 X6 X13 7) (rowsD1024 arg5 X5 i)]

/-- The tile on the diagonal adds its 1024 keys to the state. -/
theorem diag_state (i : grid0.Coords) (arg4 arg5 : Memref sig .tc .vmem S16384x128 .bf16) (arg6 : Memref sig .tc .vmem S1x256x384 .f32)
    (arg13 : Memref sig .tc .vmem S2048x128 .bf16) (X4 : BufTy.Contents (Elt Ideal) arg4.view.ty) (X5 : BufTy.Contents (Elt Ideal) arg5.view.ty)
    (X6 : BufTy.Contents (Elt Ideal) arg6.view.ty) (X13 : BufTy.Contents (Elt Ideal) arg13.view.ty)
    (m14 m15 m16 : Memref sig .tc .vmem S2048x128 .f32) (f14 : m14.view.ty.Contents (Elt Ideal))
    (f15 : m15.view.ty.Contents (Elt Ideal)) (f16 : m16.view.ty.Contents (Elt Ideal))
    {Q : Fin 2048 → Fin 128 → EReal} {K : ℕ → Fin 128 → EReal} {V : ℕ → Fin 128 → ℝ} {T : Fin 256 → ℕ → EReal} {W : Fin 2048 → ℕ → ℝ}
    (hr : Reads (i 2).val arg4 arg5 arg6 arg13 X4 X5 X6 X13 Q K V T W)
    (h : StateAt m14 m15 m16 f14 f15 f16 W V (1024 * (i 2).val)) :
    StateAt m14 m15 m16
      (m14.view.writes (Elt Ideal) f14 (pieces8 (diagM i arg4 arg6 arg13 X4 X6 X13 m14 f14)))
      (m15.view.writes (Elt Ideal) f15 (pieces8 (diagL i arg4 arg6 arg13 X4 X6 X13 m14 m15 f14 f15)))
      (m16.view.writes (Elt Ideal) f16 (pieces8 (diagA i arg4 arg5 arg6 arg13 X4 X5 X6 X13 m14 m16 f14 f16))) W V (1024 * (i 2).val + 1024) := by
  refine State.of_blks _ _ _ ?_
  intro b r
  fin_cases b
  · exact diag_row256 hr h 0 rfl r
  · exact diag_row512 hr h 1 rfl r
  · exact diag_row768 hr h 2 rfl r
  · exact diag_row1024 hr h 3 rfl r
  · exact diag_row256 hr h 4 rfl r
  · exact diag_row512 hr h 5 rfl r
  · exact diag_row768 hr h 6 rfl r
  · exact diag_row1024 hr h 7 rfl r

end Cert.Flash

end
-- ==== Proof.Near.lean ====
/-
The tile before the one on the diagonal: its eight blocks add the weights of the tile's keys to the state. The first
block of each map sees the bias in the tile's last 128 columns.
-/
module
public import proofs.«01_k».proof.Proof.Gen.KernelIdeal
public import proofs.«01_k».proof.Proof.RowStep
public import proofs.«01_k».proof.Proof.Loop
public import proofs.«01_k».proof.Proof.Diag
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The first 128 columns of the bias table. -/
abbrev tblN (arg6 : Memref sig .tc .vmem S1x256x384 .f32) (X : BufTy.Contents (Elt Ideal) arg6.view.ty) : FVec Ideal S1x256x128 .f32 :=
  View.readAt (Elt Ideal) arg6.view (Rect.unit (s := S1x256x384) ![0, 0, 0] S1x256x128.size inb_S1x256x384_S1x256x128_0_0_0).toLoadRect X

theorem tblN_at (arg6 : Memref sig .tc .vmem S1x256x384 .f32) (X : BufTy.Contents (Elt Ideal) arg6.view.ty) (r : Fin 256) (n : Fin 128) :
    tblN arg6 X (ix3 (0 : Fin 1) r n) = arg6.view.read (Elt Ideal) X (ix3 (0 : Fin 1) r (⟨n.val, by omega⟩ : Fin 384)) := by
  show arg6.view.read (Elt Ideal) X _ = _
  congr 1
  funext a
  refine Fin.ext ?_
  fin_cases a
  · rfl
  · show 0 + 1 * r.val = r.val
    omega
  · show 0 + 1 * n.val = n.val
    omega

/-- The keys of the near tile, as the kernel loads them. -/
abbrev rowsN (m : Memref sig .tc .vmem S16384x128 .bf16) (X : BufTy.Contents (Elt Ideal) m.view.ty) (i : grid0.Coords) (hc : k0_cond1 i = 1#1) : FVec Ideal S1024x128 .bf16 :=
  View.readAt (Elt Ideal) m.view (Rect.unit (s := S16384x128) (k0_off3 i) S1024x128.size (k0_off3_inb i hc)).toLoadRect X

/-- The near tile is there from the second query block on. -/
theorem cond1_pos : ∀ i : grid0.Coords, k0_cond1 i = 1#1 → 1 ≤ (i 2).val := by
  decide +kernel

/-- The scores of a block that the bias does not reach. -/
abbrev scoresN (i : grid0.Coords) (hc : k0_cond1 i = 1#1) (arg4 : Memref sig .tc .vmem S16384x128 .bf16)
    (arg13 : Memref sig .tc .vmem S2048x128 .bf16) (X4 : BufTy.Contents (Elt Ideal) arg4.view.ty)
    (X13 : BufTy.Contents (Elt Ideal) arg13.view.ty) (b : Fin 8) : FVec Ideal S256x1024 .f32 :=
  score1024 (rdBlk arg13 X13 b) (rowsN arg4 X4 i hc)

/-- The scores of the first block of a map. -/
abbrev scoresNB (i : grid0.Coords) (hc : k0_cond1 i = 1#1) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty) (b : Fin 8) : FVec Ideal S256x1024 .f32 :=
  near1024 (score1024 (rdBlk arg13 X13 b) (rowsN arg4 X4 i hc)) (tblN arg6 X6)

section
variable {i : grid0.Coords} {arg4 arg5 : Memref sig .tc .vmem S16384x128 .bf16} {arg6 : Memref sig .tc .vmem S1x256x384 .f32}
  {arg13 : Memref sig .tc .vmem S2048x128 .bf16} {X4 : BufTy.Contents (Elt Ideal) arg4.view.ty} {X5 : BufTy.Contents (Elt Ideal) arg5.view.ty}
  {X6 : BufTy.Contents (Elt Ideal) arg6.view.ty} {X13 : BufTy.Contents (Elt Ideal) arg13.view.ty}
  {Q : Fin 2048 → Fin 128 → EReal} {K : ℕ → Fin 128 → EReal} {V : ℕ → Fin 128 → ℝ} {T : Fin 256 → ℕ → EReal} {W : Fin 2048 → ℕ → ℝ}
  {m14 m15 m16 : Memref sig .tc .vmem S2048x128 .f32} {f14 : m14.view.ty.Contents (Elt Ideal)}
  {f15 : m15.view.ty.Contents (Elt Ideal)} {f16 : m16.view.ty.Contents (Elt Ideal)}

/-- A key of the near tile is the key of that number. -/
theorem rowsN_k (hr : Reads (i 2).val arg4 arg5 arg6 arg13 X4 X5 X6 X13 Q K V T W) (hc : k0_cond1 i = 1#1) (k : Fin 1024) (x : Fin 128) :
    rowsN arg4 X4 i hc (ix2 k x) = K (1024 * ((i 2).val - 1) + k.val) x := by
  have hi : (i 2).val < 16 := (i 2).isLt
  have hj : 1024 * ((i 2).val - 1) + k.val < 16384 := by omega
  exact (readAt_rows arg4 X4 (k0_off3_eq i (cond1_pos i hc)) _ k x hj).trans (hr.k ⟨_, hj⟩ x)

/-- A row of a block whose scores are right takes the 1024 keys of the near tile. -/
theorem near_row (hr : Reads (i 2).val arg4 arg5 arg6 arg13 X4 X5 X6 X13 Q K V T W) (hc : k0_cond1 i = 1#1)
    (h : StateAt m14 m15 m16 f14 f15 f16 W V (1024 * ((i 2).val - 1))) (b : Fin 8) (r : Fin 256) (s : FVec Ideal S256x1024 .f32)
    (hs : ∀ k : Fin 1024, (s (ix2 r k) : EReal) = scoreAt Q K T (i 2).val b r (1024 * ((i 2).val - 1) + k.val)) :
    RowOK (∑ j ∈ Finset.range (1024 * (i 2).val), W (rowAt b r) j) (fun c => ∑ j ∈ Finset.range (1024 * (i 2).val), W (rowAt b r) j * V j c)
      (fun c => max1024 (rdBlk m14 f14 b) s (ix2 r c)) (fun c => sum1024 (rdBlk m14 f14 b) (rdBlk m15 f15 b) s (ix2 r c))
      (fun c => acc1024 (rdBlk m14 f14 b) (rdBlk m16 f16 b) s (rowsN arg5 X5 i hc) (ix2 r c)) := by
  have hi : (i 2).val < 16 := (i 2).isLt
  have h1 := cond1_pos i hc
  have hq : 1024 * (i 2).val = 1024 * ((i 2).val - 1) + 1024 := by omega
  have hz : ∀ f : ℕ → ℝ, ∑ j ∈ Finset.range (1024 * (i 2).val), f j
      = ∑ j ∈ Finset.range (1024 * ((i 2).val - 1)), f j + ∑ k : Fin 1024, f (1024 * ((i 2).val - 1) + k.val) := fun f => by
    rw [hq, sum_range_add_fin]
  simp only [hz]
  refine step1024 _ _ _ _ _ r (h.blk b r) (fun k => W (rowAt b r) (1024 * ((i 2).val - 1) + k.val)) (fun k => ?_)
    (fun k c => V (1024 * ((i 2).val - 1) + k.val) c) (fun k c => ?_)
  · rw [hs k]
    exact hr.w b r _ (by omega)
  · have hj : 1024 * ((i 2).val - 1) + k.val < 16384 := by omega
    exact (readAt_rows arg5 X5 (k0_off3_eq i h1) _ k c hj).trans (hr.v ⟨_, hj⟩ c)

/-- The scores of a block that the bias does not reach are right. -/
theorem scoresN_at (hr : Reads (i 2).val arg4 arg5 arg6 arg13 X4 X5 X6 X13 Q K V T W) (hc : k0_cond1 i = 1#1) (b : Fin 8) (hb : b.val % 4 ≠ 0)
    (r : Fin 256) (k : Fin 1024) :
    (scoresN i hc arg4 arg13 X4 X13 b (ix2 r k) : EReal) = scoreAt Q K T (i 2).val b r (1024 * ((i 2).val - 1) + k.val) := by
  have h1 := cond1_pos i hc
  unfold scoresN scoreAt
  rw [score1024_at, if_pos (by omega)]
  simp only [rdBlk_at, hr.q, rowsN_k hr hc]

/-- The scores of the first block of a map are right. -/
theorem scoresNB_at (hr : Reads (i 2).val arg4 arg5 arg6 arg13 X4 X5 X6 X13 Q K V T W) (hc : k0_cond1 i = 1#1) (b : Fin 8) (hb : b.val % 4 = 0)
    (r : Fin 256) (k : Fin 1024) :
    (scoresNB i hc arg4 arg6 arg13 X4 X6 X13 b (ix2 r k) : EReal) = scoreAt Q K T (i 2).val b r (1024 * ((i 2).val - 1) + k.val) := by
  have h1 := cond1_pos i hc
  unfold scoresNB scoreAt
  rw [near1024_at _ _ r (T r) (fun n => (tblN_at arg6 X6 r n).trans (hr.t r ⟨n.val, by omega⟩)), score1024_at]
  simp only [rdBlk_at, hr.q, rowsN_k hr hc]
  by_cases hk : k.val < 896
  · rw [if_pos hk, if_pos (by omega)]
  · rw [if_neg hk, if_neg (by omega), show 1024 * ((i 2).val - 1) + k.val + 128 - (1024 * (i 2).val + 256 * (b.val % 4)) = k.val - 896 by omega]

end

/-- The eight blocks of the new maximum. -/
def nearM (i : grid0.Coords) (hc : k0_cond1 i = 1#1) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty)
    (m14 : Memref sig .tc .vmem S2048x128 .f32) (f14 : m14.view.ty.Contents (Elt Ideal)) : Fin 8 → FVec Ideal S256x128 .f32 :=
  ![max1024 (rdBlk m14 f14 0) (scoresNB i hc arg4 arg6 arg13 X4 X6 X13 0), max1024 (rdBlk m14 f14 1) (scoresN i hc arg4 arg13 X4 X13 1), max1024 (rdBlk m14 f14 2) (scoresN i hc arg4 arg13 X4 X13 2), max1024 (rdBlk m14 f14 3) (scoresN i hc arg4 arg13 X4 X13 3), max1024 (rdBlk m14 f14 4) (scoresNB i hc arg4 arg6 arg13 X4 X6 X13 4), max1024 (rdBlk m14 f14 5) (scoresN i hc arg4 arg13 X4 X13 5), max1024 (rdBlk m14 f14 6) (scoresN i hc arg4 arg13 X4 X13 6), max1024 (rdBlk m14 f14 7) (scoresN i hc arg4 arg13 X4 X13 7)]

/-- The eight blocks of the new sum. -/
def nearL (i : grid0.Coords) (hc : k0_cond1 i = 1#1) (arg4 : Memref sig .tc .vmem S16384x128 .bf16) (arg6 : Memref sig .tc .vmem S1x256x384 .f32)
    (arg13 : Memref sig .tc .vmem S2048x128 .bf16) (X4 : BufTy.Contents (Elt Ideal) arg4.view.ty)
    (X6 : BufTy.Contents (Elt Ideal) arg6.view.ty) (X13 : BufTy.Contents (Elt Ideal) arg13.view.ty)
    (m14 m15 : Memref sig .tc .vmem S2048x128 .f32) (f14 : m14.view.ty.Contents (Elt Ideal))
    (f15 : m15.view.ty.Contents (Elt Ideal)) : Fin 8 → FVec Ideal S256x128 .f32 :=
  ![sum1024 (rdBlk m14 f14 0) (rdBlk m15 f15 0) (scoresNB i hc arg4 arg6 arg13 X4 X6 X13 0), sum1024 (rdBlk m14 f14 1) (rdBlk m15 f15 1) (scoresN i hc arg4 arg13 X4 X13 1), sum1024 (rdBlk m14 f14 2) (rdBlk m15 f15 2) (scoresN i hc arg4 arg13 X4 X13 2), sum1024 (rdBlk m14 f14 3) (rdBlk m15 f15 3) (scoresN i hc arg4 arg13 X4 X13 3), sum1024 (rdBlk m14 f14 4) (rdBlk m15 f15 4) (scoresNB i hc arg4 arg6 arg13 X4 X6 X13 4), sum1024 (rdBlk m14 f14 5) (rdBlk m15 f15 5) (scoresN i hc arg4 arg13 X4 X13 5), sum1024 (rdBlk m14 f14 6) (rdBlk m15 f15 6) (scoresN i hc arg4 arg13 X4 X13 6), sum1024 (rdBlk m14 f14 7) (rdBlk m15 f15 7) (scoresN i hc arg4 arg13 X4 X13 7)]

/-- The eight blocks of the new weighted sum. -/
def nearA (i : grid0.Coords) (hc : k0_cond1 i = 1#1) (arg4 arg5 : Memref sig .tc .vmem S16384x128 .bf16) (arg6 : Memref sig .tc .vmem S1x256x384 .f32)
    (arg13 : Memref sig .tc .vmem S2048x128 .bf16) (X4 : BufTy.Contents (Elt Ideal) arg4.view.ty) (X5 : BufTy.Contents (Elt Ideal) arg5.view.ty)
    (X6 : BufTy.Contents (Elt Ideal) arg6.view.ty) (X13 : BufTy.Contents (Elt Ideal) arg13.view.ty)
    (m14 m16 : Memref sig .tc .vmem S2048x128 .f32) (f14 : m14.view.ty.Contents (Elt Ideal))
    (f16 : m16.view.ty.Contents (Elt Ideal)) : Fin 8 → FVec Ideal S256x128 .f32 :=
  ![acc1024 (rdBlk m14 f14 0) (rdBlk m16 f16 0) (scoresNB i hc arg4 arg6 arg13 X4 X6 X13 0) (rowsN arg5 X5 i hc), acc1024 (rdBlk m14 f14 1) (rdBlk m16 f16 1) (scoresN i hc arg4 arg13 X4 X13 1) (rowsN arg5 X5 i hc), acc1024 (rdBlk m14 f14 2) (rdBlk m16 f16 2) (scoresN i hc arg4 arg13 X4 X13 2) (rowsN arg5 X5 i hc), acc1024 (rdBlk m14 f14 3) (rdBlk m16 f16 3) (scoresN i hc arg4 arg13 X4 X13 3) (rowsN arg5 X5 i hc), acc1024 (rdBlk m14 f14 4) (rdBlk m16 f16 4) (scoresNB i hc arg4 arg6 arg13 X4 X6 X13 4) (rowsN arg5 X5 i hc), acc1024 (rdBlk m14 f14 5) (rdBlk m16 f16 5) (scoresN i hc arg4 arg13 X4 X13 5) (rowsN arg5 X5 i hc), acc1024 (rdBlk m14 f14 6) (rdBlk m16 f16 6) (scoresN i hc arg4 arg13 X4 X13 6) (rowsN arg5 X5 i hc), acc1024 (rdBlk m14 f14 7) (rdBlk m16 f16 7) (scoresN i hc arg4 arg13 X4 X13 7) (rowsN arg5 X5 i hc)]

/-- The near tile adds its 1024 keys to the state. -/
theorem near_state (i : grid0.Coords) (hc : k0_cond1 i = 1#1) (arg4 arg5 : Memref sig .tc .vmem S16384x128 .bf16) (arg6 : Memref sig .tc .vmem S1x256x384 .f32)
    (arg13 : Memref sig .tc .vmem S2048x128 .bf16) (X4 : BufTy.Contents (Elt Ideal) arg4.view.ty) (X5 : BufTy.Contents (Elt Ideal) arg5.view.ty)
    (X6 : BufTy.Contents (Elt Ideal) arg6.view.ty) (X13 : BufTy.Contents (Elt Ideal) arg13.view.ty)
    (m14 m15 m16 : Memref sig .tc .vmem S2048x128 .f32) (f14 : m14.view.ty.Contents (Elt Ideal))
    (f15 : m15.view.ty.Contents (Elt Ideal)) (f16 : m16.view.ty.Contents (Elt Ideal))
    {Q : Fin 2048 → Fin 128 → EReal} {K : ℕ → Fin 128 → EReal} {V : ℕ → Fin 128 → ℝ} {T : Fin 256 → ℕ → EReal} {W : Fin 2048 → ℕ → ℝ}
    (hr : Reads (i 2).val arg4 arg5 arg6 arg13 X4 X5 X6 X13 Q K V T W)
    (h : StateAt m14 m15 m16 f14 f15 f16 W V (1024 * ((i 2).val - 1))) :
    StateAt m14 m15 m16
      (m14.view.writes (Elt Ideal) f14 (pieces8 (nearM i hc arg4 arg6 arg13 X4 X6 X13 m14 f14)))
      (m15.view.writes (Elt Ideal) f15 (pieces8 (nearL i hc arg4 arg6 arg13 X4 X6 X13 m14 m15 f14 f15)))
      (m16.view.writes (Elt Ideal) f16 (pieces8 (nearA i hc arg4 arg5 arg6 arg13 X4 X5 X6 X13 m14 m16 f14 f16))) W V (1024 * (i 2).val) := by
  refine State.of_blks _ _ _ ?_
  intro b r
  fin_cases b
  · exact near_row hr hc h 0 r _ (scoresNB_at hr hc 0 rfl r)
  · exact near_row hr hc h 1 r _ (scoresN_at hr hc 1 (by decide) r)
  · exact near_row hr hc h 2 r _ (scoresN_at hr hc 2 (by decide) r)
  · exact near_row hr hc h 3 r _ (scoresN_at hr hc 3 (by decide) r)
  · exact near_row hr hc h 4 r _ (scoresNB_at hr hc 4 rfl r)
  · exact near_row hr hc h 5 r _ (scoresN_at hr hc 5 (by decide) r)
  · exact near_row hr hc h 6 r _ (scoresN_at hr hc 6 (by decide) r)
  · exact near_row hr hc h 7 r _ (scoresN_at hr hc 7 (by decide) r)

end Cert.Flash

end
-- ==== Proof.Run.lean ====
/-
What one grid step of the kernel stores, with the three running arrays written as one tile's blocks over the last
tile's: the loop over the far tiles, the near tile where there is one, and the tile on the diagonal.
-/
module
public import proofs.«01_k».proof.Proof.Gen.KernelIdeal
public import proofs.«01_k».proof.Proof.RowStep
public import proofs.«01_k».proof.Proof.Near
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The two masked copies of the scaled queries, as the kernel stores them. -/
abbrev qArr (arg3 : Memref sig .tc .vmem S1024x128 .bf16) (harg3 : arg3.IsWhole) (arg13 : Memref sig .tc .vmem S2048x128 .bf16) (x0 : Vec Ideal S1024x128 .bf16) : BufTy.Contents (Elt Ideal) arg13.view.ty :=
  arg13.view.writes (Elt Ideal) arg13.view.junk
    [⟨Rect.unit (s := S2048x128) ![1024, 0] S1024x128.size inb_S2048x128_S1024x128_1024_0, k0_pay248 (View.readAt (Elt Ideal) arg3.view (Rect.unit (s := S1024x128) ![0, 0] S1024x128.size inb_S1024x128_S1024x128_0_0).toLoadRect (harg3.unread x0))⟩,
     ⟨Rect.unit (s := S2048x128) ![0, 0] S1024x128.size inb_S2048x128_S1024x128_0_0, k0_pay247 (View.readAt (Elt Ideal) arg3.view (Rect.unit (s := S1024x128) ![0, 0] S1024x128.size inb_S1024x128_S1024x128_0_0).toLoadRect (harg3.unread x0))⟩]

/-- An array of 2048 rows stored as a whole. -/
abbrev whole1 (v : FVec Ideal S2048x128 .f32) : List (View.Piece (Elt Ideal) S2048x128 .f32) :=
  [⟨Rect.unit (s := S2048x128) ![0, 0] S2048x128.size inb_S2048x128_S2048x128_0_0, v⟩]

/-- What the loop over the far tiles stores, the last first: maximum, sum and weighted sum. -/
abbrev far (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (x0 : Vec Ideal S1024x128 .bf16) (x1 x2 : Vec Ideal S16384x128 .bf16) :
    List (View.Piece (Elt Ideal) S2048x128 .f32) × List (View.Piece (Elt Ideal) S2048x128 .f32) × List (View.Piece (Elt Ideal) S2048x128 .f32) :=
  pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) (Scalar.subi (BitVec.ofNat 32 (i 2).val) 1#32) (harg4.unread x1) (harg5.unread x2) (qArr arg3 harg3 arg13 x0)
    (arg14.view.writes (Elt Ideal) arg14.view.junk (whole1 k0_pay249)) (arg15.view.writes (Elt Ideal) arg15.view.junk (whole1 k0_pay250)) (arg16.view.writes (Elt Ideal) arg16.view.junk (whole1 k0_pay251)) (k0_t1_loop i).trips

/-- What the loop for the rest stores, over the far tiles: nothing, for it has no trips. -/
abbrev rest (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (x0 : Vec Ideal S1024x128 .bf16) (x1 x2 : Vec Ideal S16384x128 .bf16) :
    List (View.Piece (Elt Ideal) S2048x128 .f32) × List (View.Piece (Elt Ideal) S2048x128 .f32) × List (View.Piece (Elt Ideal) S2048x128 .f32) :=
  pb_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) (Scalar.subi (BitVec.ofNat 32 (i 2).val) 1#32) (k0_t2_loop i).lb (harg4.unread x1) (harg5.unread x2) (qArr arg3 harg3 arg13 x0)
    (arg14.view.writes (Elt Ideal) arg14.view.junk ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ whole1 k0_pay249))
    (arg15.view.writes (Elt Ideal) arg15.view.junk ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ whole1 k0_pay250))
    (arg16.view.writes (Elt Ideal) arg16.view.junk ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ whole1 k0_pay251)) (k0_t2_loop i).trips

/-- The running maximum after the loops. -/
abbrev base14 (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (x0 : Vec Ideal S1024x128 .bf16) (x1 x2 : Vec Ideal S16384x128 .bf16) : BufTy.Contents (Elt Ideal) arg14.view.ty :=
  arg14.view.writes (Elt Ideal) arg14.view.junk ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ whole1 k0_pay249))

/-- The running sum after the loops. -/
abbrev base15 (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (x0 : Vec Ideal S1024x128 .bf16) (x1 x2 : Vec Ideal S16384x128 .bf16) : BufTy.Contents (Elt Ideal) arg15.view.ty :=
  arg15.view.writes (Elt Ideal) arg15.view.junk ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ whole1 k0_pay250))

/-- The running weighted sum after the loops. -/
abbrev base16 (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (x0 : Vec Ideal S1024x128 .bf16) (x1 x2 : Vec Ideal S16384x128 .bf16) : BufTy.Contents (Elt Ideal) arg16.view.ty :=
  arg16.view.writes (Elt Ideal) arg16.view.junk ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ whole1 k0_pay251))

/-- What a block stores from the final sum and weighted sum. -/
abbrev finish (arg7 arg8 arg9 arg10 : Memref sig .tc .vmem S1x64 .f32) (arg11 : Memref sig .tc .vmem S1x128 .f32) (h7 : arg7.IsWhole) (h8 : arg8.IsWhole) (h9 : arg9.IsWhole) (h10 : arg10.IsWhole) (h11 : arg11.IsWhole)
    (x4 x5 x6 x7 : Vec Ideal S1x64 .f32) (x8 : Vec Ideal S1x128 .f32) (a l : FVec Ideal S2048x128 .f32) : FVec Ideal S1024x128 .bf16 :=
  k0_pay1 (k0_pay352
    (divf (extractStridedSlice S1024x128 ![0, 0] a slices_S2048x128_o0_0_S1024x128) (extractStridedSlice S1024x128 ![0, 0] l slices_S2048x128_o0_0_S1024x128))
    (divf (extractStridedSlice S1024x128 ![1024, 0] a slices_S2048x128_o1024_0_S1024x128) (extractStridedSlice S1024x128 ![1024, 0] l slices_S2048x128_o1024_0_S1024x128))
    (View.readAt (Elt Ideal) arg7.view (Rect.unit (s := S1x64) ![0, 0] S1x64.size inb_S1x64_S1x64_0_0).toLoadRect (h7.unread x4))
    (View.readAt (Elt Ideal) arg8.view (Rect.unit (s := S1x64) ![0, 0] S1x64.size inb_S1x64_S1x64_0_0).toLoadRect (h8.unread x5))
    (View.readAt (Elt Ideal) arg9.view (Rect.unit (s := S1x64) ![0, 0] S1x64.size inb_S1x64_S1x64_0_0).toLoadRect (h9.unread x6))
    (View.readAt (Elt Ideal) arg10.view (Rect.unit (s := S1x64) ![0, 0] S1x64.size inb_S1x64_S1x64_0_0).toLoadRect (h10.unread x7))
    (View.readAt (Elt Ideal) arg11.view (Rect.unit (s := S1x128) ![0, 0] S1x128.size inb_S1x128_S1x128_0_0).toLoadRect (h11.unread x8)))

/-- A running array loaded as a whole. -/
abbrev ldAll (m : Memref sig .tc .vmem S2048x128 .f32) (f : BufTy.Contents (Elt Ideal) m.view.ty) : FVec Ideal S2048x128 .f32 :=
  View.readAt (Elt Ideal) m.view (Rect.unit (s := S2048x128) ![0, 0] S2048x128.size inb_S2048x128_S2048x128_0_0).toLoadRect f

/-- The running maximum after the near tile. -/
abbrev near14 (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (hc0 : k0_cond1 i = 1#1) (x0 : Vec Ideal S1024x128 .bf16) (x1 x2 : Vec Ideal S16384x128 .bf16) (x3 : Vec Ideal S1x256x384 .f32) : BufTy.Contents (Elt Ideal) arg14.view.ty :=
  arg14.view.writes (Elt Ideal) (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (pieces8 (nearM i hc0 arg4 arg6 arg13 (harg4.unread x1) (harg6.unread x3) (qArr arg3 harg3 arg13 x0) arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2)))

/-- The running sum after the near tile. -/
abbrev near15 (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (hc0 : k0_cond1 i = 1#1) (x0 : Vec Ideal S1024x128 .bf16) (x1 x2 : Vec Ideal S16384x128 .bf16) (x3 : Vec Ideal S1x256x384 .f32) : BufTy.Contents (Elt Ideal) arg15.view.ty :=
  arg15.view.writes (Elt Ideal) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (pieces8 (nearL i hc0 arg4 arg6 arg13 (harg4.unread x1) (harg6.unread x3) (qArr arg3 harg3 arg13 x0) arg14 arg15 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2)))

/-- The running weighted sum after the near tile. -/
abbrev near16 (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (hc0 : k0_cond1 i = 1#1) (x0 : Vec Ideal S1024x128 .bf16) (x1 x2 : Vec Ideal S16384x128 .bf16) (x3 : Vec Ideal S1x256x384 .f32) : BufTy.Contents (Elt Ideal) arg16.view.ty :=
  arg16.view.writes (Elt Ideal) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (pieces8 (nearA i hc0 arg4 arg5 arg6 arg13 (harg4.unread x1) (harg5.unread x2) (harg6.unread x3) (qArr arg3 harg3 arg13 x0) arg14 arg16 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2)))

end Cert.Flash

end
-- ==== Proof.Finish.lean ====
/-
What a grid step reads and what it stores, at a row and a column: the scaled and masked queries, the state before the
first tile and after the loops, and the difference of the two maps' averages, normalised along the row.
-/
module
public import proofs.«01_k».proof.Proof.Gen.KernelIdeal
public import proofs.«01_k».proof.Proof.RowStep
public import proofs.«01_k».proof.Proof.Run
public import proofs.«01_k».proof.Proof.Block
public import proofs.«01_k».proof.Proof.Gen.KernelIdeal.Loops
public import Idealize.ShloMosaic.Lib.VecWindow
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The scale of the queries: an eighth, over the logarithm of two. -/
abbrev qs : EReal := (((1 / 8) * (Real.log 2)⁻¹ : ℝ) : EReal)

theorem named_qs : (Named.named (F := Ideal) κ "q_scale" 0x3E38AA3B#32 : Ideal .f32) = qs :=
  IdealRules.named_const.ideal_named_scalar _ _ _ _ rfl

/-- The stacked queries: the first 1024 rows keep the first 64 lanes of the block, the other 1024 rows the last 64. -/
def qOf (x0 : Vec Ideal S1024x128 .bf16) (ρ : Fin 2048) (x : Fin 128) : EReal :=
  if ρ.val < 1024 then (if x.val < 64 then x0 (ix2 (⟨ρ.val % 1024, Nat.mod_lt _ (by norm_num)⟩ : Fin 1024) x) * qs else 0)
  else (if x.val < 64 then 0 else x0 (ix2 (⟨ρ.val % 1024, Nat.mod_lt _ (by norm_num)⟩ : Fin 1024) x) * qs)

/-- The keys by their number. -/
def kOf (x1 : Vec Ideal S16384x128 .bf16) (j : ℕ) (x : Fin 128) : EReal := if h : j < 16384 then x1 (ix2 ⟨j, h⟩ x) else 0

/-- The bias table by its column's number. -/
def tOf (x3 : Vec Ideal S1x256x384 .f32) (r : Fin 256) (n : ℕ) : EReal := if h : n < 384 then x3 (ix3 (0 : Fin 1) r ⟨n, h⟩) else 0

theorem pay247_at (x0 : FVec Ideal S1024x128 .bf16) (r : Fin 1024) (x : Fin 128) :
    k0_pay247 x0 (ix2 r x) = if x.val < 64 then (x0 (ix2 r x) : EReal) * qs else 0 := by
  have key : ∀ x : Fin 128, (IntOp.cmpi .slt (BitVec.ofNat 32 x.val) 64#32 = 1#1) = (x.val < 64) := by decide
  rw [← named_qs]
  pointwise [k0_pay247, k0_pay245, k0_pay246]
  simp only [Scalar.select]
  exact if_congr (iff_of_eq (key x)) rfl rfl

theorem pay248_at (x0 : FVec Ideal S1024x128 .bf16) (r : Fin 1024) (x : Fin 128) :
    k0_pay248 x0 (ix2 r x) = if x.val < 64 then 0 else (x0 (ix2 r x) : EReal) * qs := by
  have key : ∀ x : Fin 128, (IntOp.cmpi .slt (BitVec.ofNat 32 x.val) 64#32 = 1#1) = (x.val < 64) := by decide
  rw [← named_qs]
  pointwise [k0_pay248, k0_pay245, k0_pay246]
  simp only [Scalar.select]
  exact if_congr (iff_of_eq (key x)) rfl rfl

/-- Two stored halves, read at a row. -/
theorem halves_at (m : Memref sig .tc .vmem S2048x128 .bf16) (f : m.view.ty.Contents (Elt Ideal)) (p p' : FVec Ideal S1024x128 .bf16) (ρ : Fin 2048) (x : Fin 128) :
    m.view.read (Elt Ideal) (m.view.writes (Elt Ideal) f
      [⟨Rect.unit (s := S2048x128) ![1024, 0] S1024x128.size inb_S2048x128_S1024x128_1024_0, p'⟩,
       ⟨Rect.unit (s := S2048x128) ![0, 0] S1024x128.size inb_S2048x128_S1024x128_0_0, p⟩]) (ix2 ρ x)
      = if ρ.val < 1024 then p (ix2 (⟨ρ.val % 1024, Nat.mod_lt _ (by norm_num)⟩ : Fin 1024) x)
        else p' (ix2 (⟨ρ.val % 1024, Nat.mod_lt _ (by norm_num)⟩ : Fin 1024) x) := by
  have hρ' := ρ.isLt
  split
  · next hρ =>
    have e0 : ρ.val = 0 + ρ.val % 1024 := by omega
    have e1 : ρ.val < 1024 ∨ 1024 + 1024 ≤ ρ.val := Or.inl hρ
    refine (View.read_writes_cons_rows_of_not_mem m.view f (o := 1024) (W := 1024) inb_S2048x128_S1024x128_1024_0 p' _ (ix2 ρ x) rfl rfl e1).trans ?_
    exact View.read_writes_cons_rows_of_mem m.view f (o := 0) inb_S2048x128_S1024x128_0_0 p [] (ix2 ρ x)
      (ix2 (⟨ρ.val % 1024, Nat.mod_lt _ (by norm_num)⟩ : Fin 1024) x) rfl e0 rfl
  · next hρ =>
    have e0 : ρ.val = 1024 + ρ.val % 1024 := by omega
    exact View.read_writes_cons_rows_of_mem m.view f (o := 1024) inb_S2048x128_S1024x128_1024_0 p' _ (ix2 ρ x)
      (ix2 (⟨ρ.val % 1024, Nat.mod_lt _ (by norm_num)⟩ : Fin 1024) x) rfl e0 rfl

/-- The stacked queries as the step stores them. -/
theorem qArr_at (arg3 : Memref sig .tc .vmem S1024x128 .bf16) (harg3 : arg3.IsWhole) (arg13 : Memref sig .tc .vmem S2048x128 .bf16)
    (x0 : Vec Ideal S1024x128 .bf16) (ρ : Fin 2048) (x : Fin 128) :
    arg13.view.read (Elt Ideal) (qArr arg3 harg3 arg13 x0) (ix2 ρ x) = qOf x0 ρ x := by
  have e : View.readAt (Elt Ideal) arg3.view (Rect.unit (s := S1024x128) ![0, 0] S1024x128.size inb_S1024x128_S1024x128_0_0).toLoadRect (harg3.unread x0) = x0 := by
    rw [View.readAt_full, harg3.read_unread]
  unfold qArr qOf
  rw [e, halves_at, pay247_at, pay248_at]

/-- The weight of the second map. -/
def lamOf (a b c d : Fin 64 → EReal) : EReal :=
  Ideal.exp (∑ x, a x * b x) - Ideal.exp (∑ x, c x * d x) + Ideal.ofBits .f32 0x3E4CCCCD#32

/-- A row over the root of its mean square, by the weights, and the constant. -/
def normRow (o w : Fin 128 → EReal) (c : Fin 128) : EReal :=
  o c * Ideal.rsqrt (Ideal.div (∑ x, o x * o x) (Ideal.ofBits .f32 0x43000000#32) + Ideal.ofBits .f32 0x3727C5AC#32) * w c * Ideal.ofBits .f32 0x3F4CCCCD#32

/-- What a step stores, at a row and a column. -/
theorem finish_at (a1 l1 a2 l2 : FVec Ideal S1024x128 .f32) (x4 x5 x6 x7 : FVec Ideal S1x64 .f32) (x8 : FVec Ideal S1x128 .f32) (r : Fin 1024) (c : Fin 128) :
    k0_pay1 (k0_pay352 (divf a1 l1) (divf a2 l2) x4 x5 x6 x7 x8) (ix2 r c)
      = normRow (fun c => Ideal.div (a1 (ix2 r c)) (l1 (ix2 r c))
          - lamOf (fun x => x4 (ix2 (0 : Fin 1) x)) (fun x => x5 (ix2 (0 : Fin 1) x)) (fun x => x6 (ix2 (0 : Fin 1) x)) (fun x => x7 (ix2 (0 : Fin 1) x)) * Ideal.div (a2 (ix2 r c)) (l2 (ix2 r c)))
        (fun x => x8 (ix2 (0 : Fin 1) x)) c := by
  pointwise [k0_pay1, k0_pay352, normRow, lamOf]

/-- The lower and the upper rows of an array of 2048 rows. -/
theorem slice_lo (a : FVec Ideal S2048x128 .f32) (r : Fin 1024) (c : Fin 128) :
    extractStridedSlice S1024x128 ![0, 0] a slices_S2048x128_o0_0_S1024x128 (ix2 r c) = a (ix2 (⟨r.val, by omega⟩ : Fin 2048) c) := by
  pointwise
theorem slice_hi (a : FVec Ideal S2048x128 .f32) (r : Fin 1024) (c : Fin 128) :
    extractStridedSlice S1024x128 ![1024, 0] a slices_S2048x128_o1024_0_S1024x128 (ix2 r c) = a (ix2 (⟨1024 + r.val, by omega⟩ : Fin 2048) c) := by
  pointwise

/-- From the final state, what a step stores at a row and a column. -/
theorem finish_state (arg7 arg8 arg9 arg10 : Memref sig .tc .vmem S1x64 .f32) (arg11 : Memref sig .tc .vmem S1x128 .f32) (h7 : arg7.IsWhole) (h8 : arg8.IsWhole) (h9 : arg9.IsWhole) (h10 : arg10.IsWhole) (h11 : arg11.IsWhole)
    (x4 x5 x6 x7 : Vec Ideal S1x64 .f32) (x8 : Vec Ideal S1x128 .f32)
    {m14 m15 m16 : Memref sig .tc .vmem S2048x128 .f32} {f14 : m14.view.ty.Contents (Elt Ideal)}
    {f15 : m15.view.ty.Contents (Elt Ideal)} {f16 : m16.view.ty.Contents (Elt Ideal)} {Z : Fin 2048 → ℝ} {Y : Fin 2048 → Fin 128 → ℝ}
    (h : State m14 m15 m16 f14 f15 f16 Z Y) (hZ : ∀ ρ, 0 < Z ρ) (r : Fin 1024) (c : Fin 128) :
    finish arg7 arg8 arg9 arg10 arg11 h7 h8 h9 h10 h11 x4 x5 x6 x7 x8 (ldAll m16 f16) (ldAll m15 f15) (ix2 r c)
      = normRow (fun c => ((Y ⟨r.val, by omega⟩ c / Z ⟨r.val, by omega⟩ : ℝ) : EReal)
          - lamOf (fun x => x4 (ix2 (0 : Fin 1) x)) (fun x => x5 (ix2 (0 : Fin 1) x)) (fun x => x6 (ix2 (0 : Fin 1) x)) (fun x => x7 (ix2 (0 : Fin 1) x))
            * ((Y ⟨1024 + r.val, by omega⟩ c / Z ⟨1024 + r.val, by omega⟩ : ℝ) : EReal))
        (fun x => x8 (ix2 (0 : Fin 1) x)) c := by
  have e7 : View.readAt (Elt Ideal) arg7.view (Rect.unit (s := S1x64) ![0, 0] S1x64.size inb_S1x64_S1x64_0_0).toLoadRect (h7.unread x4) = x4 := by
    rw [View.readAt_full, h7.read_unread]
  have e8 : View.readAt (Elt Ideal) arg8.view (Rect.unit (s := S1x64) ![0, 0] S1x64.size inb_S1x64_S1x64_0_0).toLoadRect (h8.unread x5) = x5 := by
    rw [View.readAt_full, h8.read_unread]
  have e9 : View.readAt (Elt Ideal) arg9.view (Rect.unit (s := S1x64) ![0, 0] S1x64.size inb_S1x64_S1x64_0_0).toLoadRect (h9.unread x6) = x6 := by
    rw [View.readAt_full, h9.read_unread]
  have e10 : View.readAt (Elt Ideal) arg10.view (Rect.unit (s := S1x64) ![0, 0] S1x64.size inb_S1x64_S1x64_0_0).toLoadRect (h10.unread x7) = x7 := by
    rw [View.readAt_full, h10.read_unread]
  have e11 : View.readAt (Elt Ideal) arg11.view (Rect.unit (s := S1x128) ![0, 0] S1x128.size inb_S1x128_S1x128_0_0).toLoadRect (h11.unread x8) = x8 := by
    rw [View.readAt_full, h11.read_unread]
  unfold finish
  rw [e7, e8, e9, e10, e11, finish_at]
  have e16 : ldAll m16 f16 = m16.view.read (Elt Ideal) f16 := View.readAt_full ..
  have e15 : ldAll m15 f15 = m15.view.read (Elt Ideal) f15 := View.readAt_full ..
  rw [e16, e15]
  simp only [slice_lo, slice_hi, rowOK_div (h _) (hZ _)]

/-- The state before the first tile: no weight yet. -/
theorem init_state (m14 m15 m16 : Memref sig .tc .vmem S2048x128 .f32) (f14 : m14.view.ty.Contents (Elt Ideal))
    (f15 : m15.view.ty.Contents (Elt Ideal)) (f16 : m16.view.ty.Contents (Elt Ideal)) :
    State m14 m15 m16 (m14.view.writes (Elt Ideal) f14 (whole1 k0_pay249)) (m15.view.writes (Elt Ideal) f15 (whole1 k0_pay250))
      (m16.view.writes (Elt Ideal) f16 (whole1 k0_pay251)) (fun _ => 0) (fun _ _ => 0) := by
  have hw : ∀ (m : Memref sig .tc .vmem S2048x128 .f32) (f : m.view.ty.Contents (Elt Ideal)) (v : FVec Ideal S2048x128 .f32) (ρ : Fin 2048) (c : Fin 128),
      m.view.read (Elt Ideal) (m.view.writes (Elt Ideal) f (whole1 v)) (ix2 ρ c) = v (ix2 ρ c) := fun m f v ρ c =>
    View.read_writes_cons_rows_of_mem m.view f _ v [] (ix2 ρ c) (ix2 ρ c) rfl (Nat.zero_add _).symm rfl
  obtain ⟨μ, hμ⟩ := ofBits_floor
  intro ρ
  have e1 : ∀ c : Fin 128, k0_pay249 (F := Ideal) (ix2 ρ c) = (μ : EReal) := fun c => by
    rw [← hμ]
    pointwise [k0_pay249]
  have e2 : ∀ c : Fin 128, k0_pay250 (F := Ideal) (ix2 ρ c) = (0 : EReal) := fun c => by
    rw [← Ideal.ofBits_zero_f32]
    pointwise [k0_pay250]
  have e3 : ∀ c : Fin 128, k0_pay251 (F := Ideal) (ix2 ρ c) = (0 : EReal) := fun c => by
    rw [← Ideal.ofBits_zero_f32]
    pointwise [k0_pay251]
  simp only [hw, e1, e2, e3]
  exact rowOK_init μ

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole)
  {x0 : Vec Ideal S1024x128 .bf16} {x1 x2 : Vec Ideal S16384x128 .bf16} {x3 : Vec Ideal S1x256x384 .f32} {V : ℕ → Fin 128 → ℝ} {W : Fin 2048 → ℕ → ℝ}

/-- What the step reads, from the blocks of the arrays. -/
theorem reads_of (hv : ∀ (j : Fin 16384) c, x2 (ix2 j c) = (V j.val c : EReal))
    (hw : ∀ b r j, j < 1024 * (i 2).val + 256 * (b.val % 4) + 256 → IsLog2 (scoreAt (qOf x0) (kOf x1) (tOf x3) (i 2).val b r j) (W (rowAt b r) j))
    (hw0 : ∀ (b : Fin 8) r j, 1024 * (i 2).val + 256 * (b.val % 4) + 256 ≤ j → W (rowAt b r) j = 0) :
    Reads (i 2).val arg4 arg5 arg6 arg13 (harg4.unread x1) (harg5.unread x2) (harg6.unread x3) (qArr arg3 harg3 arg13 x0) (qOf x0) (kOf x1) V (tOf x3) W where
  q := qArr_at arg3 harg3 arg13 x0
  k := fun j x => by rw [harg4.read_unread]; unfold kOf; rw [dif_pos j.isLt]
  v := fun j c => by rw [harg5.read_unread]; exact hv j c
  t := fun r n => by rw [harg6.read_unread]; unfold tOf; rw [dif_pos n.isLt]
  w := hw
  w0 := hw0

/-- After the loops the state has the keys of all the tiles before the near one. -/
theorem base_state (hr : Reads (i 2).val arg4 arg5 arg6 arg13 (harg4.unread x1) (harg5.unread x2) (harg6.unread x3) (qArr arg3 harg3 arg13 x0) (qOf x0) (kOf x1) V (tOf x3) W) :
    StateAt arg14 arg15 arg16 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) W V (1024 * ((i 2).val - 1)) := by
  have e : rest c i arg3 harg3 arg4 harg4 arg5 harg5 arg6 harg6 arg7 harg7 arg8 harg8 arg9 harg9 arg10 harg10 arg11 harg11 arg12 harg12 arg13 harg13 arg14 harg14 arg15 harg15 arg16 harg16 x0 x1 x2 = ([], [], []) := by
    unfold rest
    rw [t2_trips, pb_k0_t2.eq_1]
  unfold base14 base15 base16
  rw [e]
  dsimp only
  rw [List.nil_append, List.nil_append, List.nil_append, View.writes_append, View.writes_append, View.writes_append]
  have hl := loop_state Variants.none c none i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) (Scalar.subi (BitVec.ofNat 32 (i 2).val) 1#32)
    (harg4.unread x1) (harg5.unread x2) (qArr arg3 harg3 arg13 x0) _ _ _ (init_state arg14 arg15 arg16 arg14.view.junk arg15.view.junk arg16.view.junk) W V ?_ hr.v _ le_rfl
  · simp only [zero_add] at hl
    rw [← t1_trips]
    exact hl
  · intro ρ j hj
    rw [t1_trips] at hj
    obtain ⟨b, r, rfl⟩ := rowAt_surj ρ
    have := hr.w b r j.val (by omega)
    unfold scoreAt at this
    rw [if_pos (by omega)] at this
    simpa only [hr.q, hr.k] using this

end

end Cert.Flash

end
-- ==== Proof.RunA.lean ====
/-
The step of a head's first query block: each block that it stores, and what it stores at the end.
-/
module
public import proofs.«01_k».proof.Proof.Gen.KernelIdeal
public import proofs.«01_k».proof.Proof.RowStep
public import proofs.«01_k».proof.Proof.Run
public import proofs.«01_k».proof.Proof.Gen.KernelIdeal.Frame.RunA
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (x0 : Vec Ideal S1024x128 .bf16) (x1 : Vec Ideal S16384x128 .bf16) (x2 : Vec Ideal S16384x128 .bf16) (x3 : Vec Ideal S1x256x384 .f32) (x4 : Vec Ideal S1x64 .f32) (x5 : Vec Ideal S1x64 .f32) (x6 : Vec Ideal S1x64 .f32) (x7 : Vec Ideal S1x64 .f32) (x8 : Vec Ideal S1x128 .f32)

/-! The blocks of the scaled queries that the step loads. -/

theorem runA_v67 : kernelRun0_A.sl.v67 (F := Ideal) c arg3 harg3 arg13 x0 = rdBlk arg13 (qArr arg3 harg3 arg13 x0) 0 := by
  unfold kernelRun0_A.sl.v67
  rfl

theorem runA_v71 : kernelRun0_A.sl.v71 (F := Ideal) c arg3 harg3 arg13 x0 = rdBlk arg13 (qArr arg3 harg3 arg13 x0) 1 := by
  unfold kernelRun0_A.sl.v71
  rfl

theorem runA_v75 : kernelRun0_A.sl.v75 (F := Ideal) c arg3 harg3 arg13 x0 = rdBlk arg13 (qArr arg3 harg3 arg13 x0) 2 := by
  unfold kernelRun0_A.sl.v75
  rfl

theorem runA_v79 : kernelRun0_A.sl.v79 (F := Ideal) c arg3 harg3 arg13 x0 = rdBlk arg13 (qArr arg3 harg3 arg13 x0) 3 := by
  unfold kernelRun0_A.sl.v79
  rfl

theorem runA_v83 : kernelRun0_A.sl.v83 (F := Ideal) c arg3 harg3 arg13 x0 = rdBlk arg13 (qArr arg3 harg3 arg13 x0) 4 := by
  unfold kernelRun0_A.sl.v83
  rfl

theorem runA_v87 : kernelRun0_A.sl.v87 (F := Ideal) c arg3 harg3 arg13 x0 = rdBlk arg13 (qArr arg3 harg3 arg13 x0) 5 := by
  unfold kernelRun0_A.sl.v87
  rfl

theorem runA_v91 : kernelRun0_A.sl.v91 (F := Ideal) c arg3 harg3 arg13 x0 = rdBlk arg13 (qArr arg3 harg3 arg13 x0) 6 := by
  unfold kernelRun0_A.sl.v91
  rfl

theorem runA_v95 : kernelRun0_A.sl.v95 (F := Ideal) c arg3 harg3 arg13 x0 = rdBlk arg13 (qArr arg3 harg3 arg13 x0) 7 := by
  unfold kernelRun0_A.sl.v95
  rfl

/-! The blocks of the running arrays that the step loads for the diagonal tile. -/

theorem runA_v43 : kernelRun0_A.sl.v43 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0 := by
  unfold kernelRun0_A.sl.v43
  rfl

theorem runA_v44 : kernelRun0_A.sl.v44 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1 := by
  unfold kernelRun0_A.sl.v44
  rfl

theorem runA_v45 : kernelRun0_A.sl.v45 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2 := by
  unfold kernelRun0_A.sl.v45
  rfl

theorem runA_v46 : kernelRun0_A.sl.v46 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3 := by
  unfold kernelRun0_A.sl.v46
  rfl

theorem runA_v47 : kernelRun0_A.sl.v47 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4 := by
  unfold kernelRun0_A.sl.v47
  rfl

theorem runA_v48 : kernelRun0_A.sl.v48 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5 := by
  unfold kernelRun0_A.sl.v48
  rfl

theorem runA_v49 : kernelRun0_A.sl.v49 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6 := by
  unfold kernelRun0_A.sl.v49
  rfl

theorem runA_v50 : kernelRun0_A.sl.v50 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7 := by
  unfold kernelRun0_A.sl.v50
  rfl

theorem runA_v51 : kernelRun0_A.sl.v51 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0 := by
  unfold kernelRun0_A.sl.v51
  rfl

theorem runA_v52 : kernelRun0_A.sl.v52 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1 := by
  unfold kernelRun0_A.sl.v52
  rfl

theorem runA_v53 : kernelRun0_A.sl.v53 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2 := by
  unfold kernelRun0_A.sl.v53
  rfl

theorem runA_v54 : kernelRun0_A.sl.v54 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3 := by
  unfold kernelRun0_A.sl.v54
  rfl

theorem runA_v55 : kernelRun0_A.sl.v55 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4 := by
  unfold kernelRun0_A.sl.v55
  rfl

theorem runA_v56 : kernelRun0_A.sl.v56 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5 := by
  unfold kernelRun0_A.sl.v56
  rfl

theorem runA_v57 : kernelRun0_A.sl.v57 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6 := by
  unfold kernelRun0_A.sl.v57
  rfl

theorem runA_v58 : kernelRun0_A.sl.v58 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7 := by
  unfold kernelRun0_A.sl.v58
  rfl

theorem runA_v59 : kernelRun0_A.sl.v59 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0 := by
  unfold kernelRun0_A.sl.v59
  rfl

theorem runA_v60 : kernelRun0_A.sl.v60 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1 := by
  unfold kernelRun0_A.sl.v60
  rfl

theorem runA_v61 : kernelRun0_A.sl.v61 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2 := by
  unfold kernelRun0_A.sl.v61
  rfl

theorem runA_v62 : kernelRun0_A.sl.v62 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3 := by
  unfold kernelRun0_A.sl.v62
  rfl

theorem runA_v63 : kernelRun0_A.sl.v63 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4 := by
  unfold kernelRun0_A.sl.v63
  rfl

theorem runA_v64 : kernelRun0_A.sl.v64 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5 := by
  unfold kernelRun0_A.sl.v64
  rfl

theorem runA_v65 : kernelRun0_A.sl.v65 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6 := by
  unfold kernelRun0_A.sl.v65
  rfl

theorem runA_v66 : kernelRun0_A.sl.v66 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7 := by
  unfold kernelRun0_A.sl.v66
  rfl

/-! The blocks that the step stores for the diagonal tile. -/

theorem runA_M0 : kernelRun0_A.sl.v303 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max256 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (scoresD256 i arg4 arg6 arg13 (harg4.unread x1) (harg6.unread x3) (qArr arg3 harg3 arg13 x0) 0)) shapeCasts_S256x128_S256x128 := by
  simp only [kernelRun0_A.sl.v303, kernelRun0_A.sl.r_5, runA_v43, kernelRun0_A.sl.v70, runA_v67, kernelRun0_A.sl.cst_67]
  rfl

theorem runA_L0 : kernelRun0_A.sl.v306 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum256 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (scoresD256 i arg4 arg6 arg13 (harg4.unread x1) (harg6.unread x3) (qArr arg3 harg3 arg13 x0) 0)) shapeCasts_S256x128_S256x128 := by
  simp only [kernelRun0_A.sl.v306, kernelRun0_A.sl.r_9, kernelRun0_A.sl.r_7, kernelRun0_A.sl.r_8, runA_v43, kernelRun0_A.sl.v70, runA_v51, runA_v67, kernelRun0_A.sl.cst_67]
  rfl

theorem runA_A0 : kernelRun0_A.sl.v311 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc256 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (scoresD256 i arg4 arg6 arg13 (harg4.unread x1) (harg6.unread x3) (qArr arg3 harg3 arg13 x0) 0) (rowsD256 arg5 (harg5.unread x2) i)) shapeCasts_S256x128_S256x128 := by
  simp only [kernelRun0_A.sl.v311, kernelRun0_A.sl.v308, kernelRun0_A.sl.v307, kernelRun0_A.sl.r_43, kernelRun0_A.sl.r_6, runA_v59, kernelRun0_A.sl.r_10, runA_v43, kernelRun0_A.sl.v70, kernelRun0_A.sl.r_7, runA_v67, kernelRun0_A.sl.cst_67]
  rfl

theorem runA_M1 : kernelRun0_A.sl.v314 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max512 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (scoresD512 i arg4 arg6 arg13 (harg4.unread x1) (harg6.unread x3) (qArr arg3 harg3 arg13 x0) 1)) shapeCasts_S256x128_S256x128 := by
  simp only [kernelRun0_A.sl.v314, kernelRun0_A.sl.r_11, runA_v44, kernelRun0_A.sl.v74, runA_v71, kernelRun0_A.sl.cst_71]
  rfl

theorem runA_L1 : kernelRun0_A.sl.v317 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum512 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (scoresD512 i arg4 arg6 arg13 (harg4.unread x1) (harg6.unread x3) (qArr arg3 harg3 arg13 x0) 1)) shapeCasts_S256x128_S256x128 := by
  simp only [kernelRun0_A.sl.v317, kernelRun0_A.sl.r_13, runA_v44, runA_v52, kernelRun0_A.sl.v74, runA_v71, kernelRun0_A.sl.cst_71]
  rfl

theorem runA_A1 : kernelRun0_A.sl.v322 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc512 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (scoresD512 i arg4 arg6 arg13 (harg4.unread x1) (harg6.unread x3) (qArr arg3 harg3 arg13 x0) 1) (rowsD512 arg5 (harg5.unread x2) i)) shapeCasts_S256x128_S256x128 := by
  simp only [kernelRun0_A.sl.v322, kernelRun0_A.sl.v319, kernelRun0_A.sl.v318, kernelRun0_A.sl.r_44, kernelRun0_A.sl.r_12, runA_v60, kernelRun0_A.sl.r_14, runA_v44, kernelRun0_A.sl.v74, runA_v71, kernelRun0_A.sl.cst_71]
  rfl

theorem runA_M2 : kernelRun0_A.sl.v325 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max768 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (scoresD768 i arg4 arg6 arg13 (harg4.unread x1) (harg6.unread x3) (qArr arg3 harg3 arg13 x0) 2)) shapeCasts_S256x128_S256x128 := by
  simp only [kernelRun0_A.sl.v325, kernelRun0_A.sl.r_15, runA_v45, kernelRun0_A.sl.v78, runA_v75, kernelRun0_A.sl.cst_75]
  rfl

theorem runA_L2 : kernelRun0_A.sl.v328 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum768 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (scoresD768 i arg4 arg6 arg13 (harg4.unread x1) (harg6.unread x3) (qArr arg3 harg3 arg13 x0) 2)) shapeCasts_S256x128_S256x128 := by
  simp only [kernelRun0_A.sl.v328, kernelRun0_A.sl.r_20, kernelRun0_A.sl.r_18, kernelRun0_A.sl.r_19, runA_v45, runA_v53, kernelRun0_A.sl.v78, runA_v75, kernelRun0_A.sl.cst_75]
  rfl

theorem runA_A2 : kernelRun0_A.sl.v333 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc768 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (scoresD768 i arg4 arg6 arg13 (harg4.unread x1) (harg6.unread x3) (qArr arg3 harg3 arg13 x0) 2) (rowsD768 arg5 (harg5.unread x2) i)) shapeCasts_S256x128_S256x128 := by
  simp only [kernelRun0_A.sl.v333, kernelRun0_A.sl.v330, kernelRun0_A.sl.v329, kernelRun0_A.sl.r_45, kernelRun0_A.sl.r_16, runA_v61, kernelRun0_A.sl.r_21, runA_v45, kernelRun0_A.sl.v78, kernelRun0_A.sl.r_17, runA_v75, kernelRun0_A.sl.cst_75]
  rfl

theorem runA_M3 : kernelRun0_A.sl.v336 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (scoresD1024 i arg4 arg6 arg13 (harg4.unread x1) (harg6.unread x3) (qArr arg3 harg3 arg13 x0) 3)) shapeCasts_S256x128_S256x128 := by
  simp only [kernelRun0_A.sl.v336, kernelRun0_A.sl.r_22, runA_v46, kernelRun0_A.sl.r, runA_v79]
  rfl

theorem runA_L3 : kernelRun0_A.sl.v339 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (scoresD1024 i arg4 arg6 arg13 (harg4.unread x1) (harg6.unread x3) (qArr arg3 harg3 arg13 x0) 3)) shapeCasts_S256x128_S256x128 := by
  simp only [kernelRun0_A.sl.v339, kernelRun0_A.sl.r_24, runA_v46, runA_v54, kernelRun0_A.sl.r, runA_v79]
  rfl

theorem runA_A3 : kernelRun0_A.sl.v344 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (scoresD1024 i arg4 arg6 arg13 (harg4.unread x1) (harg6.unread x3) (qArr arg3 harg3 arg13 x0) 3) (rowsD1024 arg5 (harg5.unread x2) i)) shapeCasts_S256x128_S256x128 := by
  simp only [kernelRun0_A.sl.v344, kernelRun0_A.sl.v341, kernelRun0_A.sl.v340, kernelRun0_A.sl.r_46, kernelRun0_A.sl.r_23, runA_v62, kernelRun0_A.sl.r_25, runA_v46, kernelRun0_A.sl.r, runA_v79]
  rfl

theorem runA_M4 : kernelRun0_A.sl.v347 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max256 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (scoresD256 i arg4 arg6 arg13 (harg4.unread x1) (harg6.unread x3) (qArr arg3 harg3 arg13 x0) 4)) shapeCasts_S256x128_S256x128 := by
  simp only [kernelRun0_A.sl.v347, kernelRun0_A.sl.r_26, runA_v47, kernelRun0_A.sl.r_1, runA_v83]
  rfl

theorem runA_L4 : kernelRun0_A.sl.v350 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum256 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (scoresD256 i arg4 arg6 arg13 (harg4.unread x1) (harg6.unread x3) (qArr arg3 harg3 arg13 x0) 4)) shapeCasts_S256x128_S256x128 := by
  simp only [kernelRun0_A.sl.v350, kernelRun0_A.sl.r_28, runA_v47, runA_v55, kernelRun0_A.sl.r_1, runA_v83]
  rfl

theorem runA_A4 : kernelRun0_A.sl.v355 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc256 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (scoresD256 i arg4 arg6 arg13 (harg4.unread x1) (harg6.unread x3) (qArr arg3 harg3 arg13 x0) 4) (rowsD256 arg5 (harg5.unread x2) i)) shapeCasts_S256x128_S256x128 := by
  simp only [kernelRun0_A.sl.v355, kernelRun0_A.sl.v352, kernelRun0_A.sl.v351, kernelRun0_A.sl.r_47, kernelRun0_A.sl.r_27, runA_v63, kernelRun0_A.sl.r_29, runA_v47, kernelRun0_A.sl.r_1, runA_v83]
  rfl

theorem runA_M5 : kernelRun0_A.sl.v358 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max512 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (scoresD512 i arg4 arg6 arg13 (harg4.unread x1) (harg6.unread x3) (qArr arg3 harg3 arg13 x0) 5)) shapeCasts_S256x128_S256x128 := by
  simp only [kernelRun0_A.sl.v358, kernelRun0_A.sl.r_30, runA_v48, kernelRun0_A.sl.r_2, runA_v87]
  rfl

theorem runA_L5 : kernelRun0_A.sl.v361 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum512 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (scoresD512 i arg4 arg6 arg13 (harg4.unread x1) (harg6.unread x3) (qArr arg3 harg3 arg13 x0) 5)) shapeCasts_S256x128_S256x128 := by
  simp only [kernelRun0_A.sl.v361, kernelRun0_A.sl.r_32, runA_v48, runA_v56, kernelRun0_A.sl.r_2, runA_v87]
  rfl

theorem runA_A5 : kernelRun0_A.sl.v366 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc512 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (scoresD512 i arg4 arg6 arg13 (harg4.unread x1) (harg6.unread x3) (qArr arg3 harg3 arg13 x0) 5) (rowsD512 arg5 (harg5.unread x2) i)) shapeCasts_S256x128_S256x128 := by
  simp only [kernelRun0_A.sl.v366, kernelRun0_A.sl.v363, kernelRun0_A.sl.v362, kernelRun0_A.sl.r_48, kernelRun0_A.sl.r_31, runA_v64, kernelRun0_A.sl.r_33, runA_v48, kernelRun0_A.sl.r_2, runA_v87]
  rfl

theorem runA_M6 : kernelRun0_A.sl.v369 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max768 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (scoresD768 i arg4 arg6 arg13 (harg4.unread x1) (harg6.unread x3) (qArr arg3 harg3 arg13 x0) 6)) shapeCasts_S256x128_S256x128 := by
  simp only [kernelRun0_A.sl.v369, kernelRun0_A.sl.r_34, runA_v49, kernelRun0_A.sl.r_3, runA_v91]
  rfl

theorem runA_L6 : kernelRun0_A.sl.v372 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum768 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (scoresD768 i arg4 arg6 arg13 (harg4.unread x1) (harg6.unread x3) (qArr arg3 harg3 arg13 x0) 6)) shapeCasts_S256x128_S256x128 := by
  simp only [kernelRun0_A.sl.v372, kernelRun0_A.sl.r_36, runA_v49, runA_v57, kernelRun0_A.sl.r_3, runA_v91]
  rfl

theorem runA_A6 : kernelRun0_A.sl.v377 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc768 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (scoresD768 i arg4 arg6 arg13 (harg4.unread x1) (harg6.unread x3) (qArr arg3 harg3 arg13 x0) 6) (rowsD768 arg5 (harg5.unread x2) i)) shapeCasts_S256x128_S256x128 := by
  simp only [kernelRun0_A.sl.v377, kernelRun0_A.sl.v374, kernelRun0_A.sl.v373, kernelRun0_A.sl.r_49, kernelRun0_A.sl.r_35, runA_v65, kernelRun0_A.sl.r_37, runA_v49, kernelRun0_A.sl.r_3, runA_v91]
  rfl

theorem runA_M7 : kernelRun0_A.sl.v380 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (scoresD1024 i arg4 arg6 arg13 (harg4.unread x1) (harg6.unread x3) (qArr arg3 harg3 arg13 x0) 7)) shapeCasts_S256x128_S256x128 := by
  simp only [kernelRun0_A.sl.v380, kernelRun0_A.sl.r_39, runA_v50, kernelRun0_A.sl.r_4, kernelRun0_A.sl.r_38, runA_v95]
  rfl

theorem runA_L7 : kernelRun0_A.sl.v383 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (scoresD1024 i arg4 arg6 arg13 (harg4.unread x1) (harg6.unread x3) (qArr arg3 harg3 arg13 x0) 7)) shapeCasts_S256x128_S256x128 := by
  simp only [kernelRun0_A.sl.v383, kernelRun0_A.sl.r_41, runA_v50, runA_v58, kernelRun0_A.sl.r_4, kernelRun0_A.sl.r_38, runA_v95]
  rfl

theorem runA_A7 : kernelRun0_A.sl.v388 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (scoresD1024 i arg4 arg6 arg13 (harg4.unread x1) (harg6.unread x3) (qArr arg3 harg3 arg13 x0) 7) (rowsD1024 arg5 (harg5.unread x2) i)) shapeCasts_S256x128_S256x128 := by
  simp only [kernelRun0_A.sl.v388, kernelRun0_A.sl.v385, kernelRun0_A.sl.v384, kernelRun0_A.sl.v300, kernelRun0_A.sl.r_40, runA_v66, kernelRun0_A.sl.r_42, kernelRun0_A.sl.cst_158, runA_v50, kernelRun0_A.sl.r_4, kernelRun0_A.sl.r_38, runA_v95]
  rfl

theorem runA_HS2_8 : kernelRun0_A.sl.HS2_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = pieces8 (diagL i arg4 arg6 arg13 (harg4.unread x1) (harg6.unread x3) (qArr arg3 harg3 arg13 x0) arg14 arg15 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2)) ++ ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ whole1 k0_pay250)) := by
  simp only [kernelRun0_A.sl.HS2_8, kernelRun0_A.sl.HS2_7, kernelRun0_A.sl.HS2_6, kernelRun0_A.sl.HS2_5, kernelRun0_A.sl.HS2_4, kernelRun0_A.sl.HS2_3, kernelRun0_A.sl.HS2_2, kernelRun0_A.sl.HS2_1_1, runA_L0, runA_L1, runA_L2, runA_L3, runA_L4, runA_L5, runA_L6, runA_L7]
  rfl

theorem runA_HS3_8 : kernelRun0_A.sl.HS3_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = pieces8 (diagA i arg4 arg5 arg6 arg13 (harg4.unread x1) (harg5.unread x2) (harg6.unread x3) (qArr arg3 harg3 arg13 x0) arg14 arg16 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2)) ++ ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ whole1 k0_pay251)) := by
  simp only [kernelRun0_A.sl.HS3_8, kernelRun0_A.sl.HS3_7, kernelRun0_A.sl.HS3_6, kernelRun0_A.sl.HS3_5, kernelRun0_A.sl.HS3_4, kernelRun0_A.sl.HS3_3, kernelRun0_A.sl.HS3_2, kernelRun0_A.sl.HS3_1_1, runA_A0, runA_A1, runA_A2, runA_A3, runA_A4, runA_A5, runA_A6, runA_A7]
  rfl

theorem runA_v389 : kernelRun0_A.sl.v389 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = ldAll arg15 (arg15.view.writes (Elt Ideal) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (pieces8 (diagL i arg4 arg6 arg13 (harg4.unread x1) (harg6.unread x3) (qArr arg3 harg3 arg13 x0) arg14 arg15 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2)))) := by
  unfold kernelRun0_A.sl.v389
  rw [runA_HS2_8]
  unfold View.readCov
  rw [View.writes_append]

theorem runA_v390 : kernelRun0_A.sl.v390 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 x3 = ldAll arg16 (arg16.view.writes (Elt Ideal) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (pieces8 (diagA i arg4 arg5 arg6 arg13 (harg4.unread x1) (harg5.unread x2) (harg6.unread x3) (qArr arg3 harg3 arg13 x0) arg14 arg16 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2)))) := by
  unfold kernelRun0_A.sl.v390
  rw [runA_HS3_8]
  unfold View.readCov
  rw [View.writes_append]

/-- The first query block of a head stores what the diagonal tile gives after the loops. -/
theorem runA_pieces (hc0 : ¬ cond0_0 i) :
    (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1
      = [⟨Rect.unit (s := S1024x128) ![0, 0] S1024x128.size inb_S1024x128_S1024x128_0_0, finish arg7 arg8 arg9 arg10 arg11 harg7 harg8 harg9 harg10 harg11 x4 x5 x6 x7 x8
        (ldAll arg16 (arg16.view.writes (Elt Ideal) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (pieces8 (diagA i arg4 arg5 arg6 arg13 (harg4.unread x1) (harg5.unread x2) (harg6.unread x3) (qArr arg3 harg3 arg13 x0) arg14 arg16 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2)))))
        (ldAll arg15 (arg15.view.writes (Elt Ideal) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (pieces8 (diagL i arg4 arg6 arg13 (harg4.unread x1) (harg6.unread x3) (qArr arg3 harg3 arg13 x0) arg14 arg15 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2)))))⟩] := by
  unfold kernelRun0_A
  simp only [kernelRun0_A.sl.r_51, kernelRun0_A.sl.v393, kernelRun0_A.sl.v396, kernelRun0_A.sl.r_50, kernelRun0_A.sl.v391, kernelRun0_A.sl.v392, kernelRun0_A.sl.v394, kernelRun0_A.sl.v395, runA_v390, runA_v389]

end

end Cert.Flash

end
-- ==== Proof.RunN.lean ====
/-
The step of a later query block of a head: each block that it stores for the near tile.
-/
module
public import proofs.«01_k».proof.Proof.Gen.KernelIdeal
public import proofs.«01_k».proof.Proof.RowStep
public import proofs.«01_k».proof.Proof.Run
public import proofs.«01_k».proof.Proof.Gen.KernelIdeal.Frame.RunB
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (hc0 : cond0_0 i) (x0 : Vec Ideal S1024x128 .bf16) (x1 : Vec Ideal S16384x128 .bf16) (x2 : Vec Ideal S16384x128 .bf16) (x3 : Vec Ideal S1x256x384 .f32) (x4 : Vec Ideal S1x64 .f32) (x5 : Vec Ideal S1x64 .f32) (x6 : Vec Ideal S1x64 .f32) (x7 : Vec Ideal S1x64 .f32) (x8 : Vec Ideal S1x128 .f32)

/-! The blocks of the scaled queries that the step loads. -/

theorem runB_v79 : kernelRun0_B.sl.v79 (F := Ideal) c arg3 harg3 arg13 x0 = rdBlk arg13 (qArr arg3 harg3 arg13 x0) 3 := by
  unfold kernelRun0_B.sl.v79
  rfl

theorem runB_v83 : kernelRun0_B.sl.v83 (F := Ideal) c arg3 harg3 arg13 x0 = rdBlk arg13 (qArr arg3 harg3 arg13 x0) 4 := by
  unfold kernelRun0_B.sl.v83
  rfl

theorem runB_v87 : kernelRun0_B.sl.v87 (F := Ideal) c arg3 harg3 arg13 x0 = rdBlk arg13 (qArr arg3 harg3 arg13 x0) 5 := by
  unfold kernelRun0_B.sl.v87
  rfl

theorem runB_v464 : kernelRun0_B.sl.v464 (F := Ideal) c arg3 harg3 arg13 x0 = rdBlk arg13 (qArr arg3 harg3 arg13 x0) 0 := by
  unfold kernelRun0_B.sl.v464
  rfl

theorem runB_v468 : kernelRun0_B.sl.v468 (F := Ideal) c arg3 harg3 arg13 x0 = rdBlk arg13 (qArr arg3 harg3 arg13 x0) 1 := by
  unfold kernelRun0_B.sl.v468
  rfl

theorem runB_v472 : kernelRun0_B.sl.v472 (F := Ideal) c arg3 harg3 arg13 x0 = rdBlk arg13 (qArr arg3 harg3 arg13 x0) 2 := by
  unfold kernelRun0_B.sl.v472
  rfl

theorem runB_v476 : kernelRun0_B.sl.v476 (F := Ideal) c arg3 harg3 arg13 x0 = rdBlk arg13 (qArr arg3 harg3 arg13 x0) 3 := by
  unfold kernelRun0_B.sl.v476
  rfl

theorem runB_v480 : kernelRun0_B.sl.v480 (F := Ideal) c arg3 harg3 arg13 x0 = rdBlk arg13 (qArr arg3 harg3 arg13 x0) 4 := by
  unfold kernelRun0_B.sl.v480
  rfl

theorem runB_v484 : kernelRun0_B.sl.v484 (F := Ideal) c arg3 harg3 arg13 x0 = rdBlk arg13 (qArr arg3 harg3 arg13 x0) 5 := by
  unfold kernelRun0_B.sl.v484
  rfl

theorem runB_v488 : kernelRun0_B.sl.v488 (F := Ideal) c arg3 harg3 arg13 x0 = rdBlk arg13 (qArr arg3 harg3 arg13 x0) 6 := by
  unfold kernelRun0_B.sl.v488
  rfl

theorem runB_v492 : kernelRun0_B.sl.v492 (F := Ideal) c arg3 harg3 arg13 x0 = rdBlk arg13 (qArr arg3 harg3 arg13 x0) 7 := by
  unfold kernelRun0_B.sl.v492
  rfl

/-! The blocks of the running arrays that the step loads for the near tile. -/

theorem runB_v440 : kernelRun0_B.sl.v440 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0 := by
  unfold kernelRun0_B.sl.v440
  rfl

theorem runB_v441 : kernelRun0_B.sl.v441 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1 := by
  unfold kernelRun0_B.sl.v441
  rfl

theorem runB_v442 : kernelRun0_B.sl.v442 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2 := by
  unfold kernelRun0_B.sl.v442
  rfl

theorem runB_v443 : kernelRun0_B.sl.v443 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3 := by
  unfold kernelRun0_B.sl.v443
  rfl

theorem runB_v444 : kernelRun0_B.sl.v444 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4 := by
  unfold kernelRun0_B.sl.v444
  rfl

theorem runB_v445 : kernelRun0_B.sl.v445 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5 := by
  unfold kernelRun0_B.sl.v445
  rfl

theorem runB_v446 : kernelRun0_B.sl.v446 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6 := by
  unfold kernelRun0_B.sl.v446
  rfl

theorem runB_v447 : kernelRun0_B.sl.v447 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7 := by
  unfold kernelRun0_B.sl.v447
  rfl

theorem runB_v448 : kernelRun0_B.sl.v448 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0 := by
  unfold kernelRun0_B.sl.v448
  rfl

theorem runB_v449 : kernelRun0_B.sl.v449 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1 := by
  unfold kernelRun0_B.sl.v449
  rfl

theorem runB_v450 : kernelRun0_B.sl.v450 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2 := by
  unfold kernelRun0_B.sl.v450
  rfl

theorem runB_v451 : kernelRun0_B.sl.v451 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3 := by
  unfold kernelRun0_B.sl.v451
  rfl

theorem runB_v452 : kernelRun0_B.sl.v452 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4 := by
  unfold kernelRun0_B.sl.v452
  rfl

theorem runB_v453 : kernelRun0_B.sl.v453 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5 := by
  unfold kernelRun0_B.sl.v453
  rfl

theorem runB_v454 : kernelRun0_B.sl.v454 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6 := by
  unfold kernelRun0_B.sl.v454
  rfl

theorem runB_v455 : kernelRun0_B.sl.v455 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7 := by
  unfold kernelRun0_B.sl.v455
  rfl

theorem runB_v456 : kernelRun0_B.sl.v456 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0 := by
  unfold kernelRun0_B.sl.v456
  rfl

theorem runB_v457 : kernelRun0_B.sl.v457 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1 := by
  unfold kernelRun0_B.sl.v457
  rfl

theorem runB_v458 : kernelRun0_B.sl.v458 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2 := by
  unfold kernelRun0_B.sl.v458
  rfl

theorem runB_v459 : kernelRun0_B.sl.v459 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3 := by
  unfold kernelRun0_B.sl.v459
  rfl

theorem runB_v460 : kernelRun0_B.sl.v460 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4 := by
  unfold kernelRun0_B.sl.v460
  rfl

theorem runB_v461 : kernelRun0_B.sl.v461 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5 := by
  unfold kernelRun0_B.sl.v461
  rfl

theorem runB_v462 : kernelRun0_B.sl.v462 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6 := by
  unfold kernelRun0_B.sl.v462
  rfl

theorem runB_v463 : kernelRun0_B.sl.v463 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2 = rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7 := by
  unfold kernelRun0_B.sl.v463
  rfl

/-! The blocks that the step stores for the near tile. -/

theorem runB_NM0 : kernelRun0_B.sl.v658 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (scoresNB i hc0 arg4 arg6 arg13 (harg4.unread x1) (harg6.unread x3) (qArr arg3 harg3 arg13 x0) 0)) shapeCasts_S256x128_S256x128 := by
  simp only [kernelRun0_B.sl.v658, kernelRun0_B.sl.r_3, runB_v440, kernelRun0_B.sl.v467, runB_v464, kernelRun0_B.sl.cst_283]
  rfl

theorem runB_NL0 : kernelRun0_B.sl.v661 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (scoresNB i hc0 arg4 arg6 arg13 (harg4.unread x1) (harg6.unread x3) (qArr arg3 harg3 arg13 x0) 0)) shapeCasts_S256x128_S256x128 := by
  simp only [kernelRun0_B.sl.v661, kernelRun0_B.sl.r_5, runB_v440, runB_v448, kernelRun0_B.sl.v467, runB_v464, kernelRun0_B.sl.cst_283]
  rfl

theorem runB_NA0 : kernelRun0_B.sl.v666 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 0) (scoresNB i hc0 arg4 arg6 arg13 (harg4.unread x1) (harg6.unread x3) (qArr arg3 harg3 arg13 x0) 0) (rowsN arg5 (harg5.unread x2) i hc0)) shapeCasts_S256x128_S256x128 := by
  simp only [kernelRun0_B.sl.v666, kernelRun0_B.sl.v663, kernelRun0_B.sl.v662, kernelRun0_B.sl.v634, kernelRun0_B.sl.r_4, runB_v456, kernelRun0_B.sl.r_6, kernelRun0_B.sl.cst_337, runB_v440, kernelRun0_B.sl.v467, runB_v464, kernelRun0_B.sl.cst_283]
  rfl

theorem runB_NM1 : kernelRun0_B.sl.v669 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (scoresN i hc0 arg4 arg13 (harg4.unread x1) (qArr arg3 harg3 arg13 x0) 1)) shapeCasts_S256x128_S256x128 := by
  simp only [kernelRun0_B.sl.v669, kernelRun0_B.sl.r_7, runB_v441, kernelRun0_B.sl.v471, runB_v468, kernelRun0_B.sl.cst_283]
  rfl

theorem runB_NL1 : kernelRun0_B.sl.v672 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (scoresN i hc0 arg4 arg13 (harg4.unread x1) (qArr arg3 harg3 arg13 x0) 1)) shapeCasts_S256x128_S256x128 := by
  simp only [kernelRun0_B.sl.v672, kernelRun0_B.sl.r_10, runB_v449, kernelRun0_B.sl.r_8, kernelRun0_B.sl.r_9, runB_v441, kernelRun0_B.sl.v471, runB_v468, kernelRun0_B.sl.cst_283]
  rfl

theorem runB_NA1 : kernelRun0_B.sl.v677 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 1) (scoresN i hc0 arg4 arg13 (harg4.unread x1) (qArr arg3 harg3 arg13 x0) 1) (rowsN arg5 (harg5.unread x2) i hc0)) shapeCasts_S256x128_S256x128 := by
  simp only [kernelRun0_B.sl.v677, kernelRun0_B.sl.v674, kernelRun0_B.sl.v673, kernelRun0_B.sl.v637, kernelRun0_B.sl.r_8, runB_v457, kernelRun0_B.sl.r_11, kernelRun0_B.sl.cst_337, runB_v441, kernelRun0_B.sl.v471, kernelRun0_B.sl.r_9, runB_v468, kernelRun0_B.sl.cst_283]
  rfl

theorem runB_NM2 : kernelRun0_B.sl.v680 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (scoresN i hc0 arg4 arg13 (harg4.unread x1) (qArr arg3 harg3 arg13 x0) 2)) shapeCasts_S256x128_S256x128 := by
  simp only [kernelRun0_B.sl.v680, kernelRun0_B.sl.r_12, runB_v442, kernelRun0_B.sl.v475, runB_v472, kernelRun0_B.sl.cst_283]
  rfl

theorem runB_NL2 : kernelRun0_B.sl.v683 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (scoresN i hc0 arg4 arg13 (harg4.unread x1) (qArr arg3 harg3 arg13 x0) 2)) shapeCasts_S256x128_S256x128 := by
  simp only [kernelRun0_B.sl.v683, kernelRun0_B.sl.r_14, runB_v442, runB_v450, kernelRun0_B.sl.v475, runB_v472, kernelRun0_B.sl.cst_283]
  rfl

theorem runB_NA2 : kernelRun0_B.sl.v688 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 2) (scoresN i hc0 arg4 arg13 (harg4.unread x1) (qArr arg3 harg3 arg13 x0) 2) (rowsN arg5 (harg5.unread x2) i hc0)) shapeCasts_S256x128_S256x128 := by
  simp only [kernelRun0_B.sl.v688, kernelRun0_B.sl.v685, kernelRun0_B.sl.v684, kernelRun0_B.sl.v640, kernelRun0_B.sl.r_13, runB_v458, kernelRun0_B.sl.r_15, kernelRun0_B.sl.cst_337, runB_v442, kernelRun0_B.sl.v475, runB_v472, kernelRun0_B.sl.cst_283]
  rfl

theorem runB_NM3 : kernelRun0_B.sl.v691 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (scoresN i hc0 arg4 arg13 (harg4.unread x1) (qArr arg3 harg3 arg13 x0) 3)) shapeCasts_S256x128_S256x128 := by
  simp only [kernelRun0_B.sl.v691, kernelRun0_B.sl.r_16, runB_v443, kernelRun0_B.sl.v479, runB_v476, kernelRun0_B.sl.cst_283]
  rfl

theorem runB_NL3 : kernelRun0_B.sl.v694 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (scoresN i hc0 arg4 arg13 (harg4.unread x1) (qArr arg3 harg3 arg13 x0) 3)) shapeCasts_S256x128_S256x128 := by
  simp only [kernelRun0_B.sl.v694, kernelRun0_B.sl.r_18, runB_v443, runB_v451, kernelRun0_B.sl.v479, runB_v476, kernelRun0_B.sl.cst_283]
  rfl

theorem runB_NA3 : kernelRun0_B.sl.v699 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 3) (scoresN i hc0 arg4 arg13 (harg4.unread x1) (qArr arg3 harg3 arg13 x0) 3) (rowsN arg5 (harg5.unread x2) i hc0)) shapeCasts_S256x128_S256x128 := by
  simp only [kernelRun0_B.sl.v699, kernelRun0_B.sl.v696, kernelRun0_B.sl.v695, kernelRun0_B.sl.v643, kernelRun0_B.sl.r_17, runB_v459, kernelRun0_B.sl.r_19, kernelRun0_B.sl.cst_337, runB_v443, kernelRun0_B.sl.v479, runB_v476, kernelRun0_B.sl.cst_283]
  rfl

theorem runB_NM4 : kernelRun0_B.sl.v702 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (scoresNB i hc0 arg4 arg6 arg13 (harg4.unread x1) (harg6.unread x3) (qArr arg3 harg3 arg13 x0) 4)) shapeCasts_S256x128_S256x128 := by
  simp only [kernelRun0_B.sl.v702, kernelRun0_B.sl.r_21, runB_v444, kernelRun0_B.sl.v483, runB_v480, kernelRun0_B.sl.cst_283]
  rfl

theorem runB_NL4 : kernelRun0_B.sl.v705 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (scoresNB i hc0 arg4 arg6 arg13 (harg4.unread x1) (harg6.unread x3) (qArr arg3 harg3 arg13 x0) 4)) shapeCasts_S256x128_S256x128 := by
  simp only [kernelRun0_B.sl.v705, kernelRun0_B.sl.v585, kernelRun0_B.sl.v581, kernelRun0_B.sl.v584, kernelRun0_B.sl.r_22, runB_v452, kernelRun0_B.sl.v583, runB_v444, kernelRun0_B.sl.v483, kernelRun0_B.sl.v582, runB_v480, kernelRun0_B.sl.cst_283, kernelRun0_B.sl.v580, kernelRun0_B.sl.v579, kernelRun0_B.sl.r_20, kernelRun0_B.sl.v578, kernelRun0_B.sl.r_21]
  rfl

theorem runB_NA4 : kernelRun0_B.sl.v710 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 4) (scoresNB i hc0 arg4 arg6 arg13 (harg4.unread x1) (harg6.unread x3) (qArr arg3 harg3 arg13 x0) 4) (rowsN arg5 (harg5.unread x2) i hc0)) shapeCasts_S256x128_S256x128 := by
  simp only [kernelRun0_B.sl.v710, kernelRun0_B.sl.v707, kernelRun0_B.sl.v706, kernelRun0_B.sl.v646, kernelRun0_B.sl.r_22, runB_v460, kernelRun0_B.sl.v586, kernelRun0_B.sl.cst_337, runB_v444, kernelRun0_B.sl.v483, kernelRun0_B.sl.v580, runB_v480, kernelRun0_B.sl.cst_283, kernelRun0_B.sl.v579, kernelRun0_B.sl.r_20, kernelRun0_B.sl.v578, kernelRun0_B.sl.r_21]
  rfl

theorem runB_NM5 : kernelRun0_B.sl.v713 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (scoresN i hc0 arg4 arg13 (harg4.unread x1) (qArr arg3 harg3 arg13 x0) 5)) shapeCasts_S256x128_S256x128 := by
  simp only [kernelRun0_B.sl.v713, kernelRun0_B.sl.v590, runB_v445, kernelRun0_B.sl.v589, kernelRun0_B.sl.v588, kernelRun0_B.sl.v587, kernelRun0_B.sl.r, runB_v484]
  rfl

theorem runB_NL5 : kernelRun0_B.sl.v716 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (scoresN i hc0 arg4 arg13 (harg4.unread x1) (qArr arg3 harg3 arg13 x0) 5)) shapeCasts_S256x128_S256x128 := by
  simp only [kernelRun0_B.sl.v716, kernelRun0_B.sl.v600, kernelRun0_B.sl.v596, kernelRun0_B.sl.v599, kernelRun0_B.sl.v592, runB_v453, kernelRun0_B.sl.v598, kernelRun0_B.sl.v591, kernelRun0_B.sl.v597, runB_v445, kernelRun0_B.sl.v590, kernelRun0_B.sl.v595, kernelRun0_B.sl.v589, kernelRun0_B.sl.v594, kernelRun0_B.sl.v588, kernelRun0_B.sl.r, kernelRun0_B.sl.v593, kernelRun0_B.sl.v587, runB_v484]
  rfl

theorem runB_NA5 : kernelRun0_B.sl.v721 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 5) (scoresN i hc0 arg4 arg13 (harg4.unread x1) (qArr arg3 harg3 arg13 x0) 5) (rowsN arg5 (harg5.unread x2) i hc0)) shapeCasts_S256x128_S256x128 := by
  simp only [kernelRun0_B.sl.v721, kernelRun0_B.sl.v718, kernelRun0_B.sl.v717, kernelRun0_B.sl.v649, kernelRun0_B.sl.v592, runB_v461, kernelRun0_B.sl.v601, kernelRun0_B.sl.cst_337, kernelRun0_B.sl.v591, kernelRun0_B.sl.v595, runB_v445, kernelRun0_B.sl.v590, kernelRun0_B.sl.v594, kernelRun0_B.sl.v589, kernelRun0_B.sl.r, kernelRun0_B.sl.v593, kernelRun0_B.sl.v588, runB_v484, kernelRun0_B.sl.v587]
  rfl

theorem runB_NM6 : kernelRun0_B.sl.v724 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (scoresN i hc0 arg4 arg13 (harg4.unread x1) (qArr arg3 harg3 arg13 x0) 6)) shapeCasts_S256x128_S256x128 := by
  simp only [kernelRun0_B.sl.v724, kernelRun0_B.sl.v605, runB_v446, kernelRun0_B.sl.v604, kernelRun0_B.sl.v603, kernelRun0_B.sl.v602, kernelRun0_B.sl.r_1, runB_v488]
  rfl

theorem runB_NL6 : kernelRun0_B.sl.v727 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (scoresN i hc0 arg4 arg13 (harg4.unread x1) (qArr arg3 harg3 arg13 x0) 6)) shapeCasts_S256x128_S256x128 := by
  simp only [kernelRun0_B.sl.v727, kernelRun0_B.sl.v615, kernelRun0_B.sl.v611, kernelRun0_B.sl.v614, kernelRun0_B.sl.v607, runB_v454, kernelRun0_B.sl.v613, kernelRun0_B.sl.v606, kernelRun0_B.sl.v612, runB_v446, kernelRun0_B.sl.v605, kernelRun0_B.sl.v610, kernelRun0_B.sl.v604, kernelRun0_B.sl.v609, kernelRun0_B.sl.v603, kernelRun0_B.sl.r_1, kernelRun0_B.sl.v608, kernelRun0_B.sl.v602, runB_v488]
  rfl

theorem runB_NA6 : kernelRun0_B.sl.v732 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 6) (scoresN i hc0 arg4 arg13 (harg4.unread x1) (qArr arg3 harg3 arg13 x0) 6) (rowsN arg5 (harg5.unread x2) i hc0)) shapeCasts_S256x128_S256x128 := by
  simp only [kernelRun0_B.sl.v732, kernelRun0_B.sl.v729, kernelRun0_B.sl.v728, kernelRun0_B.sl.v652, kernelRun0_B.sl.v607, runB_v462, kernelRun0_B.sl.v616, kernelRun0_B.sl.cst_337, kernelRun0_B.sl.v606, kernelRun0_B.sl.v610, runB_v446, kernelRun0_B.sl.v605, kernelRun0_B.sl.v609, kernelRun0_B.sl.v604, kernelRun0_B.sl.r_1, kernelRun0_B.sl.v608, kernelRun0_B.sl.v603, runB_v488, kernelRun0_B.sl.v602]
  rfl

theorem runB_NM7 : k0_pay254 (kernelRun0_B.sl.v620 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2) = shapeCast S256x128 (max1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (scoresN i hc0 arg4 arg13 (harg4.unread x1) (qArr arg3 harg3 arg13 x0) 7)) shapeCasts_S256x128_S256x128 := by
  simp only [kernelRun0_B.sl.v620, runB_v447, kernelRun0_B.sl.v619, kernelRun0_B.sl.v618, kernelRun0_B.sl.v617, kernelRun0_B.sl.r_2, runB_v492]
  rfl

theorem runB_NL7 : k0_pay255 (kernelRun0_B.sl.v630 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2) = shapeCast S256x128 (sum1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (rdBlk arg15 (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (scoresN i hc0 arg4 arg13 (harg4.unread x1) (qArr arg3 harg3 arg13 x0) 7)) shapeCasts_S256x128_S256x128 := by
  simp only [kernelRun0_B.sl.v630, kernelRun0_B.sl.v626, kernelRun0_B.sl.v629, kernelRun0_B.sl.v622, runB_v455, kernelRun0_B.sl.v628, kernelRun0_B.sl.v621, kernelRun0_B.sl.v627, runB_v447, kernelRun0_B.sl.v620, kernelRun0_B.sl.v625, kernelRun0_B.sl.v619, kernelRun0_B.sl.v624, kernelRun0_B.sl.v618, kernelRun0_B.sl.r_2, kernelRun0_B.sl.v623, kernelRun0_B.sl.v617, runB_v492]
  rfl

theorem runB_NA7 : k0_pay256 (kernelRun0_B.sl.v463 (F := Ideal) c i arg3 harg3 arg4 harg4 arg5 harg5 arg6 harg6 arg7 harg7 arg8 harg8 arg9 harg9 arg10 harg10 arg11 harg11 arg12 harg12 arg13 harg13 arg14 harg14 arg15 harg15 arg16 harg16 x0 x1 x2) (kernelRun0_B.sl.v622 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2) (kernelRun0_B.sl.v655 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2) = shapeCast S256x128 (acc1024 (rdBlk arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (rdBlk arg16 (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2) 7) (scoresN i hc0 arg4 arg13 (harg4.unread x1) (qArr arg3 harg3 arg13 x0) 7) (rowsN arg5 (harg5.unread x2) i hc0)) shapeCasts_S256x128_S256x128 := by
  simp only [runB_v463, kernelRun0_B.sl.v622, kernelRun0_B.sl.v621, runB_v447, kernelRun0_B.sl.v620, kernelRun0_B.sl.v619, kernelRun0_B.sl.v618, kernelRun0_B.sl.v617, kernelRun0_B.sl.r_2, runB_v492, kernelRun0_B.sl.v655, kernelRun0_B.sl.v631, kernelRun0_B.sl.cst_337, kernelRun0_B.sl.v625, kernelRun0_B.sl.v624, kernelRun0_B.sl.v623]
  rfl

end

end Cert.Flash

end
-- ==== Proof.RunB.lean ====
/-
The step of a later query block of a head: each block that it stores for the diagonal tile, and what it stores at the end.
-/
module
public import proofs.«01_k».proof.Proof.Gen.KernelIdeal
public import proofs.«01_k».proof.Proof.RowStep
public import proofs.«01_k».proof.Proof.RunN
public import proofs.«01_k».proof.Proof.Block
public import proofs.«01_k».proof.Proof.Gen.KernelIdeal.Loops
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (hc0 : cond0_0 i) (x0 : Vec Ideal S1024x128 .bf16) (x1 : Vec Ideal S16384x128 .bf16) (x2 : Vec Ideal S16384x128 .bf16) (x3 : Vec Ideal S1x256x384 .f32) (x4 : Vec Ideal S1x64 .f32) (x5 : Vec Ideal S1x64 .f32) (x6 : Vec Ideal S1x64 .f32) (x7 : Vec Ideal S1x64 .f32) (x8 : Vec Ideal S1x128 .f32)

/-! The blocks of the running arrays that the step loads for the diagonal tile. -/

theorem runB_HS1_8 : kernelRun0_B.sl.HS1_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = pieces8 (nearM i hc0 arg4 arg6 arg13 (harg4.unread x1) (harg6.unread x3) (qArr arg3 harg3 arg13 x0) arg14 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2)) ++ ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).1 ++ whole1 k0_pay249)) := by
  simp only [kernelRun0_B.sl.HS1_8, kernelRun0_B.sl.HS1_6, kernelRun0_B.sl.HS1_5, kernelRun0_B.sl.HS1_4, kernelRun0_B.sl.HS1_3, kernelRun0_B.sl.HS1_2, kernelRun0_B.sl.HS1_1_1, runB_NM0, runB_NM1, runB_NM2, runB_NM3, runB_NM4, runB_NM5, runB_NM6, runB_NM7]
  rfl

theorem runB_HS2_8 : kernelRun0_B.sl.HS2_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = pieces8 (nearL i hc0 arg4 arg6 arg13 (harg4.unread x1) (harg6.unread x3) (qArr arg3 harg3 arg13 x0) arg14 arg15 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2)) ++ ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ whole1 k0_pay250)) := by
  simp only [kernelRun0_B.sl.HS2_8, kernelRun0_B.sl.HS2_6, kernelRun0_B.sl.HS2_5, kernelRun0_B.sl.HS2_4, kernelRun0_B.sl.HS2_3, kernelRun0_B.sl.HS2_2, kernelRun0_B.sl.HS2_1_1, runB_NL0, runB_NL1, runB_NL2, runB_NL3, runB_NL4, runB_NL5, runB_NL6, runB_NL7]
  rfl

theorem runB_HS3_8 : kernelRun0_B.sl.HS3_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = pieces8 (nearA i hc0 arg4 arg5 arg6 arg13 (harg4.unread x1) (harg5.unread x2) (harg6.unread x3) (qArr arg3 harg3 arg13 x0) arg14 arg16 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2)) ++ ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ whole1 k0_pay251)) := by
  simp only [kernelRun0_B.sl.HS3_8, kernelRun0_B.sl.HS3_6, kernelRun0_B.sl.HS3_5, kernelRun0_B.sl.HS3_4, kernelRun0_B.sl.HS3_3, kernelRun0_B.sl.HS3_2, kernelRun0_B.sl.HS3_1_1, runB_NA0, runB_NA1, runB_NA2, runB_NA3, runB_NA4, runB_NA5, runB_NA6, runB_NA7]
  rfl

theorem runB_v43 : kernelRun0_B.sl.v43 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0 := by
  unfold kernelRun0_B.sl.v43
  rw [runB_HS1_8]
  unfold View.readCov
  rw [View.writes_append]
  rfl

theorem runB_v44 : kernelRun0_B.sl.v44 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1 := by
  unfold kernelRun0_B.sl.v44
  rw [runB_HS1_8]
  unfold View.readCov
  rw [View.writes_append]
  rfl

theorem runB_v45 : kernelRun0_B.sl.v45 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2 := by
  unfold kernelRun0_B.sl.v45
  rw [runB_HS1_8]
  unfold View.readCov
  rw [View.writes_append]
  rfl

theorem runB_v46 : kernelRun0_B.sl.v46 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3 := by
  unfold kernelRun0_B.sl.v46
  rw [runB_HS1_8]
  unfold View.readCov
  rw [View.writes_append]
  rfl

theorem runB_v47 : kernelRun0_B.sl.v47 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4 := by
  unfold kernelRun0_B.sl.v47
  rw [runB_HS1_8]
  unfold View.readCov
  rw [View.writes_append]
  rfl

theorem runB_v48 : kernelRun0_B.sl.v48 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5 := by
  unfold kernelRun0_B.sl.v48
  rw [runB_HS1_8]
  unfold View.readCov
  rw [View.writes_append]
  rfl

theorem runB_v49 : kernelRun0_B.sl.v49 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6 := by
  unfold kernelRun0_B.sl.v49
  rw [runB_HS1_8]
  unfold View.readCov
  rw [View.writes_append]
  rfl

theorem runB_v50 : kernelRun0_B.sl.v50 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7 := by
  unfold kernelRun0_B.sl.v50
  rw [runB_HS1_8]
  unfold View.readCov
  rw [View.writes_append]
  rfl

theorem runB_v51 : kernelRun0_B.sl.v51 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0 := by
  unfold kernelRun0_B.sl.v51
  rw [runB_HS2_8]
  unfold View.readCov
  rw [View.writes_append]
  rfl

theorem runB_v52 : kernelRun0_B.sl.v52 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1 := by
  unfold kernelRun0_B.sl.v52
  rw [runB_HS2_8]
  unfold View.readCov
  rw [View.writes_append]
  rfl

theorem runB_v53 : kernelRun0_B.sl.v53 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2 := by
  unfold kernelRun0_B.sl.v53
  rw [runB_HS2_8]
  unfold View.readCov
  rw [View.writes_append]
  rfl

theorem runB_v54 : kernelRun0_B.sl.v54 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3 := by
  unfold kernelRun0_B.sl.v54
  rw [runB_HS2_8]
  unfold View.readCov
  rw [View.writes_append]
  rfl

theorem runB_v55 : kernelRun0_B.sl.v55 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4 := by
  unfold kernelRun0_B.sl.v55
  rw [runB_HS2_8]
  unfold View.readCov
  rw [View.writes_append]
  rfl

theorem runB_v56 : kernelRun0_B.sl.v56 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5 := by
  unfold kernelRun0_B.sl.v56
  rw [runB_HS2_8]
  unfold View.readCov
  rw [View.writes_append]
  rfl

theorem runB_v57 : kernelRun0_B.sl.v57 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6 := by
  unfold kernelRun0_B.sl.v57
  rw [runB_HS2_8]
  unfold View.readCov
  rw [View.writes_append]
  rfl

theorem runB_v58 : kernelRun0_B.sl.v58 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7 := by
  unfold kernelRun0_B.sl.v58
  rw [runB_HS2_8]
  unfold View.readCov
  rw [View.writes_append]
  rfl

theorem runB_v59 : kernelRun0_B.sl.v59 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0 := by
  unfold kernelRun0_B.sl.v59
  rw [runB_HS3_8]
  unfold View.readCov
  rw [View.writes_append]
  rfl

theorem runB_v60 : kernelRun0_B.sl.v60 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1 := by
  unfold kernelRun0_B.sl.v60
  rw [runB_HS3_8]
  unfold View.readCov
  rw [View.writes_append]
  rfl

theorem runB_v61 : kernelRun0_B.sl.v61 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2 := by
  unfold kernelRun0_B.sl.v61
  rw [runB_HS3_8]
  unfold View.readCov
  rw [View.writes_append]
  rfl

theorem runB_v62 : kernelRun0_B.sl.v62 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3 := by
  unfold kernelRun0_B.sl.v62
  rw [runB_HS3_8]
  unfold View.readCov
  rw [View.writes_append]
  rfl

theorem runB_v63 : kernelRun0_B.sl.v63 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4 := by
  unfold kernelRun0_B.sl.v63
  rw [runB_HS3_8]
  unfold View.readCov
  rw [View.writes_append]
  rfl

theorem runB_v64 : kernelRun0_B.sl.v64 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5 := by
  unfold kernelRun0_B.sl.v64
  rw [runB_HS3_8]
  unfold View.readCov
  rw [View.writes_append]
  rfl

theorem runB_v65 : kernelRun0_B.sl.v65 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6 := by
  unfold kernelRun0_B.sl.v65
  rw [runB_HS3_8]
  unfold View.readCov
  rw [View.writes_append]
  rfl

theorem runB_v66 : kernelRun0_B.sl.v66 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7 := by
  unfold kernelRun0_B.sl.v66
  rw [runB_HS3_8]
  unfold View.readCov
  rw [View.writes_append]
  rfl

/-! The blocks that the step stores for the diagonal tile. -/

theorem runB_M0 : kernelRun0_B.sl.v303 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max256 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0) (scoresD256 i arg4 arg6 arg13 (harg4.unread x1) (harg6.unread x3) (qArr arg3 harg3 arg13 x0) 0)) shapeCasts_S256x128_S256x128 := by
  simp only [kernelRun0_B.sl.v303, kernelRun0_B.sl.r_28, runB_v43, kernelRun0_B.sl.v70, runB_v464, kernelRun0_B.sl.cst_67]
  rfl

theorem runB_L0 : kernelRun0_B.sl.v306 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum256 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0) (scoresD256 i arg4 arg6 arg13 (harg4.unread x1) (harg6.unread x3) (qArr arg3 harg3 arg13 x0) 0)) shapeCasts_S256x128_S256x128 := by
  simp only [kernelRun0_B.sl.v306, kernelRun0_B.sl.r_32, kernelRun0_B.sl.r_30, kernelRun0_B.sl.r_31, runB_v43, kernelRun0_B.sl.v70, runB_v51, runB_v464, kernelRun0_B.sl.cst_67]
  rfl

theorem runB_A0 : kernelRun0_B.sl.v311 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc256 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 0) (scoresD256 i arg4 arg6 arg13 (harg4.unread x1) (harg6.unread x3) (qArr arg3 harg3 arg13 x0) 0) (rowsD256 arg5 (harg5.unread x2) i)) shapeCasts_S256x128_S256x128 := by
  simp only [kernelRun0_B.sl.v311, kernelRun0_B.sl.v308, kernelRun0_B.sl.v307, kernelRun0_B.sl.r_66, kernelRun0_B.sl.r_29, runB_v59, kernelRun0_B.sl.r_33, runB_v43, kernelRun0_B.sl.v70, kernelRun0_B.sl.r_30, runB_v464, kernelRun0_B.sl.cst_67]
  rfl

theorem runB_M1 : kernelRun0_B.sl.v314 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max512 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1) (scoresD512 i arg4 arg6 arg13 (harg4.unread x1) (harg6.unread x3) (qArr arg3 harg3 arg13 x0) 1)) shapeCasts_S256x128_S256x128 := by
  simp only [kernelRun0_B.sl.v314, kernelRun0_B.sl.r_34, runB_v44, kernelRun0_B.sl.v74, runB_v468, kernelRun0_B.sl.cst_71]
  rfl

theorem runB_L1 : kernelRun0_B.sl.v317 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum512 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1) (scoresD512 i arg4 arg6 arg13 (harg4.unread x1) (harg6.unread x3) (qArr arg3 harg3 arg13 x0) 1)) shapeCasts_S256x128_S256x128 := by
  simp only [kernelRun0_B.sl.v317, kernelRun0_B.sl.r_36, runB_v44, runB_v52, kernelRun0_B.sl.v74, runB_v468, kernelRun0_B.sl.cst_71]
  rfl

theorem runB_A1 : kernelRun0_B.sl.v322 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc512 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 1) (scoresD512 i arg4 arg6 arg13 (harg4.unread x1) (harg6.unread x3) (qArr arg3 harg3 arg13 x0) 1) (rowsD512 arg5 (harg5.unread x2) i)) shapeCasts_S256x128_S256x128 := by
  simp only [kernelRun0_B.sl.v322, kernelRun0_B.sl.v319, kernelRun0_B.sl.v318, kernelRun0_B.sl.r_67, kernelRun0_B.sl.r_35, runB_v60, kernelRun0_B.sl.r_37, runB_v44, kernelRun0_B.sl.v74, runB_v468, kernelRun0_B.sl.cst_71]
  rfl

theorem runB_M2 : kernelRun0_B.sl.v325 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max768 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2) (scoresD768 i arg4 arg6 arg13 (harg4.unread x1) (harg6.unread x3) (qArr arg3 harg3 arg13 x0) 2)) shapeCasts_S256x128_S256x128 := by
  simp only [kernelRun0_B.sl.v325, kernelRun0_B.sl.r_38, runB_v45, kernelRun0_B.sl.v78, runB_v472, kernelRun0_B.sl.cst_75]
  rfl

theorem runB_L2 : kernelRun0_B.sl.v328 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum768 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2) (scoresD768 i arg4 arg6 arg13 (harg4.unread x1) (harg6.unread x3) (qArr arg3 harg3 arg13 x0) 2)) shapeCasts_S256x128_S256x128 := by
  simp only [kernelRun0_B.sl.v328, kernelRun0_B.sl.r_43, kernelRun0_B.sl.r_41, kernelRun0_B.sl.r_42, runB_v45, runB_v53, kernelRun0_B.sl.v78, runB_v472, kernelRun0_B.sl.cst_75]
  rfl

theorem runB_A2 : kernelRun0_B.sl.v333 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc768 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 2) (scoresD768 i arg4 arg6 arg13 (harg4.unread x1) (harg6.unread x3) (qArr arg3 harg3 arg13 x0) 2) (rowsD768 arg5 (harg5.unread x2) i)) shapeCasts_S256x128_S256x128 := by
  simp only [kernelRun0_B.sl.v333, kernelRun0_B.sl.v330, kernelRun0_B.sl.v329, kernelRun0_B.sl.r_68, kernelRun0_B.sl.r_39, runB_v61, kernelRun0_B.sl.r_44, runB_v45, kernelRun0_B.sl.v78, kernelRun0_B.sl.r_40, runB_v472, kernelRun0_B.sl.cst_75]
  rfl

theorem runB_M3 : kernelRun0_B.sl.v336 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max1024 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3) (scoresD1024 i arg4 arg6 arg13 (harg4.unread x1) (harg6.unread x3) (qArr arg3 harg3 arg13 x0) 3)) shapeCasts_S256x128_S256x128 := by
  simp only [kernelRun0_B.sl.v336, kernelRun0_B.sl.r_45, runB_v46, kernelRun0_B.sl.r_23, runB_v79]
  rfl

theorem runB_L3 : kernelRun0_B.sl.v339 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum1024 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3) (scoresD1024 i arg4 arg6 arg13 (harg4.unread x1) (harg6.unread x3) (qArr arg3 harg3 arg13 x0) 3)) shapeCasts_S256x128_S256x128 := by
  simp only [kernelRun0_B.sl.v339, kernelRun0_B.sl.r_47, runB_v46, runB_v54, kernelRun0_B.sl.r_23, runB_v79]
  rfl

theorem runB_A3 : kernelRun0_B.sl.v344 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc1024 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 3) (scoresD1024 i arg4 arg6 arg13 (harg4.unread x1) (harg6.unread x3) (qArr arg3 harg3 arg13 x0) 3) (rowsD1024 arg5 (harg5.unread x2) i)) shapeCasts_S256x128_S256x128 := by
  simp only [kernelRun0_B.sl.v344, kernelRun0_B.sl.v341, kernelRun0_B.sl.v340, kernelRun0_B.sl.r_69, kernelRun0_B.sl.r_46, runB_v62, kernelRun0_B.sl.r_48, runB_v46, kernelRun0_B.sl.r_23, runB_v79]
  rfl

theorem runB_M4 : kernelRun0_B.sl.v347 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max256 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4) (scoresD256 i arg4 arg6 arg13 (harg4.unread x1) (harg6.unread x3) (qArr arg3 harg3 arg13 x0) 4)) shapeCasts_S256x128_S256x128 := by
  simp only [kernelRun0_B.sl.v347, kernelRun0_B.sl.r_49, runB_v47, kernelRun0_B.sl.r_24, runB_v83]
  rfl

theorem runB_L4 : kernelRun0_B.sl.v350 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum256 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4) (scoresD256 i arg4 arg6 arg13 (harg4.unread x1) (harg6.unread x3) (qArr arg3 harg3 arg13 x0) 4)) shapeCasts_S256x128_S256x128 := by
  simp only [kernelRun0_B.sl.v350, kernelRun0_B.sl.r_51, runB_v47, runB_v55, kernelRun0_B.sl.r_24, runB_v83]
  rfl

theorem runB_A4 : kernelRun0_B.sl.v355 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc256 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 4) (scoresD256 i arg4 arg6 arg13 (harg4.unread x1) (harg6.unread x3) (qArr arg3 harg3 arg13 x0) 4) (rowsD256 arg5 (harg5.unread x2) i)) shapeCasts_S256x128_S256x128 := by
  simp only [kernelRun0_B.sl.v355, kernelRun0_B.sl.v352, kernelRun0_B.sl.v351, kernelRun0_B.sl.r_70, kernelRun0_B.sl.r_50, runB_v63, kernelRun0_B.sl.r_52, runB_v47, kernelRun0_B.sl.r_24, runB_v83]
  rfl

theorem runB_M5 : kernelRun0_B.sl.v358 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max512 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5) (scoresD512 i arg4 arg6 arg13 (harg4.unread x1) (harg6.unread x3) (qArr arg3 harg3 arg13 x0) 5)) shapeCasts_S256x128_S256x128 := by
  simp only [kernelRun0_B.sl.v358, kernelRun0_B.sl.r_53, runB_v48, kernelRun0_B.sl.r_25, runB_v87]
  rfl

theorem runB_L5 : kernelRun0_B.sl.v361 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum512 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5) (scoresD512 i arg4 arg6 arg13 (harg4.unread x1) (harg6.unread x3) (qArr arg3 harg3 arg13 x0) 5)) shapeCasts_S256x128_S256x128 := by
  simp only [kernelRun0_B.sl.v361, kernelRun0_B.sl.r_55, runB_v48, runB_v56, kernelRun0_B.sl.r_25, runB_v87]
  rfl

theorem runB_A5 : kernelRun0_B.sl.v366 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc512 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 5) (scoresD512 i arg4 arg6 arg13 (harg4.unread x1) (harg6.unread x3) (qArr arg3 harg3 arg13 x0) 5) (rowsD512 arg5 (harg5.unread x2) i)) shapeCasts_S256x128_S256x128 := by
  simp only [kernelRun0_B.sl.v366, kernelRun0_B.sl.v363, kernelRun0_B.sl.v362, kernelRun0_B.sl.r_71, kernelRun0_B.sl.r_54, runB_v64, kernelRun0_B.sl.r_56, runB_v48, kernelRun0_B.sl.r_25, runB_v87]
  rfl

theorem runB_M6 : kernelRun0_B.sl.v369 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max768 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6) (scoresD768 i arg4 arg6 arg13 (harg4.unread x1) (harg6.unread x3) (qArr arg3 harg3 arg13 x0) 6)) shapeCasts_S256x128_S256x128 := by
  simp only [kernelRun0_B.sl.v369, kernelRun0_B.sl.r_57, runB_v49, kernelRun0_B.sl.r_26, runB_v488]
  rfl

theorem runB_L6 : kernelRun0_B.sl.v372 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum768 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6) (scoresD768 i arg4 arg6 arg13 (harg4.unread x1) (harg6.unread x3) (qArr arg3 harg3 arg13 x0) 6)) shapeCasts_S256x128_S256x128 := by
  simp only [kernelRun0_B.sl.v372, kernelRun0_B.sl.r_59, runB_v49, runB_v57, kernelRun0_B.sl.r_26, runB_v488]
  rfl

theorem runB_A6 : kernelRun0_B.sl.v377 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc768 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 6) (scoresD768 i arg4 arg6 arg13 (harg4.unread x1) (harg6.unread x3) (qArr arg3 harg3 arg13 x0) 6) (rowsD768 arg5 (harg5.unread x2) i)) shapeCasts_S256x128_S256x128 := by
  simp only [kernelRun0_B.sl.v377, kernelRun0_B.sl.v374, kernelRun0_B.sl.v373, kernelRun0_B.sl.r_72, kernelRun0_B.sl.r_58, runB_v65, kernelRun0_B.sl.r_60, runB_v49, kernelRun0_B.sl.r_26, runB_v488]
  rfl

theorem runB_M7 : kernelRun0_B.sl.v380 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (max1024 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7) (scoresD1024 i arg4 arg6 arg13 (harg4.unread x1) (harg6.unread x3) (qArr arg3 harg3 arg13 x0) 7)) shapeCasts_S256x128_S256x128 := by
  simp only [kernelRun0_B.sl.v380, kernelRun0_B.sl.r_62, runB_v50, kernelRun0_B.sl.r_27, kernelRun0_B.sl.r_61, runB_v492]
  rfl

theorem runB_L7 : kernelRun0_B.sl.v383 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (sum1024 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7) (rdBlk arg15 (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7) (scoresD1024 i arg4 arg6 arg13 (harg4.unread x1) (harg6.unread x3) (qArr arg3 harg3 arg13 x0) 7)) shapeCasts_S256x128_S256x128 := by
  simp only [kernelRun0_B.sl.v383, kernelRun0_B.sl.r_64, runB_v50, runB_v58, kernelRun0_B.sl.r_27, kernelRun0_B.sl.r_61, runB_v492]
  rfl

theorem runB_A7 : kernelRun0_B.sl.v388 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = shapeCast S256x128 (acc1024 (rdBlk arg14 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7) (rdBlk arg16 (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) 7) (scoresD1024 i arg4 arg6 arg13 (harg4.unread x1) (harg6.unread x3) (qArr arg3 harg3 arg13 x0) 7) (rowsD1024 arg5 (harg5.unread x2) i)) shapeCasts_S256x128_S256x128 := by
  simp only [kernelRun0_B.sl.v388, kernelRun0_B.sl.v385, kernelRun0_B.sl.v384, kernelRun0_B.sl.v300, kernelRun0_B.sl.r_63, runB_v66, kernelRun0_B.sl.r_65, kernelRun0_B.sl.cst_337, runB_v50, kernelRun0_B.sl.r_27, kernelRun0_B.sl.r_61, runB_v492]
  rfl

theorem runB_HS2_16 : kernelRun0_B.sl.HS2_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = pieces8 (diagL i arg4 arg6 arg13 (harg4.unread x1) (harg6.unread x3) (qArr arg3 harg3 arg13 x0) arg14 arg15 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)) ++ (pieces8 (nearL i hc0 arg4 arg6 arg13 (harg4.unread x1) (harg6.unread x3) (qArr arg3 harg3 arg13 x0) arg14 arg15 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base15 c i arg3 harg3 arg4 harg4 arg5 harg5 arg6 harg6 arg7 harg7 arg8 harg8 arg9 harg9 arg10 harg10 arg11 harg11 arg12 harg12 arg13 harg13 arg14 harg14 arg15 harg15 arg16 harg16 x0 x1 x2)) ++ ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.1 ++ whole1 k0_pay250))) := by
  simp only [kernelRun0_B.sl.HS2_16, kernelRun0_B.sl.HS2_15, kernelRun0_B.sl.HS2_14, kernelRun0_B.sl.HS2_13, kernelRun0_B.sl.HS2_12, kernelRun0_B.sl.HS2_11, kernelRun0_B.sl.HS2_10, kernelRun0_B.sl.HS2_9, runB_HS2_8, runB_L0, runB_L1, runB_L2, runB_L3, runB_L4, runB_L5, runB_L6, runB_L7]
  rfl

theorem runB_HS3_16 : kernelRun0_B.sl.HS3_16 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = pieces8 (diagA i arg4 arg5 arg6 arg13 (harg4.unread x1) (harg5.unread x2) (harg6.unread x3) (qArr arg3 harg3 arg13 x0) arg14 arg16 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)) ++ (pieces8 (nearA i hc0 arg4 arg5 arg6 arg13 (harg4.unread x1) (harg5.unread x2) (harg6.unread x3) (qArr arg3 harg3 arg13 x0) arg14 arg16 (base14 c i arg3 harg3 arg4 harg4 arg5 harg5 arg6 harg6 arg7 harg7 arg8 harg8 arg9 harg9 arg10 harg10 arg11 harg11 arg12 harg12 arg13 harg13 arg14 harg14 arg15 harg15 arg16 harg16 x0 x1 x2) (base16 c i arg3 harg3 arg4 harg4 arg5 harg5 arg6 harg6 arg7 harg7 arg8 harg8 arg9 harg9 arg10 harg10 arg11 harg11 arg12 harg12 arg13 harg13 arg14 harg14 arg15 harg15 arg16 harg16 x0 x1 x2)) ++ ((rest c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ ((far c i arg3 harg3 arg4 harg4 arg5 harg5 arg6 harg6 arg7 harg7 arg8 harg8 arg9 harg9 arg10 harg10 arg11 harg11 arg12 harg12 arg13 harg13 arg14 harg14 arg15 harg15 arg16 harg16 x0 x1 x2).2.2 ++ whole1 k0_pay251))) := by
  simp only [kernelRun0_B.sl.HS3_16, kernelRun0_B.sl.HS3_15, kernelRun0_B.sl.HS3_14, kernelRun0_B.sl.HS3_13, kernelRun0_B.sl.HS3_12, kernelRun0_B.sl.HS3_11, kernelRun0_B.sl.HS3_10, kernelRun0_B.sl.HS3_9, runB_HS3_8, runB_A0, runB_A1, runB_A2, runB_A3, runB_A4, runB_A5, runB_A6, runB_A7]
  rfl

theorem runB_v389 : kernelRun0_B.sl.v389 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = ldAll arg15 (arg15.view.writes (Elt Ideal) (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (pieces8 (diagL i arg4 arg6 arg13 (harg4.unread x1) (harg6.unread x3) (qArr arg3 harg3 arg13 x0) arg14 arg15 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)))) := by
  unfold kernelRun0_B.sl.v389
  rw [runB_HS2_16]
  unfold View.readCov
  rw [View.writes_append, View.writes_append]

theorem runB_v390 : kernelRun0_B.sl.v390 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 = ldAll arg16 (arg16.view.writes (Elt Ideal) (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (pieces8 (diagA i arg4 arg5 arg6 arg13 (harg4.unread x1) (harg5.unread x2) (harg6.unread x3) (qArr arg3 harg3 arg13 x0) arg14 arg16 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)))) := by
  unfold kernelRun0_B.sl.v390
  rw [runB_HS3_16]
  unfold View.readCov
  rw [View.writes_append, View.writes_append]

/-- A later query block stores what the near tile and then the diagonal tile give after the loops. -/
theorem runB_pieces :
    (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1
      = [⟨Rect.unit (s := S1024x128) ![0, 0] S1024x128.size inb_S1024x128_S1024x128_0_0, finish arg7 arg8 arg9 arg10 arg11 harg7 harg8 harg9 harg10 harg11 x4 x5 x6 x7 x8
        (ldAll arg16 (arg16.view.writes (Elt Ideal) (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (pieces8 (diagA i arg4 arg5 arg6 arg13 (harg4.unread x1) (harg5.unread x2) (harg6.unread x3) (qArr arg3 harg3 arg13 x0) arg14 arg16 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (near16 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)))))
        (ldAll arg15 (arg15.view.writes (Elt Ideal) (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (pieces8 (diagL i arg4 arg6 arg13 (harg4.unread x1) (harg6.unread x3) (qArr arg3 harg3 arg13 x0) arg14 arg15 (near14 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3) (near15 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3)))))⟩] := by
  unfold kernelRun0_B
  simp only [kernelRun0_B.sl.r_74, kernelRun0_B.sl.v393, kernelRun0_B.sl.v396, kernelRun0_B.sl.r_73, kernelRun0_B.sl.v391, kernelRun0_B.sl.v392, kernelRun0_B.sl.v394, kernelRun0_B.sl.v395, runB_v390, runB_v389]

end

end Cert.Flash

end
-- ==== Proof.BlockVal.lean ====
/-
What a grid step leaves in its block of the output, at a row and a column: after the tiles of the row's positions the two
maps' averages, and their difference, normalised along the row.
-/
module
public import proofs.«01_k».proof.Proof.Gen.KernelIdeal
public import proofs.«01_k».proof.Proof.RowStep
public import proofs.«01_k».proof.Proof.Finish
public import proofs.«01_k».proof.Proof.RunA
public import proofs.«01_k».proof.Proof.RunB
public import proofs.«01_k».proof.Proof.Diag
public import proofs.«01_k».proof.Proof.Near
public import proofs.«01_k».proof.Proof.Gen.KernelIdeal.Frame
public import proofs.«01_k».proof.Proof.Block
public import proofs.«01_k».proof.Proof.Gen.KernelIdeal.Loops
public import Idealize.ShloMosaic.Lib.VecWindow
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The average over the first `n` keys under the weights. -/
def avg (n : ℕ) (W : ℕ → ℝ) (V : ℕ → Fin 128 → ℝ) (c : Fin 128) : ℝ :=
  (∑ j ∈ Finset.range n, W j * V j c) / ∑ j ∈ Finset.range n, W j

/-- A row of the output from the two maps' weights. -/
def outRow (n : ℕ) (W1 W2 : ℕ → ℝ) (V : ℕ → Fin 128 → ℝ) (x4 x5 x6 x7 : Vec Ideal S1x64 .f32) (x8 : Vec Ideal S1x128 .f32) (c : Fin 128) : EReal :=
  normRow (fun c => (avg n W1 V c : EReal)
      - lamOf (fun x => x4 (ix2 (0 : Fin 1) x)) (fun x => x5 (ix2 (0 : Fin 1) x)) (fun x => x6 (ix2 (0 : Fin 1) x)) (fun x => x7 (ix2 (0 : Fin 1) x)) * (avg n W2 V c : EReal))
    (fun x => x8 (ix2 (0 : Fin 1) x)) c

theorem origin : (![0, 0] : Fin 2 → Nat) = fun _ => 0 := funext fun a => by fin_cases a <;> rfl

section
variable (c : Dev nD) (i : grid0.Coords) (arg3 : Memref sig .tc .vmem S1024x128 .bf16) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S1x256x384 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1024x128 .bf16) (harg12 : arg12.IsWhole) (arg13 : Memref sig .tc .vmem S2048x128 .bf16) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole)
  {x0 : Vec Ideal S1024x128 .bf16} {x1 x2 : Vec Ideal S16384x128 .bf16} {x3 : Vec Ideal S1x256x384 .f32} {V : ℕ → Fin 128 → ℝ} {W : Fin 2048 → ℕ → ℝ}
  (x4 x5 x6 x7 : Vec Ideal S1x64 .f32) (x8 : Vec Ideal S1x128 .f32)

/-- The block of a step with no tile before the diagonal one. -/
theorem blockA (hc0 : ¬cond0_0 i) (hv : ∀ (j : Fin 16384) c, x2 (ix2 j c) = (V j.val c : EReal))
    (hw : ∀ b r j, j < 1024 * (i 2).val + 256 * (b.val % 4) + 256 → IsLog2 (scoreAt (qOf x0) (kOf x1) (tOf x3) (i 2).val b r j) (W (rowAt b r) j))
    (hw0 : ∀ (b : Fin 8) r j, 1024 * (i 2).val + 256 * (b.val % 4) + 256 ≤ j → W (rowAt b r) j = 0)
    (hZ : ∀ ρ, 0 < ∑ j ∈ Finset.range (1024 * (i 2).val + 1024), W ρ j) (hi : (i 2).val = 0) (r : Fin 1024) (c' : Fin 128) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 r c')
      = outRow (1024 * (i 2).val + 1024) (W ⟨r.val, by omega⟩) (W ⟨1024 + r.val, by omega⟩) V x4 x5 x6 x7 x8 c' := by
  have hr := reads_of i arg3 harg3 arg4 harg4 arg5 harg5 arg6 harg6 arg13 hv hw hw0
  have hb := base_state c i arg3 harg3 arg4 harg4 arg5 harg5 arg6 harg6 arg7 harg7 arg8 harg8 arg9 harg9 arg10 harg10 arg11 harg11 arg12 harg12 arg13 harg13 arg14 harg14 arg15 harg15 arg16 harg16 hr
  have e : 1024 * ((i 2).val - 1) = 1024 * (i 2).val := by rw [hi]
  rw [e] at hb
  have hd := diag_state i arg4 arg5 arg6 arg13 _ _ _ _ arg14 arg15 arg16 _ _ _ hr hb
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8), runA_pieces, View.canon_unit_zero origin]
  exact finish_state arg7 arg8 arg9 arg10 arg11 harg7 harg8 harg9 harg10 harg11 x4 x5 x6 x7 x8 hd hZ r c'

/-- The block of a step with a tile before the diagonal one. -/
theorem blockB (hc0 : cond0_0 i) (hv : ∀ (j : Fin 16384) c, x2 (ix2 j c) = (V j.val c : EReal))
    (hw : ∀ b r j, j < 1024 * (i 2).val + 256 * (b.val % 4) + 256 → IsLog2 (scoreAt (qOf x0) (kOf x1) (tOf x3) (i 2).val b r j) (W (rowAt b r) j))
    (hw0 : ∀ (b : Fin 8) r j, 1024 * (i 2).val + 256 * (b.val % 4) + 256 ≤ j → W (rowAt b r) j = 0)
    (hZ : ∀ ρ, 0 < ∑ j ∈ Finset.range (1024 * (i 2).val + 1024), W ρ j) (r : Fin 1024) (c' : Fin 128) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 (ix2 r c')
      = outRow (1024 * (i 2).val + 1024) (W ⟨r.val, by omega⟩) (W ⟨1024 + r.val, by omega⟩) V x4 x5 x6 x7 x8 c' := by
  have hr := reads_of i arg3 harg3 arg4 harg4 arg5 harg5 arg6 harg6 arg13 hv hw hw0
  have hb := base_state c i arg3 harg3 arg4 harg4 arg5 harg5 arg6 harg6 arg7 harg7 arg8 harg8 arg9 harg9 arg10 harg10 arg11 harg11 arg12 harg12 arg13 harg13 arg14 harg14 arg15 harg15 arg16 harg16 hr
  have hn := near_state i hc0 arg4 arg5 arg6 arg13 _ _ _ _ arg14 arg15 arg16 _ _ _ hr hb
  have hd := diag_state i arg4 arg5 arg6 arg13 _ _ _ _ arg14 arg15 arg16 _ _ _ hr hn
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8), runB_pieces, View.canon_unit_zero origin]
  exact finish_state arg7 arg8 arg9 arg10 arg11 harg7 harg8 harg9 harg10 harg11 x4 x5 x6 x7 x8 hd hZ r c'

end

end Cert.Flash

end
-- ==== Proof.Weights.lean ====
/-
The weights of the layer's attention as real numbers — of a batch, a head, a map, a query's position and a key's — and
that the scores a grid step forms are their logarithms to base two.
-/
module
public import proofs.«01_k».proof.Proof.Gen.KernelIdeal
public import proofs.«01_k».proof.Proof.RowStep
public import proofs.«01_k».proof.Proof.BlockVal
public import proofs.«01_k».proof.Proof.Block
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The dot product of a query and a key in one of a head's two maps; `P` the array of queries, keys and values. -/
def dotAt (P : ℕ → ℕ → ℝ) (bb h μ i j : ℕ) : ℝ :=
  ∑ x : Fin 64, P (16384 * bb + i) (128 * h + 64 * μ + x.val) * P (16384 * bb + j) (1024 + 128 * h + 64 * μ + x.val)

/-- The weight of a key at a position not after the query's; `B` the bias of a distance, less the bias of the far ones. -/
def wt (P : ℕ → ℕ → ℝ) (B : ℕ → ℝ) (bb h μ i j : ℕ) : ℝ :=
  if j ≤ i then Real.exp (dotAt P bb h μ i j / 8 + B (i - j)) else 0

/-- The weights of the stacked rows of a grid step. -/
def stackW (P : ℕ → ℕ → ℝ) (B : ℕ → ℝ) (bb h qi : ℕ) (ρ : Fin 2048) (j : ℕ) : ℝ :=
  wt P B bb h (ρ.val / 1024) (1024 * qi + ρ.val % 1024) j

theorem rpow_two (y : ℝ) : Real.rpow 2 (y * (Real.log 2)⁻¹) = Real.exp y := by
  have h2 : Real.log 2 ≠ 0 := (Real.log_pos (by norm_num)).ne'
  show (2 : ℝ) ^ (y * (Real.log 2)⁻¹) = _
  rw [Real.rpow_def_of_pos (by norm_num)]
  congr 1
  field_simp

variable {P : ℕ → ℕ → ℝ} {B : ℕ → ℝ} {bb h qi : ℕ} {x0 : Vec Ideal S1024x128 .bf16} {x1 : Vec Ideal S16384x128 .bf16} {x3 : Vec Ideal S1x256x384 .f32}

/-- The product of a stacked query and a key: the dot product of the row's map, scaled. -/
theorem dot_at (h0 : ∀ (r : Fin 1024) (x : Fin 128), x0 (ix2 r x) = ((P (16384 * bb + (1024 * qi + r.val)) (128 * h + x.val) : ℝ) : EReal))
    (h1 : ∀ (j : Fin 16384) (x : Fin 128), x1 (ix2 j x) = ((P (16384 * bb + j.val) (1024 + 128 * h + x.val) : ℝ) : EReal))
    (ρ : Fin 2048) (j : ℕ) (hj : j < 16384) :
    ∑ x, qOf x0 ρ x * kOf x1 j x = ((dotAt P bb h (ρ.val / 1024) (1024 * qi + ρ.val % 1024) j / 8 * (Real.log 2)⁻¹ : ℝ) : EReal) := by
  have hρ := ρ.isLt
  have e : ∀ x : Fin 128, qOf x0 ρ x * kOf x1 j x
      = ((if x.val / 64 = ρ.val / 1024 then P (16384 * bb + (1024 * qi + ρ.val % 1024)) (128 * h + x.val) * ((1 / 8) * (Real.log 2)⁻¹) * P (16384 * bb + j) (1024 + 128 * h + x.val) else 0 : ℝ) : EReal) := by
    intro x
    have hx := x.isLt
    have ek : kOf x1 j x = ((P (16384 * bb + j) (1024 + 128 * h + x.val) : ℝ) : EReal) := by
      unfold kOf
      rw [dif_pos hj, h1]
    have eq : qOf x0 ρ x = ((if x.val / 64 = ρ.val / 1024 then P (16384 * bb + (1024 * qi + ρ.val % 1024)) (128 * h + x.val) * ((1 / 8) * (Real.log 2)⁻¹) else 0 : ℝ) : EReal) := by
      unfold qOf
      rw [h0]
      by_cases hr : ρ.val < 1024 <;> by_cases hl : x.val < 64
      · rw [if_pos hr, if_pos hl, if_pos (by omega), EReal.coe_mul]
      · rw [if_pos hr, if_neg hl, if_neg (by omega), EReal.coe_zero]
      · rw [if_neg hr, if_pos hl, if_neg (by omega), EReal.coe_zero]
      · rw [if_neg hr, if_neg hl, if_pos (by omega), EReal.coe_mul]
    rw [ek, eq, ← EReal.coe_mul]
    congr 1
    split <;> simp
  rw [Finset.sum_congr rfl fun x _ => e x, coe_sum]
  congr 1
  have hs : ∀ f : Fin 128 → ℝ, ∑ x, f x = ∑ x : Fin 64, f ⟨x.val, by omega⟩ + ∑ x : Fin 64, f ⟨64 + x.val, by omega⟩ := fun f => Fin.sum_univ_add (a := 64) (b := 64) f
  rw [hs]
  unfold dotAt
  have hc : ρ.val / 1024 = 0 ∨ ρ.val / 1024 = 1 := by omega
  rcases hc with hc | hc
  · rw [hc]
    rw [Finset.sum_eq_zero (s := Finset.univ) (f := fun x : Fin 64 => if (64 + x.val) / 64 = 0 then _ else (0 : ℝ)) (fun x _ => if_neg (by omega)), add_zero,
      Finset.sum_div, Finset.sum_mul]
    refine Finset.sum_congr rfl fun x _ => ?_
    rw [if_pos (by have := x.isLt; show x.val / 64 = 0; omega)]
    simp only [mul_zero, add_zero]
    ring
  · rw [hc]
    rw [Finset.sum_eq_zero (s := Finset.univ) (f := fun x : Fin 64 => if x.val / 64 = 1 then _ else (0 : ℝ)) (fun x _ => if_neg (by have := x.isLt; omega)), zero_add,
      Finset.sum_div, Finset.sum_mul]
    refine Finset.sum_congr rfl fun x _ => ?_
    rw [if_pos (by have := x.isLt; show (64 + x.val) / 64 = 1; omega)]
    simp only [mul_one, add_assoc]
    ring

/-- A score of a grid step is the logarithm of the weight, and a masked one is of weight zero. -/
theorem score_log (hqi : qi < 16) (h0 : ∀ (r : Fin 1024) (x : Fin 128), x0 (ix2 r x) = ((P (16384 * bb + (1024 * qi + r.val)) (128 * h + x.val) : ℝ) : EReal))
    (h1 : ∀ (j : Fin 16384) (x : Fin 128), x1 (ix2 j x) = ((P (16384 * bb + j.val) (1024 + 128 * h + x.val) : ℝ) : EReal))
    (h3 : ∀ (r : Fin 256) (n : Fin 384), x3 (ix3 (0 : Fin 1) r n) = if n.val ≤ r.val + 128 then ((B (128 + r.val - n.val) : ℝ) : EReal) else ⊥)
    (hB : ∀ n, 129 ≤ n → B n = 0) (b : Fin 8) (r : Fin 256) (j : ℕ) (hj : j < 1024 * qi + 256 * (b.val % 4) + 256) :
    IsLog2 (scoreAt (qOf x0) (kOf x1) (tOf x3) qi b r j) (stackW P B bb h qi (rowAt b r) j) := by
  have hr := r.isLt
  have hb := b.isLt
  have ev : (rowAt b r).val = 256 * b.val + r.val := rfl
  have hd := dot_at h0 h1 (rowAt b r) j (by omega)
  have hρ : (rowAt b r).val % 1024 = 256 * (b.val % 4) + r.val := by rw [ev]; omega
  unfold scoreAt stackW
  rw [hd, hρ]
  unfold wt
  generalize dotAt P bb h ((rowAt b r).val / 1024) (1024 * qi + (256 * (b.val % 4) + r.val)) j = D
  split
  · next hf =>
    rw [if_pos (by omega), hB _ (by omega), add_zero]
    exact Or.inr ⟨_, rfl, (rpow_two _).symm⟩
  · next hf =>
    have et : tOf x3 r (j + 128 - (1024 * qi + 256 * (b.val % 4)))
        = if j ≤ 1024 * qi + (256 * (b.val % 4) + r.val) then ((B (1024 * qi + (256 * (b.val % 4) + r.val) - j) : ℝ) : EReal) else ⊥ := by
      unfold tOf
      rw [dif_pos (by omega), h3]
      dsimp only
      by_cases hm : j ≤ 1024 * qi + (256 * (b.val % 4) + r.val)
      · rw [if_pos (by omega), if_pos hm]
        have en : 128 + r.val - (j + 128 - (1024 * qi + 256 * (b.val % 4))) = 1024 * qi + (256 * (b.val % 4) + r.val) - j := by omega
        rw [en]
      · rw [if_neg (by omega), if_neg hm]
    rw [et]
    by_cases hm : j ≤ 1024 * qi + (256 * (b.val % 4) + r.val)
    · rw [if_pos hm, if_pos hm]
      refine Or.inr ⟨(D / 8 + B (1024 * qi + (256 * (b.val % 4) + r.val) - j)) * (Real.log 2)⁻¹, ?_, (rpow_two _).symm⟩
      rw [add_mul, EReal.coe_add, EReal.coe_mul (B _)]
    · rw [if_neg hm, if_neg hm]
      refine Or.inl ⟨?_, rfl⟩
      rw [EReal.bot_mul_coe_of_pos (inv_pos.mpr (Real.log_pos (by norm_num))), EReal.add_bot]

/-- Beyond the diagonal the weights are zero. -/
theorem stackW_zero (b : Fin 8) (r : Fin 256) (j : ℕ) (hj : 1024 * qi + 256 * (b.val % 4) + 256 ≤ j) : stackW P B bb h qi (rowAt b r) j = 0 := by
  have ev : (rowAt b r).val = 256 * b.val + r.val := rfl
  have hr := r.isLt
  unfold stackW wt
  rw [if_neg (by rw [ev]; omega)]

/-- The weights of the keys up to any count add up to a positive number. -/
theorem wt_pos (μ i n : ℕ) (hn : 0 < n) : 0 < ∑ j ∈ Finset.range n, wt P B bb h μ i j := by
  refine Finset.sum_pos' (fun j _ => ?_) ⟨0, Finset.mem_range.mpr hn, ?_⟩
  · unfold wt
    split
    · exact (Real.exp_pos _).le
    · exact le_rfl
  · unfold wt
    rw [if_pos (Nat.zero_le _)]
    exact Real.exp_pos _

/-- The average over more keys than there are with a weight is the same. -/
theorem avg_more {n m : ℕ} {W : ℕ → ℝ} {V : ℕ → Fin 128 → ℝ} (h : n ≤ m) (hW : ∀ j, n ≤ j → W j = 0) : avg m W V = avg n W V := by
  funext c
  have hz : ∀ f : ℕ → ℝ, (∀ j, n ≤ j → f j = 0) → ∑ j ∈ Finset.range m, f j = ∑ j ∈ Finset.range n, f j := fun f hf =>
    (Finset.sum_subset (Finset.range_subset_range.mpr h) fun j _ hj => hf j (by simpa using hj)).symm
  unfold avg
  rw [hz _ hW, hz (fun j => W j * V j c) fun j hj => by rw [hW j hj, zero_mul]]

end Cert.Flash

end
-- ==== Proof.Arr.lean ====
/-
The array the kernel leaves: every block is a grid step's, and an entry is the row of the attention its position names.
-/
module
public import proofs.«01_k».proof.Proof.Gen.KernelIdeal
public import proofs.«01_k».proof.Proof.RowStep
public import proofs.«01_k».proof.Proof.Weights
public import proofs.«01_k».proof.Proof.Gen.KernelIdeal.Value
public import proofs.«01_k».proof.Proof.Block
public import Idealize.ShloMosaic.Lib.Pointwise
public import Idealize.ShloMosaic.Lib.Pipeline.ValueKit
public import Idealize.ShloMosaic.Lib.WritesUnit

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

variable (m : (ℓ : Loc nD τ sig) → Buf (Elt Ideal) ℓ) (c : Dev nD)

theorem ix0 : ∀ t : Fin cfg0.N, win0_0.index t = ![16 * (t.val / 128) + t.val % 16, t.val / 16 % 8] :=
  (by decide +kernel : ∀ t : Fin grid0.N, _)
theorem ix1 : ∀ t : Fin cfg0.N, win0_1.index t = ![t.val / 128, 8 + t.val / 16 % 8] :=
  (by decide +kernel : ∀ t : Fin grid0.N, _)
theorem ix2' : ∀ t : Fin cfg0.N, win0_2.index t = ![t.val / 128, 16 + t.val / 16 % 8] :=
  (by decide +kernel : ∀ t : Fin grid0.N, _)
theorem ix3' : ∀ t : Fin cfg0.N, win0_3.index t = ![t.val / 16 % 8, 0, 0] :=
  (by decide +kernel : ∀ t : Fin grid0.N, _)
theorem ix4 : ∀ t : Fin cfg0.N, win0_4.index t = ![0, 0] := (by decide +kernel : ∀ t : Fin grid0.N, _)
theorem ix5 : ∀ t : Fin cfg0.N, win0_5.index t = ![0, 0] := (by decide +kernel : ∀ t : Fin grid0.N, _)
theorem ix6 : ∀ t : Fin cfg0.N, win0_6.index t = ![0, 0] := (by decide +kernel : ∀ t : Fin grid0.N, _)
theorem ix7 : ∀ t : Fin cfg0.N, win0_7.index t = ![0, 0] := (by decide +kernel : ∀ t : Fin grid0.N, _)
theorem ix8 : ∀ t : Fin cfg0.N, win0_8.index t = ![0, 0] := (by decide +kernel : ∀ t : Fin grid0.N, _)
theorem ix9 : ∀ t : Fin cfg0.N, win0_9.index t = ![16 * (t.val / 128) + t.val % 16, t.val / 16 % 8] :=
  (by decide +kernel : ∀ t : Fin grid0.N, _)
theorem qi_eq : ∀ t : Fin cfg0.N, (grid0.coords t 2).val = t.val % 16 := (by decide +kernel : ∀ t : Fin grid0.N, _)

/-- The block of the queries at a step, at a row and a column of the array. -/
theorem blk0 (t : Fin cfg0.N) (r : Fin 1024) (x : Fin 128) (i : S32768x3072.Idx)
    (h0 : (i 0).val = 1024 * (16 * (t.val / 128) + t.val % 16) + r.val) (h1 : (i 1).val = 128 * (t.val / 16 % 8) + x.val) :
    iblk m c 0 t (ix2 r x) = V m c main_arg0 i := by
  blk_simp [iblk]
  refine congrArg (V m c main_arg0) (funext fun a => Fin.ext ?_)
  match a with
  | ⟨0, _⟩ => blk_simp [ix0 t]; show _ = (i 0).val; rw [h0]; omega
  | ⟨1, _⟩ => blk_simp [ix0 t]; show _ = (i 1).val; rw [h1]; omega

/-- The block of the keys. -/
theorem blk1 (t : Fin cfg0.N) (r : Fin 16384) (x : Fin 128) (i : S32768x3072.Idx)
    (h0 : (i 0).val = 16384 * (t.val / 128) + r.val) (h1 : (i 1).val = 1024 + 128 * (t.val / 16 % 8) + x.val) :
    iblk m c 1 t (ix2 r x) = V m c main_arg0 i := by
  blk_simp [iblk]
  refine congrArg (V m c main_arg0) (funext fun a => Fin.ext ?_)
  match a with
  | ⟨0, _⟩ => blk_simp [ix1 t]; show _ = (i 0).val; rw [h0]; omega
  | ⟨1, _⟩ => blk_simp [ix1 t]; show _ = (i 1).val; rw [h1]; omega

/-- The block of the values. -/
theorem blk2 (t : Fin cfg0.N) (r : Fin 16384) (x : Fin 128) (i : S32768x3072.Idx)
    (h0 : (i 0).val = 16384 * (t.val / 128) + r.val) (h1 : (i 1).val = 2048 + 128 * (t.val / 16 % 8) + x.val) :
    iblk m c 2 t (ix2 r x) = V m c main_arg0 i := by
  blk_simp [iblk]
  refine congrArg (V m c main_arg0) (funext fun a => Fin.ext ?_)
  match a with
  | ⟨0, _⟩ => blk_simp [ix2' t]; show _ = (i 0).val; rw [h0]; omega
  | ⟨1, _⟩ => blk_simp [ix2' t]; show _ = (i 1).val; rw [h1]; omega

/-- The block of the bias table. -/
theorem blk3 (t : Fin cfg0.N) (r : Fin 256) (n : Fin 384) :
    iblk m c 3 t (ix3 (0 : Fin 1) r n) = V m c main_v45 (ix3 (⟨t.val / 16 % 8, Nat.mod_lt _ (by norm_num)⟩ : Fin 8) r n) := by
  blk_simp [iblk]
  refine congrArg (V m c main_v45) (funext fun a => Fin.ext ?_)
  match a with
  | ⟨0, _⟩ => blk_simp [ix3' t]; rfl
  | ⟨1, _⟩ => blk_simp [ix3' t]
  | ⟨2, _⟩ => blk_simp [ix3' t]

theorem blk4 (t : Fin cfg0.N) : iblk m c 4 t = V m c main_v46 := by
  funext y
  blk_simp [iblk]
  refine congrArg (V m c main_v46) (funext fun a => Fin.ext ?_)
  match a with
  | ⟨0, _⟩ => blk_simp [ix4 t]
  | ⟨1, _⟩ => blk_simp [ix4 t]
theorem blk5 (t : Fin cfg0.N) : iblk m c 5 t = V m c main_v47 := by
  funext y
  blk_simp [iblk]
  refine congrArg (V m c main_v47) (funext fun a => Fin.ext ?_)
  match a with
  | ⟨0, _⟩ => blk_simp [ix5 t]
  | ⟨1, _⟩ => blk_simp [ix5 t]
theorem blk6 (t : Fin cfg0.N) : iblk m c 6 t = V m c main_v48 := by
  funext y
  blk_simp [iblk]
  refine congrArg (V m c main_v48) (funext fun a => Fin.ext ?_)
  match a with
  | ⟨0, _⟩ => blk_simp [ix6 t]
  | ⟨1, _⟩ => blk_simp [ix6 t]
theorem blk7 (t : Fin cfg0.N) : iblk m c 7 t = V m c main_v49 := by
  funext y
  blk_simp [iblk]
  refine congrArg (V m c main_v49) (funext fun a => Fin.ext ?_)
  match a with
  | ⟨0, _⟩ => blk_simp [ix7 t]
  | ⟨1, _⟩ => blk_simp [ix7 t]
theorem blk8 (t : Fin cfg0.N) : iblk m c 8 t = V m c main_v50 := by
  funext y
  blk_simp [iblk]
  refine congrArg (V m c main_v50) (funext fun a => Fin.ext ?_)
  match a with
  | ⟨0, _⟩ => blk_simp [ix8 t]
  | ⟨1, _⟩ => blk_simp [ix8 t]

/-- The values of a batch and a head by key and column. -/
def valAt (P : ℕ → ℕ → ℝ) (bb h j : ℕ) (x : Fin 128) : ℝ := P (16384 * bb + j) (2048 + 128 * h + x.val)

/-- The attention at a position and a column of the result, from the real arrays and the four vectors and the weights. -/
def attnAt (P : ℕ → ℕ → ℝ) (B : ℕ → ℕ → ℝ) (x4 x5 x6 x7 : Vec Ideal S1x64 .f32) (x8 : Vec Ideal S1x128 .f32) (r col : ℕ) : EReal :=
  outRow 16384 (wt P (B (col / 128)) (r / 16384) (col / 128) 0 (r % 16384)) (wt P (B (col / 128)) (r / 16384) (col / 128) 1 (r % 16384))
    (valAt P (r / 16384) (col / 128)) x4 x5 x6 x7 x8 ⟨col % 128, Nat.mod_lt _ (by norm_num)⟩

/-- What a step leaves, at a row and a column of its block. -/
theorem after_at {P : ℕ → ℕ → ℝ} {B : ℕ → ℕ → ℝ} (hP : ∀ i : S32768x3072.Idx, V m c main_arg0 i = ((P (i 0).val (i 1).val : ℝ) : EReal))
    (hT : ∀ (h : Fin 8) (r : Fin 256) (n : Fin 384), V m c main_v45 (ix3 h r n) = if n.val ≤ r.val + 128 then ((B h.val (128 + r.val - n.val) : ℝ) : EReal) else ⊥)
    (hB : ∀ h n, 129 ≤ n → B h n = 0) (t : Fin cfg0.N) (r : Fin 1024) (x : Fin 128) :
    outsAt0 m c t.val t.isLt (ix2 r x) = attnAt P B (V m c main_v46) (V m c main_v47) (V m c main_v48) (V m c main_v49) (V m c main_v50)
      (1024 * (16 * (t.val / 128) + t.val % 16) + r.val) (128 * (t.val / 16 % 8) + x.val) := by
  have ht : t.val < 256 := t.isLt
  have hr := r.isLt
  have hx := x.isLt
  have hq := qi_eq t
  have h0 : ∀ (r : Fin 1024) (x : Fin 128), iblk m c 0 t (ix2 r x) = ((P (16384 * (t.val / 128) + (1024 * (t.val % 16) + r.val)) (128 * (t.val / 16 % 8) + x.val) : ℝ) : EReal) := fun r x => by
    have hr := r.isLt
    have hx := x.isLt
    rw [blk0 m c t r x (ix2 (⟨1024 * (16 * (t.val / 128) + t.val % 16) + r.val, by omega⟩ : Fin 32768) (⟨128 * (t.val / 16 % 8) + x.val, by omega⟩ : Fin 3072)) rfl rfl, hP]
    have en : 1024 * (16 * (t.val / 128) + t.val % 16) + r.val = 16384 * (t.val / 128) + (1024 * (t.val % 16) + r.val) := by omega
    exact congrArg (fun n => ((P n (128 * (t.val / 16 % 8) + x.val) : ℝ) : EReal)) en
  have h1 : ∀ (j : Fin 16384) (x : Fin 128), iblk m c 1 t (ix2 j x) = ((P (16384 * (t.val / 128) + j.val) (1024 + 128 * (t.val / 16 % 8) + x.val) : ℝ) : EReal) := fun r x => by
    have hr := r.isLt
    have hx := x.isLt
    rw [blk1 m c t r x (ix2 (⟨16384 * (t.val / 128) + r.val, by omega⟩ : Fin 32768) (⟨1024 + 128 * (t.val / 16 % 8) + x.val, by omega⟩ : Fin 3072)) rfl rfl, hP]
    rfl
  have h2 : ∀ (j : Fin 16384) (x : Fin 128), iblk m c 2 t (ix2 j x) = ((valAt P (t.val / 128) (t.val / 16 % 8) j.val x : ℝ) : EReal) := fun r x => by
    have hr := r.isLt
    have hx := x.isLt
    rw [blk2 m c t r x (ix2 (⟨16384 * (t.val / 128) + r.val, by omega⟩ : Fin 32768) (⟨2048 + 128 * (t.val / 16 % 8) + x.val, by omega⟩ : Fin 3072)) rfl rfl, hP]
    rfl
  have h3 : ∀ (r : Fin 256) (n : Fin 384), iblk m c 3 t (ix3 (0 : Fin 1) r n) = if n.val ≤ r.val + 128 then ((B (t.val / 16 % 8) (128 + r.val - n.val) : ℝ) : EReal) else ⊥ := fun r n => by
    rw [blk3, hT]
  have hw : ∀ (b : Fin 8) (r : Fin 256) (j : ℕ), j < 1024 * (grid0.coords t 2).val + 256 * (b.val % 4) + 256 →
      IsLog2 (scoreAt (qOf (iblk m c 0 t)) (kOf (iblk m c 1 t)) (tOf (iblk m c 3 t)) (grid0.coords t 2).val b r j)
        (stackW P (B (t.val / 16 % 8)) (t.val / 128) (t.val / 16 % 8) (grid0.coords t 2).val (rowAt b r) j) := fun b r j hj => by
    rw [hq] at hj ⊢
    exact score_log (by omega) h0 h1 h3 (hB _) b r j hj
  have hw0 : ∀ (b : Fin 8) (r : Fin 256) (j : ℕ), 1024 * (grid0.coords t 2).val + 256 * (b.val % 4) + 256 ≤ j →
      stackW P (B (t.val / 16 % 8)) (t.val / 128) (t.val / 16 % 8) (grid0.coords t 2).val (rowAt b r) j = 0 := fun b r j hj => stackW_zero b r j hj
  have hZ : ∀ ρ, 0 < ∑ j ∈ Finset.range (1024 * (grid0.coords t 2).val + 1024), stackW P (B (t.val / 16 % 8)) (t.val / 128) (t.val / 16 % 8) (grid0.coords t 2).val ρ j :=
    fun ρ => wt_pos _ _ _ (by omega)
  have key : outsAt0 m c t.val t.isLt (ix2 r x) = outRow (1024 * (grid0.coords t 2).val + 1024)
      (stackW P (B (t.val / 16 % 8)) (t.val / 128) (t.val / 16 % 8) (grid0.coords t 2).val ⟨r.val, by omega⟩)
      (stackW P (B (t.val / 16 % 8)) (t.val / 128) (t.val / 16 % 8) (grid0.coords t 2).val ⟨1024 + r.val, by omega⟩)
      (valAt P (t.val / 128) (t.val / 16 % 8)) (iblk m c 4 t) (iblk m c 5 t) (iblk m c 6 t) (iblk m c 7 t) (iblk m c 8 t) x := by
    by_cases hc : 1 ≤ t.val % 16
    · rw [outsAt0_B m c t hc]
      exact blockB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 4 t) (iblk m c 5 t) (iblk m c 6 t) (iblk m c 7 t) (iblk m c 8 t) _ h2 hw hw0 hZ r x
    · rw [outsAt0_A m c t hc]
      exact blockA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 4 t) (iblk m c 5 t) (iblk m c 6 t) (iblk m c 7 t) (iblk m c 8 t) _ h2 hw hw0 hZ (by omega) r x
  rw [key, blk4, blk5, blk6, blk7, blk8]
  unfold attnAt
  have er : 1024 * (16 * (t.val / 128) + t.val % 16) + r.val = 16384 * (t.val / 128) + (1024 * (t.val % 16) + r.val) := by omega
  have e1 : (1024 * (16 * (t.val / 128) + t.val % 16) + r.val) / 16384 = t.val / 128 := by omega
  have e2 : (1024 * (16 * (t.val / 128) + t.val % 16) + r.val) % 16384 = 1024 * (t.val % 16) + r.val := by omega
  have e3 : (128 * (t.val / 16 % 8) + x.val) / 128 = t.val / 16 % 8 := by omega
  have e4 : (⟨(128 * (t.val / 16 % 8) + x.val) % 128, Nat.mod_lt _ (by norm_num)⟩ : Fin 128) = x := Fin.ext (by show (128 * (t.val / 16 % 8) + x.val) % 128 = x.val; omega)
  have e5 : ∀ μ, μ < 2 → ∀ hl, stackW P (B (t.val / 16 % 8)) (t.val / 128) (t.val / 16 % 8) (t.val % 16) ⟨1024 * μ + r.val, hl⟩
      = wt P (B (t.val / 16 % 8)) (t.val / 128) (t.val / 16 % 8) μ (1024 * (t.val % 16) + r.val) := fun μ hμ hl => by
    funext j
    unfold stackW
    dsimp only
    rw [show (1024 * μ + r.val) / 1024 = μ by omega, show (1024 * μ + r.val) % 1024 = r.val by omega]
  have e6 := e5 0 (by omega) (by omega)
  have e7 := e5 1 (by omega) (by omega)
  simp only [Nat.mul_zero, Nat.zero_add, Nat.mul_one] at e6 e7
  rw [e1, e2, e3, e4, hq, e6, e7]
  unfold outRow
  rw [avg_more (n := 1024 * (t.val % 16) + 1024) (m := 16384) (by omega) fun j hj => by unfold wt; rw [if_neg (by omega)],
    avg_more (n := 1024 * (t.val % 16) + 1024) (m := 16384) (by omega) fun j hj => by unfold wt; rw [if_neg (by omega)]]

/-- The array after the run. -/
theorem arr_eq {P : ℕ → ℕ → ℝ} {B : ℕ → ℕ → ℝ} (hP : ∀ i : S32768x3072.Idx, V m c main_arg0 i = ((P (i 0).val (i 1).val : ℝ) : EReal))
    (hT : ∀ (h : Fin 8) (r : Fin 256) (n : Fin 384), V m c main_v45 (ix3 h r n) = if n.val ≤ r.val + 128 then ((B h.val (128 + r.val - n.val) : ℝ) : EReal) else ⊥)
    (hB : ∀ h n, 129 ≤ n → B h n = 0) :
    (dats m 0 c).arrAt 9 cfg0.N = (fun i : S32768x1024.Idx => attnAt P B (V m c main_v46) (V m c main_v47) (V m c main_v48) (V m c main_v49) (V m c main_v50) (i 0).val (i 1).val) := by
  refine (dats m 0 c).arrAt_eq_of_covers 9 _ (by decide +kernel) fun t hf y => ?_
  blk_simp [ix9 t]
  rw [after0_9]
  obtain ⟨r, x, rfl⟩ : ∃ r x, y = ix2 (n0 := 1024) (n1 := 128) r x := ⟨_, _, eq_ix2 y⟩
  refine (after_at m c hP hT hB t r x).trans ?_
  exact congrArg₂ (attnAt P B (V m c main_v46) (V m c main_v47) (V m c main_v48) (V m c main_v49) (V m c main_v50))
    (by show _ = (16 * (t.val / 128) + t.val % 16) * 1024 + r.val; omega) (by show _ = t.val / 16 % 8 * 128 + x.val; omega)

end Cert.Flash

end
-- ==== Proof.Bucket.lean ====
/-
The bucket of a distance, as both programs compute it: the distance itself below sixteen, above it a logarithm's
integer part, capped; and that every distance from 128 on (to the sequence's end) is in the last bucket.
-/
module
public import proofs.«01_k».proof.Proof.Gen.KernelIdeal
public import proofs.«01_k».proof.Proof.Consts
public import Idealize.ShloMosaic.Lib.Pointwise

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The bucket of a distance, a word. -/
def bucketW (n : BitVec 32) : BitVec 32 :=
  Scalar.select (IntOp.cmpi .slt n 16#32) n
    (IntOp.minsi (IntOp.addi (16#32) (FloatOps.fptosi (F := Ideal) (φ := .f32) 32
      (Ideal.div (Ideal.log (Ideal.div (FloatOps.sitofp (F := Ideal) FTy.f32 (IntOp.maxsi n 1#32))
        (Ideal.ofBits FTy.f32 0x41800000#32))) (Ideal.ofBits FTy.f32 0x40051592#32) * Ideal.ofBits FTy.f32 0x41800000#32)))
      31#32)

/-- The row of the bias table read for a distance, a word: a negative bucket counts from the end. -/
def rowW (n : BitVec 32) : BitVec 32 :=
  Scalar.select (IntOp.cmpi .slt (bucketW n) 0#32) (IntOp.addi (bucketW n) 32#32) (bucketW n)

/-- The row of the bias table read for a distance. -/
def rowOf (n : BitVec 32) : Fin 32 := ⟨min (rowW n).toInt.toNat 31, by omega⟩

theorem ofBits_16 : Ideal.ofBits FTy.f32 0x41800000#32 = ((16 : ℝ) : EReal) := by
  simp [Ideal.ofBits, Ideal.ieee]
  rw [← EReal.coe_mul]
  exact congrArg _ (by norm_num)

theorem ofBits_128 : Ideal.ofBits FTy.f32 0x43000000#32 = ((128 : ℝ) : EReal) := by
  simp [Ideal.ofBits, Ideal.ieee]
  rw [← EReal.coe_mul]
  exact congrArg _ (by norm_num)

theorem ofBits_eighth : Ideal.ofBits FTy.f32 0x3E000000#32 = ((1 / 8 : ℝ) : EReal) := by
  simp [Ideal.ofBits, Ideal.ieee]
  rw [← EReal.coe_mul]
  exact congrArg _ (by norm_num)

theorem ofBits_fifth : ∃ y : ℝ, Ideal.ofBits FTy.f32 0x3E4CCCCD#32 = (y : EReal) := by
  simp only [Ideal.ofBits, Ideal.ieee]
  rw [if_neg (by decide), if_neg (by decide)]
  exact ⟨_, rfl⟩

/-- The logarithm of eight, as the programs write it. -/
theorem ofBits_log8 : Ideal.ofBits FTy.f32 0x40051592#32 = ((8721810 / 4194304 : ℝ) : EReal) := by
  simp [Ideal.ofBits, Ideal.ieee]
  rw [← EReal.coe_mul]
  exact congrArg _ (by norm_num)

/-- The logarithm's part of a distance from 128 on: at least 15. -/
theorem log_part (n : ℕ) (h1 : 128 ≤ n) (h2 : n < 16384) :
    ∃ k : ℕ, 15 ≤ k ∧ k < 100000 ∧ ⌊Real.log ((n : ℝ) / 16) / (8721810 / 4194304) * 16⌋ = (k : ℤ) := by
  have hn : (128 : ℝ) ≤ n := by exact_mod_cast h1
  have hn2 : (n : ℝ) < 16384 := by exact_mod_cast h2
  have lo : Real.log 8 ≤ Real.log ((n : ℝ) / 16) := Real.log_le_log (by norm_num) (by linarith)
  have l8 : Real.log 8 = 3 * Real.log 2 := by
    rw [show (8 : ℝ) = 2 ^ 3 by norm_num, Real.log_pow]; norm_num
  have l2 : (0.656 : ℝ) ≤ Real.log 2 := by
    have a : Real.log (1 / 2) ≤ Real.log ((0.918 : ℝ) ^ 8) := Real.log_le_log (by norm_num) (by norm_num)
    rw [Real.log_pow, one_div, Real.log_inv] at a
    have b := Real.log_le_sub_one_of_pos (show (0 : ℝ) < 0.918 by norm_num)
    push_cast at a
    linarith
  have hi : Real.log ((n : ℝ) / 16) ≤ (n : ℝ) / 16 - 1 := Real.log_le_sub_one_of_pos (by linarith)
  have a1 : (15 : ℝ) ≤ Real.log ((n : ℝ) / 16) / (8721810 / 4194304) * 16 := by
    rw [div_mul_eq_mul_div, le_div_iff₀ (by norm_num)]
    linarith
  have a2 : Real.log ((n : ℝ) / 16) / (8721810 / 4194304) * 16 < 100000 := by
    rw [div_mul_eq_mul_div, div_lt_iff₀ (by norm_num)]
    linarith
  have f1 : (15 : ℤ) ≤ ⌊Real.log ((n : ℝ) / 16) / (8721810 / 4194304) * 16⌋ := Int.le_floor.mpr (by exact_mod_cast a1)
  have f2 : ⌊Real.log ((n : ℝ) / 16) / (8721810 / 4194304) * 16⌋ < (100000 : ℤ) := Int.floor_lt.mpr (by exact_mod_cast a2)
  refine ⟨⌊Real.log ((n : ℝ) / 16) / (8721810 / 4194304) * 16⌋.toNat, ?_, ?_, ?_⟩ <;> omega

/-- The logarithm's part of a distance from 128 on, as a word. -/
theorem log_word (n : ℕ) (h1 : 128 ≤ n) (h2 : n < 16384) :
    ∃ k : ℕ, 15 ≤ k ∧ k < 100000 ∧ (FloatOps.fptosi (F := Ideal) (φ := .f32) 32
      (Ideal.div (Ideal.log (Ideal.div (FloatOps.sitofp (F := Ideal) FTy.f32 (BitVec.ofNat 32 n))
        (Ideal.ofBits FTy.f32 0x41800000#32))) (Ideal.ofBits FTy.f32 0x40051592#32) * Ideal.ofBits FTy.f32 0x41800000#32))
      = BitVec.ofNat 32 k := by
  obtain ⟨k, k1, k2, e⟩ := log_part n h1 h2
  refine ⟨k, k1, k2, ?_⟩
  have t : (BitVec.ofNat 32 n).toInt = (n : ℤ) := by
    rw [BitVec.toInt_ofNat']; simp only [Int.bmod]; omega
  have hn : (128 : ℝ) ≤ n := by exact_mod_cast h1
  have hpos : 0 ≤ Real.log ((n : ℝ) / 16) / (8721810 / 4194304) * 16 := by
    have : (0 : ℤ) ≤ ⌊Real.log ((n : ℝ) / 16) / (8721810 / 4194304) * 16⌋ := by omega
    exact_mod_cast Int.floor_nonneg.mp this
  rw [ofBits_16, ofBits_log8]
  show Ideal.fptosi 32 (Ideal.div (Ideal.log (Ideal.div (((BitVec.ofNat 32 n).toInt : ℝ) : EReal) ((16 : ℝ) : EReal))) _ * _) = _
  rw [t, Ideal.div_coe (y := (16 : ℝ)) (by norm_num), ← EReal.coe_mul, Ideal.log_coe, if_neg (by push_cast; linarith),
    Ideal.div_coe (y := (8721810 / 4194304 : ℝ)) (by norm_num), ← EReal.coe_mul, ← EReal.coe_mul, mul_one_div, mul_one_div]
  show BitVec.ofInt 32 (max _ (min _ (if 0 ≤ _ then _ else _))) = _
  rw [Int.cast_natCast, if_pos hpos, e, min_eq_right (by norm_num; omega), max_eq_right (by norm_num)]
  exact BitVec.ofInt_natCast ..

/-- A distance from 128 on reads the table's last row. -/
theorem rowOf_far (n : ℕ) (h1 : 128 ≤ n) (h2 : n < 16384) : rowOf (BitVec.ofNat 32 n) = 31 := by
  obtain ⟨k, k1, k2, e⟩ := log_word n h1 h2
  have m1 : IntOp.maxsi (BitVec.ofNat 32 n) 1#32 = BitVec.ofNat 32 n := by
    unfold IntOp.maxsi
    rw [if_pos]
    simp only [BitVec.slt, BitVec.toInt_ofNat', Int.bmod]
    rw [decide_eq_true_eq]; omega
  have c1 : IntOp.cmpi .slt (BitVec.ofNat 32 n) 16#32 = 0#1 := by
    unfold IntOp.cmpi
    have : (BitVec.ofNat 32 n).slt 16#32 = false := by
      simp only [BitVec.slt, BitVec.toInt_ofNat', Int.bmod]
      rw [decide_eq_false_iff_not]; omega
    simp only [this]; rfl
  have b1 : bucketW (BitVec.ofNat 32 n) = 31#32 := by
    unfold bucketW
    rw [m1, e, c1]
    show IntOp.minsi (IntOp.addi 16#32 (BitVec.ofNat 32 k)) 31#32 = _
    unfold IntOp.minsi IntOp.addi
    rw [if_neg]
    rw [← BitVec.ofNat_add]
    simp only [BitVec.slt, BitVec.toInt_ofNat', Int.bmod]
    rw [decide_eq_true_eq]; omega
  unfold rowOf rowW
  rw [Fin.ext_iff]
  simp only [b1]
  rfl

end Cert.Flash
-- ==== Proof.Gather.lean ====
/-
The rows of the bias table read at an index: the two programs' gathers.
-/
module
public import proofs.«01_k».proof.Proof.Gen.KernelIdeal
public import proofs.«01_k».proof.Proof.Gen.ReferenceIdeal
public import Idealize.ShloMosaic.Lib.Pointwise

@[expose] public section
set_option maxRecDepth 16384
noncomputable section

open Idealize.ShloMosaic Idealize.ShloMosaic.TcCoe Idealize.SL.Sem
open Idealize.ShloMosaic.Pointwise

namespace Cert.Flash

/-- The kernel's gather: one row of the table for each of 640 distances. -/
theorem gather_k (x : FVec Ideal Cert.KernelIdeal.S32x8 .f32) (idx : IVec Cert.KernelIdeal.S640x1 32) (r : Fin 640) (h : Fin 8) :
    Host.gather Cert.KernelIdeal.gather_S32x8_S640x1_S640x8_1_0_n_n_0_1_18 x idx (ix2 r h)
      = x (ix2 ⟨min (idx (ix2 r 0)).toInt.toNat 31, by omega⟩ h) := by
  unfold Host.gather
  congr 1
  funext a
  refine Fin.ext ?_
  match a with
  | ⟨0, _⟩ =>
    show Cert.KernelIdeal.gather_S32x8_S640x1_S640x8_1_0_n_n_0_1_18.start _ idx 0 + Cert.KernelIdeal.gather_S32x8_S640x1_S640x8_1_0_n_n_0_1_18.batchCoord _ 0 + Cert.KernelIdeal.gather_S32x8_S640x1_S640x8_1_0_n_n_0_1_18.offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.KernelIdeal.gather_S32x8_S640x1_S640x8_1_0_n_n_0_1_18.startIndexMap from List.mem_singleton.mpr rfl)]
    have hsi : Cert.KernelIdeal.gather_S32x8_S640x1_S640x8_1_0_n_n_0_1_18.siIdx (ix2 r h) ⟨List.idxOf (0 : Fin 2) Cert.KernelIdeal.gather_S32x8_S640x1_S640x8_1_0_n_n_0_1_18.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show Cert.KernelIdeal.gather_S32x8_S640x1_S640x8_1_0_n_n_0_1_18.start _ idx 1 + Cert.KernelIdeal.gather_S32x8_S640x1_S640x8_1_0_n_n_0_1_18.batchCoord _ 1 + Cert.KernelIdeal.gather_S32x8_S640x1_S640x8_1_0_n_n_0_1_18.offCoord _ 1 = _
    rw [GatherDims.batchCoord_eq_zero _ _ _ List.not_mem_nil]
    unfold GatherDims.start
    rw [dif_neg (show (1 : Fin 2) ∉ Cert.KernelIdeal.gather_S32x8_S640x1_S640x8_1_0_n_n_0_1_18.startIndexMap by decide)]
    unfold GatherDims.offCoord
    rw [dif_pos (show (1 : Fin 2) ∈ Cert.KernelIdeal.gather_S32x8_S640x1_S640x8_1_0_n_n_0_1_18.sKept by decide)]
    simp only [Nat.zero_add]
    rfl

/-- The reference's gather: one row of the table for each pair of positions. -/
theorem gather_r (x : FVec Ideal Cert.ReferenceIdeal.S32x8 .f32) (idx : IVec Cert.ReferenceIdeal.S16384x16384x1 32) (i j : Fin 16384) (h : Fin 8) :
    Host.gather Cert.ReferenceIdeal.gather_S32x8_S16384x16384x1_S16384x16384x8_2_0_n_n_0_2_18 x idx (ix3 i j h)
      = x (ix2 ⟨min (idx (ix3 i j 0)).toInt.toNat 31, by omega⟩ h) := by
  unfold Host.gather
  congr 1
  funext a
  refine Fin.ext ?_
  match a with
  | ⟨0, _⟩ =>
    show Cert.ReferenceIdeal.gather_S32x8_S16384x16384x1_S16384x16384x8_2_0_n_n_0_2_18.start _ idx 0 + Cert.ReferenceIdeal.gather_S32x8_S16384x16384x1_S16384x16384x8_2_0_n_n_0_2_18.batchCoord _ 0 + Cert.ReferenceIdeal.gather_S32x8_S16384x16384x1_S16384x16384x8_2_0_n_n_0_2_18.offCoord _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ Cert.ReferenceIdeal.gather_S32x8_S16384x16384x1_S16384x16384x8_2_0_n_n_0_2_18.startIndexMap from List.mem_singleton.mpr rfl)]
    have hsi : Cert.ReferenceIdeal.gather_S32x8_S16384x16384x1_S16384x16384x8_2_0_n_n_0_2_18.siIdx (ix3 i j h) ⟨List.idxOf (0 : Fin 2) Cert.ReferenceIdeal.gather_S32x8_S16384x16384x1_S16384x16384x8_2_0_n_n_0_2_18.startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  | ⟨1, _⟩ =>
    show Cert.ReferenceIdeal.gather_S32x8_S16384x16384x1_S16384x16384x8_2_0_n_n_0_2_18.start _ idx 1 + Cert.ReferenceIdeal.gather_S32x8_S16384x16384x1_S16384x16384x8_2_0_n_n_0_2_18.batchCoord _ 1 + Cert.ReferenceIdeal.gather_S32x8_S16384x16384x1_S16384x16384x8_2_0_n_n_0_2_18.offCoord _ 1 = _
    rw [GatherDims.batchCoord_eq_zero _ _ _ List.not_mem_nil]
    unfold GatherDims.start
    rw [dif_neg (show (1 : Fin 2) ∉ Cert.ReferenceIdeal.gather_S32x8_S16384x16384x1_S16384x16384x8_2_0_n_n_0_2_18.startIndexMap by decide)]
    unfold GatherDims.offCoord
    rw [dif_pos (show (1 : Fin 2) ∈ Cert.ReferenceIdeal.gather_S32x8_S16384x16384x1_S16384x16384x8_2_0_n_n_0_2_18.sKept by decide)]
    simp only [Nat.zero_add]
    rfl

end Cert.Flash
-- ==== Proof.Entries.lean ====
/-
The entries of the queries, keys and values and the biases of the distances, as real numbers.
-/
module
public import proofs.«01_k».proof.Proof.Bucket

@[expose] public section
set_option maxRecDepth 16384
noncomputable section

open Idealize.ShloMosaic Idealize.ShloMosaic.TcCoe Idealize.SL.Sem
open Idealize.ShloMosaic.Pointwise

namespace Cert.Flash

/-- An entry of the array of queries, keys and values. -/
def Pof (x : FVec Ideal (⟨2, ![32768, 3072]⟩ : Shape) .bf16) (r k : ℕ) : ℝ :=
  if h : r < 32768 ∧ k < 3072 then (x (ix2 ⟨r, h.1⟩ ⟨k, h.2⟩)).toReal else 0

/-- The bias a head gives a distance, less the one it gives the far distances. -/
def Bof (x : FVec Ideal (⟨2, ![32, 8]⟩ : Shape) .f32) (h n : ℕ) : ℝ :=
  if g : h < 8 ∧ n < 16384 then (x (ix2 (rowOf (BitVec.ofNat 32 n)) ⟨h, g.1⟩)).toReal - (x (ix2 31 ⟨h, g.1⟩)).toReal else 0

theorem Pof_eq (x : FVec Ideal (⟨2, ![32768, 3072]⟩ : Shape) .bf16) (hx : ∀ i, x i = (((x i).toReal : ℝ) : EReal)) (r : Fin 32768) (k : Fin 3072) :
    x (ix2 r k) = ((Pof x r.val k.val : ℝ) : EReal) := by
  unfold Pof
  rw [dif_pos ⟨r.isLt, k.isLt⟩]
  exact hx _

theorem Bof_far (x : FVec Ideal (⟨2, ![32, 8]⟩ : Shape) .f32) (h n : ℕ) (hn : 129 ≤ n) : Bof x h n = 0 := by
  unfold Bof
  split_ifs with g
  · rw [rowOf_far n (by omega) g.2, sub_self]
  · rfl

/-- A word that counts a distance is not negative. -/
theorem maxsi_zero (n : ℕ) (hn : n < 16384) : IntOp.maxsi (BitVec.ofNat 32 n) 0#32 = BitVec.ofNat 32 n := by
  unfold IntOp.maxsi
  split_ifs with e
  · rfl
  · have z : n = 0 := by
      by_contra hz
      apply e
      simp only [BitVec.slt, BitVec.toInt_ofNat', Int.bmod]
      rw [decide_eq_true_eq]; omega
    rw [z]

end Cert.Flash
-- ==== Proof.Table.lean ====
/-
The table of biases the host lays out for the kernel, read at an index: of a head, a row of a tile and a column of the
three tiles next to the diagonal, the bias of their distance less the far distances', or minus infinity after the diagonal.
-/
module
public import proofs.«01_k».proof.Proof.Gen.KernelIdeal
public import proofs.«01_k».proof.Proof.Gen.KernelIdeal.Value
public import proofs.«01_k».proof.Proof.Bucket
public import proofs.«01_k».proof.Proof.Gather
public import proofs.«01_k».proof.Proof.Entries
public import Idealize.ShloMosaic.Lib.Pointwise
public import Idealize.ShloMosaic.Lib.Pipeline.ValueKit
public import Idealize.ShloMosaic.Lib.StableHlo.ReadAt

@[expose] public section
set_option maxRecDepth 16384
noncomputable section

open Idealize.ShloMosaic Idealize.ShloMosaic.TcCoe Idealize.SL.Sem
open Cert.KernelIdeal Cert.KernelIdeal.Gen Idealize.ShloMosaic.Pointwise

namespace Cert.Flash

/-- The rows of the bias table the host reads for the 640 distances. -/
def tabIdx : IVec S640x1 32 :=
  broadcastInDim S640x1 ![0] bcast_S640_S640x1_0
    (select (cmpi CmpIPredicate.slt (select (cmpi CmpIPredicate.slt (maxsi (iotaInDim S640 32 0) (broadcastInDim S640 ![] bcast_S_S640 (constantI S_ 32 0#32))) (broadcastInDim S640 ![] bcast_S_S640 (constantI S_ 32 16#32))) (maxsi (iotaInDim S640 32 0) (broadcastInDim S640 ![] bcast_S_S640 (constantI S_ 32 0#32))) (minsi (addi (broadcastInDim S640 ![] bcast_S_S640 (constantI S_ 32 16#32)) (fptosi 32 (mulf (Host.divf (Host.log (Host.divf (sitofp FTy.f32 (maxsi (maxsi (iotaInDim S640 32 0) (broadcastInDim S640 ![] bcast_S_S640 (constantI S_ 32 0#32))) (broadcastInDim S640 ![] bcast_S_S640 (constantI S_ 32 1#32)))) (broadcastInDim S640 ![] bcast_S_S640 (constant (F := Ideal) S_ FTy.f32 1098907648#32)))) (broadcastInDim S640 ![] bcast_S_S640 (constant S_ FTy.f32 1074075026#32))) (broadcastInDim S640 ![] bcast_S_S640 (constant S_ FTy.f32 1098907648#32))))) (broadcastInDim S640 ![] bcast_S_S640 (constantI S_ 32 31#32)))) (broadcastInDim S640 ![] bcast_S_S640 (constantI S_ 32 0#32)))
      (addi (select (cmpi CmpIPredicate.slt (maxsi (iotaInDim S640 32 0) (broadcastInDim S640 ![] bcast_S_S640 (constantI S_ 32 0#32))) (broadcastInDim S640 ![] bcast_S_S640 (constantI S_ 32 16#32))) (maxsi (iotaInDim S640 32 0) (broadcastInDim S640 ![] bcast_S_S640 (constantI S_ 32 0#32))) (minsi (addi (broadcastInDim S640 ![] bcast_S_S640 (constantI S_ 32 16#32)) (fptosi 32 (mulf (Host.divf (Host.log (Host.divf (sitofp FTy.f32 (maxsi (maxsi (iotaInDim S640 32 0) (broadcastInDim S640 ![] bcast_S_S640 (constantI S_ 32 0#32))) (broadcastInDim S640 ![] bcast_S_S640 (constantI S_ 32 1#32)))) (broadcastInDim S640 ![] bcast_S_S640 (constant (F := Ideal) S_ FTy.f32 1098907648#32)))) (broadcastInDim S640 ![] bcast_S_S640 (constant S_ FTy.f32 1074075026#32))) (broadcastInDim S640 ![] bcast_S_S640 (constant S_ FTy.f32 1098907648#32))))) (broadcastInDim S640 ![] bcast_S_S640 (constantI S_ 32 31#32)))) (broadcastInDim S640 ![] bcast_S_S640 (constantI S_ 32 32#32)))
      (select (cmpi CmpIPredicate.slt (maxsi (iotaInDim S640 32 0) (broadcastInDim S640 ![] bcast_S_S640 (constantI S_ 32 0#32))) (broadcastInDim S640 ![] bcast_S_S640 (constantI S_ 32 16#32))) (maxsi (iotaInDim S640 32 0) (broadcastInDim S640 ![] bcast_S_S640 (constantI S_ 32 0#32))) (minsi (addi (broadcastInDim S640 ![] bcast_S_S640 (constantI S_ 32 16#32)) (fptosi 32 (mulf (Host.divf (Host.log (Host.divf (sitofp FTy.f32 (maxsi (maxsi (iotaInDim S640 32 0) (broadcastInDim S640 ![] bcast_S_S640 (constantI S_ 32 0#32))) (broadcastInDim S640 ![] bcast_S_S640 (constantI S_ 32 1#32)))) (broadcastInDim S640 ![] bcast_S_S640 (constant (F := Ideal) S_ FTy.f32 1098907648#32)))) (broadcastInDim S640 ![] bcast_S_S640 (constant S_ FTy.f32 1074075026#32))) (broadcastInDim S640 ![] bcast_S_S640 (constant S_ FTy.f32 1098907648#32))))) (broadcastInDim S640 ![] bcast_S_S640 (constantI S_ 32 31#32)))))

theorem tabIdx_at (k : Fin 640) : tabIdx (ix2 k 0) = rowW (BitVec.ofNat 32 k.val) := by
  have e : tabIdx (ix2 k 0) = rowW (IntOp.maxsi (BitVec.ofNat 32 k.val) 0#32) := by
    pointwise [tabIdx]
    rfl
  rw [e, maxsi_zero _ (by omega)]

theorem tab_gather (x : FVec Ideal S32x8 .f32) (k : Fin 640) (h : Fin 8) :
    Host.gather gather_S32x8_S640x1_S640x8_1_0_n_n_0_1_18 x tabIdx (ix2 k h) = x (ix2 (rowOf (BitVec.ofNat 32 k.val)) h) := by
  rw [gather_k]
  simp only [tabIdx_at]
  rfl

section
variable (m : (ℓ : Loc nD τ sig) → Buf (Elt Ideal) ℓ) (c : Dev nD)

/-- The bias of a distance, less the far distances'. -/
theorem tab_diff (x : FVec Ideal S32x8 .f32) (hx : ∀ i, x i = (((x i).toReal : ℝ) : EReal)) (k : Fin 640) (h : Fin 8) :
    Host.gather gather_S32x8_S640x1_S640x8_1_0_n_n_0_1_18 x tabIdx (ix2 k h) - x (ix2 31 h) = ((Bof x h.val k.val : ℝ) : EReal) := by
  rw [tab_gather, hx, hx (ix2 31 h), ← EReal.coe_sub]
  unfold Bof
  rw [dif_pos ⟨h.isLt, by omega⟩]

theorem table_at (x : FVec Ideal S32x8 .f32) (e : x = m (c, Proc.tc.devRef main_arg1)) (hx : ∀ i, x i = (((x i).toReal : ℝ) : EReal)) (h : Fin 8) (r : Fin 256) (n : Fin 384) :
    V (F := Ideal) m c main_v45 (ix3 h r n : S8x256x384.Idx)
      = if n.val ≤ r.val + 128 then ((Bof x h.val (128 + r.val - n.val) : ℝ) : EReal) else ⊥ := by
  unfold V
  simp only [hostOps0, hostOps0_1, hostOps0_2, List.flatten_cons, List.flatten_nil, List.append_nil, List.cons_append,
      List.nil_append]
  after_reads_at
  after_reads_at
  simp only [← e]
  have d := tab_diff x hx
  unfold tabIdx at d
  have hr := r.isLt
  have hn := n.isLt
  simp only [List.mem_singleton, ↓reduceIte, Fin.reduceEq, Fin.isValue, zero_ne_one, d, Fin.val_rev]
  have k1 : ∀ a b : ℕ, a = b → ((Bof x h.val a : ℝ) : EReal) = ((Bof x h.val b : ℝ) : EReal) := fun a b e => by rw [e]
  split_ifs
  all_goals first
    | exact ofBits_neg_inf
    | (exfalso; omega)
    | contradiction
    | (refine k1 _ _ ?_; (try simp only [Fin.val_rev]); omega)

theorem small2 (k : Fin 64) : V (F := Ideal) m c main_v46 (ix2 (0 : Fin 1) k : S1x64.Idx) = m (c, Proc.tc.devRef main_arg2) (ix1 k : S64.Idx) := by
  unfold V
  simp only [hostOps0, hostOps0_1, hostOps0_2, List.flatten_cons, List.flatten_nil, List.append_nil, List.cons_append,
      List.nil_append]
  after_reads_at

theorem small3 (k : Fin 64) : V (F := Ideal) m c main_v47 (ix2 (0 : Fin 1) k : S1x64.Idx) = m (c, Proc.tc.devRef main_arg3) (ix1 k : S64.Idx) := by
  unfold V
  simp only [hostOps0, hostOps0_1, hostOps0_2, List.flatten_cons, List.flatten_nil, List.append_nil, List.cons_append,
      List.nil_append]
  after_reads_at

theorem small4 (k : Fin 64) : V (F := Ideal) m c main_v48 (ix2 (0 : Fin 1) k : S1x64.Idx) = m (c, Proc.tc.devRef main_arg4) (ix1 k : S64.Idx) := by
  unfold V
  simp only [hostOps0, hostOps0_1, hostOps0_2, List.flatten_cons, List.flatten_nil, List.append_nil, List.cons_append,
      List.nil_append]
  after_reads_at

theorem small5 (k : Fin 64) : V (F := Ideal) m c main_v49 (ix2 (0 : Fin 1) k : S1x64.Idx) = m (c, Proc.tc.devRef main_arg5) (ix1 k : S64.Idx) := by
  unfold V
  simp only [hostOps0, hostOps0_1, hostOps0_2, List.flatten_cons, List.flatten_nil, List.append_nil, List.cons_append,
      List.nil_append]
  after_reads_at

theorem small6 (k : Fin 128) : V (F := Ideal) m c main_v50 (ix2 (0 : Fin 1) k : S1x128.Idx) = m (c, Proc.tc.devRef main_arg6) (ix1 k : S128.Idx) := by
  unfold V
  simp only [hostOps0, hostOps0_1, hostOps0_2, List.flatten_cons, List.flatten_nil, List.append_nil, List.cons_append,
      List.nil_append]
  after_reads_at

end

end Cert.Flash
-- ==== Proof.Finite.lean ====
/-
What the precondition gives: every entry of the arguments it speaks of is a real number.
-/
module
public import proofs.«01_k».proof.Pre_finite
public import proofs.«01_k».proof.Proof.Consts
public import proofs.«01_k».proof.Proof.Claims
public import Idealize.ShloMosaic.Lib.Pointwise
public import Idealize.ShloMosaic.Lib.ReduceAll

@[expose] public section
set_option maxRecDepth 16384
noncomputable section

open Idealize.ShloMosaic Idealize.ShloMosaic.TcCoe Idealize.SL.Sem
open Cert.Pre_finite Idealize.ShloMosaic.Pointwise

namespace Cert.Flash

theorem and_one (a b : BitVec 1) (e : IntOp.andi a b = 1#1) : a = 1#1 ∧ b = 1#1 := by
  revert a b; decide

/-- A number whose absolute value is below infinity is real. -/
theorem real_of_lt (x : EReal) (e : Ideal.cmp .olt (max x (-x)) (Ideal.ofBits FTy.f32 0x7F800000#32) = 1#1) :
    x = ((x.toReal : ℝ) : EReal) := by
  rw [ofBits_inf] at e
  induction x with
  | bot => exact absurd e (by simp [Ideal.cmp])
  | top => exact absurd e (by simp [Ideal.cmp])
  | coe y => rfl

theorem finite_all [Facts] (x0 : FVec Ideal S32768x3072 .bf16) (x1 : FVec Ideal S32x8 .f32) (x2 x3 x4 x5 : FVec Ideal S64 .f32)
    (x6 : FVec Ideal S128 .f32) (e : fn x0 x1 x2 x3 x4 x5 x6 = fun _ => 1#1) :
    (∀ i, x0 i = (((x0 i).toReal : ℝ) : EReal)) ∧ (∀ i, x1 i = (((x1 i).toReal : ℝ) : EReal)) ∧
    (∀ i, x2 i = (((x2 i).toReal : ℝ) : EReal)) ∧ (∀ i, x3 i = (((x3 i).toReal : ℝ) : EReal)) ∧
    (∀ i, x4 i = (((x4 i).toReal : ℝ) : EReal)) ∧ (∀ i, x5 i = (((x5 i).toReal : ℝ) : EReal)) := by
  haveI : Subsingleton S_.Idx := ⟨fun a b => funext fun k => k.elim0⟩
  have e0 := congrFun e ix0
  unfold fn at e0
  unfold fn_part1 at e0
  obtain ⟨e0, h5⟩ := and_one _ _ e0
  obtain ⟨e0, h4⟩ := and_one _ _ e0
  obtain ⟨e0, h3⟩ := and_one _ _ e0
  obtain ⟨e0, h2⟩ := and_one _ _ e0
  obtain ⟨h0, h1⟩ := and_one _ _ e0
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i)⟩

end Cert.Flash
-- ==== Proof.Softmax.lean ====
/-
The weights of one row: exponentials of the scores less the row's maximum, over their sum, are the plain weights over
their sum, whatever number the maximum is.
-/
module
public import proofs.«01_k».proof.Proof.Consts
public import Idealize.ShloMosaic.Lib.Pointwise

@[expose] public section
set_option maxRecDepth 16384
noncomputable section

open Idealize.ShloMosaic Idealize.ShloMosaic.TcCoe Idealize.SL.Sem
open Idealize.ShloMosaic.Pointwise

namespace Cert.Flash

/-- The maximum of a row with a real score is real. -/
theorem max_real {n : ℕ} (S : Fin n → EReal) (s : Fin n → ℝ) (p : Fin n → Prop) [DecidablePred p]
    (hS : ∀ j, S j = if p j then ((s j : ℝ) : EReal) else ⊥) (i : Fin n) (hi : p i) :
    ∃ M : ℝ, max ⊥ (Finset.fold max ⊥ S Finset.univ) = (M : EReal) := by
  have lo : (⊥ : EReal) < Finset.fold max ⊥ S Finset.univ := by
    rw [Finset.lt_fold_max]
    exact Or.inr ⟨i, Finset.mem_univ _, by rw [hS, if_pos hi]; exact EReal.bot_lt_coe _⟩
  have hi' : Finset.fold max ⊥ S Finset.univ < (⊤ : EReal) := by
    rw [Finset.fold_max_lt]
    refine ⟨bot_lt_top, fun j _ => ?_⟩
    rw [hS]
    split_ifs
    · exact EReal.coe_lt_top _
    · exact bot_lt_top
  refine ⟨(Finset.fold max ⊥ S Finset.univ).toReal, ?_⟩
  rw [max_eq_right bot_le, EReal.coe_toReal hi'.ne lo.ne']

/-- The exponential of a score less the maximum. -/
theorem exp_shift (p : Prop) [Decidable p] (s k M : ℝ) :
    Ideal.exp ((if p then ((s + k : ℝ) : EReal) else ⊥) - (M : EReal)) = (((if p then Real.exp s else 0) * Real.exp (k - M) : ℝ) : EReal) := by
  split_ifs
  · rw [← EReal.coe_sub, Ideal.exp_coe, ← Real.exp_add]
    congr 2; ring
  · rw [EReal.bot_sub, Ideal.exp_bot, zero_mul, EReal.coe_zero]

/-- The sum of real numbers. -/
theorem sum_real {ι : Type} (t : Finset ι) (f : ι → ℝ) : ∑ j ∈ t, ((f j : ℝ) : EReal) = ((∑ j ∈ t, f j : ℝ) : EReal) := by
  classical
  induction t using Finset.induction_on with
  | empty => simp
  | insert a t h ih => rw [Finset.sum_insert h, Finset.sum_insert h, ih, EReal.coe_add]

/-- A weight over the sum of the weights, each times one number. -/
theorem div_shift {n : ℕ} (w : Fin n → ℝ) (k : ℝ) (hk : k ≠ 0) (hw : ∑ j, w j ≠ 0) (j : Fin n) :
    Ideal.div ((w j * k : ℝ) : EReal) (∑ x, ((w x * k : ℝ) : EReal)) = ((w j / ∑ x, w x : ℝ) : EReal) := by
  rw [sum_real, ← Finset.sum_mul, Ideal.div_coe (mul_ne_zero hw hk), ← EReal.coe_mul]
  congr 1
  field_simp

/-- The weighted sum of the difference of two rows of weights is the difference of the weighted sums. -/
theorem avg_diff {n : ℕ} (p q v : Fin n → ℝ) (P Q l : ℝ) :
    ∑ j, (((p j / P : ℝ) : EReal) - (l : EReal) * ((q j / Q : ℝ) : EReal)) * ((v j : ℝ) : EReal)
      = (((∑ j, p j * v j) / P : ℝ) : EReal) - (l : EReal) * (((∑ j, q j * v j) / Q : ℝ) : EReal) := by
  simp only [← EReal.coe_mul, ← EReal.coe_sub]
  rw [sum_real]
  congr 1
  rw [Finset.sum_div, Finset.sum_div, Finset.mul_sum, ← Finset.sum_sub_distrib]
  exact Finset.sum_congr rfl fun j _ => by ring

end Cert.Flash
-- ==== Proof.RefScore.lean ====
/-
The reference's scores and weights, read at an index.
-/
module
public import proofs.«01_k».proof.Proof.Gen.ReferenceIdeal
public import proofs.«01_k».proof.Proof.Gen.ReferenceIdeal.Run
public import proofs.«01_k».proof.Proof.Entries
public import proofs.«01_k».proof.Proof.Gather
public import proofs.«01_k».proof.Proof.Softmax
public import proofs.«01_k».proof.Proof.Weights
public import Idealize.ShloMosaic.Lib.Pointwise
public import Idealize.ShloMosaic.Lib.Tactic.CleanTypes

@[expose] public section
set_option maxRecDepth 16384
noncomputable section

open Idealize.ShloMosaic Idealize.ShloMosaic.TcCoe Idealize.SL.Sem
open Cert.ReferenceIdeal Cert.ReferenceIdeal.Gen Cert.ReferenceIdeal.Value Idealize.ShloMosaic.Pointwise Idealize.ShloMosaic.StableHlo

namespace Cert.Flash

section
variable (V0 : Valuation τ sig (Elt Ideal)) (x0 : FVec Ideal S32768x3072 .bf16) (e0 : x0 = V0 (Proc.devRef .tc main_arg0)) (hx0 : ∀ i, x0 i = (((x0 i).toReal : ℝ) : EReal))
  (x1 : FVec Ideal S32x8 .f32) (e1 : x1 = V0 (Proc.devRef .tc main_arg1)) (hx1 : ∀ i, x1 i = (((x1 i).toReal : ℝ) : EReal))

theorem bucket_at (i j : Fin 16384) :
    res_main_v48 V0 (ix2 i j) = bucketW (IntOp.maxsi (IntOp.subi (BitVec.ofNat 32 i.val) (BitVec.ofNat 32 j.val)) 0#32) := by
  pointwise [res_main_v48, res_main_v30, res_main_v28]
  rfl

theorem sel_one (a b : EReal) : Scalar.select 1#1 a b = a := rfl
theorem sel_zero (a b : EReal) : Scalar.select 0#1 a b = b := rfl

/-- A difference of positions as a word, of a key not after its query. -/
theorem sub_word (i j : ℕ) (hij : j ≤ i) (hi : i < 16384) : IntOp.subi (BitVec.ofNat 32 i) (BitVec.ofNat 32 j) = BitVec.ofNat 32 (i - j) := by
  unfold IntOp.subi
  apply BitVec.eq_of_toNat_eq
  simp only [BitVec.toNat_sub, BitVec.toNat_ofNat]
  omega

/-- The mask: the keys not after the query. -/
theorem mask_at (i j : ℕ) (hi : i < 16384) (hj : j < 16384) :
    IntOp.cmpi CmpIPredicate.sge (IntOp.subi (BitVec.ofNat 32 i) (BitVec.ofNat 32 j)) 0#32 = if j ≤ i then 1#1 else 0#1 := by
  unfold IntOp.cmpi IntOp.subi
  have h : (0#32).sle (BitVec.ofNat 32 i - BitVec.ofNat 32 j) = decide (j ≤ i) := by
    simp only [BitVec.sle, BitVec.toInt_sub, BitVec.toInt_ofNat', Int.bmod]
    rw [decide_eq_decide]; omega
  simp only [h]
  split_ifs with a <;> simp [a]

include e0 hx0 e1 hx1 in
/-- The masked scores. -/
theorem score_at (b : Fin 2) (h : Fin 8) (μ : Fin 2) (i j : Fin 16384) :
    res_main_v62 V0 (ix5 b h μ i j)
      = if j.val ≤ i.val then ((dotAt (Pof x0) b.val h.val μ.val i.val j.val / 8 + Bof x1 h.val (i.val - j.val) + (x1 (ix2 31 h)).toReal : ℝ) : EReal) else ⊥ := by
  have bk := bucket_at V0 i j
  unfold res_main_v62
  generalize res_main_v48 V0 = W at bk ⊢
  pointwise [res_main_v1, res_main_v28]
  rw [mask_at _ _ i.isLt j.isLt]
  by_cases hij : j.val ≤ i.val
  · rw [if_pos hij, if_pos hij, sel_one, gather_r]
    simp only [← e0, ← e1]
    have g : (broadcastInDim S16384x16384x1 ![0, 1] bcast_S16384x16384_S16384x16384x1_0_1
        (select (cmpi CmpIPredicate.slt W (broadcastInDim S16384x16384 ![] bcast_S_S16384x16384 (constantI S_ 32 0#32)))
          (addi W (broadcastInDim S16384x16384 ![] bcast_S_S16384x16384 (constantI S_ 32 32#32))) W)) (ix3 i j 0)
        = rowW (BitVec.ofNat 32 (i.val - j.val)) := by
      pointwise
      rw [bk, sub_word _ _ hij i.isLt, maxsi_zero _ (by omega)]
      rfl
    simp only [g]
    have s : ∀ x : Fin 64, x0 (ix2 ⟨b.val * 16384 + i.val, by omega⟩ ⟨h.val * 128 + μ.val * 64 + x.val, by omega⟩) * Ideal.ofBits FTy.f32 0x3E000000#32
          * x0 (ix2 ⟨b.val * 16384 + j.val, by omega⟩ ⟨1024 + (h.val * 128 + μ.val * 64 + x.val), by omega⟩)
        = ((Pof x0 (16384 * b.val + i.val) (128 * h.val + 64 * μ.val + x.val) * Pof x0 (16384 * b.val + j.val) (1024 + 128 * h.val + 64 * μ.val + x.val) / 8 : ℝ) : EReal) := by
      intro x
      rw [Pof_eq x0 hx0, Pof_eq x0 hx0, ofBits_eighth, ← EReal.coe_mul, ← EReal.coe_mul]
      have a1 : b.val * 16384 + i.val = 16384 * b.val + i.val := by omega
      have a2 : b.val * 16384 + j.val = 16384 * b.val + j.val := by omega
      have a3 : h.val * 128 + μ.val * 64 + x.val = 128 * h.val + 64 * μ.val + x.val := by omega
      have a4 : 1024 + (h.val * 128 + μ.val * 64 + x.val) = 1024 + 128 * h.val + 64 * μ.val + x.val := by omega
      simp only [a1, a2, a4]
      simp only [a3]
      congr 1; ring
    refine (congrArg₂ (· + ·) ((Finset.sum_congr rfl fun x _ => s x).trans (sum_real _ _)) (hx1 _)).trans ?_
    rw [← EReal.coe_add]
    congr 1
    unfold dotAt Bof
    rw [dif_pos ⟨h.isLt, by omega⟩, ← Finset.sum_div]
    have q : ∀ a b k : ℝ, a + b = a + (b - k) + k := fun a b k => by ring
    exact q _ _ _
  · rw [if_neg hij, if_neg hij, sel_zero]
    exact ofBits_neg_inf

end

end Cert.Flash
-- ==== Proof.LastAxis.lean ====
/-
A maximum and a sum along the last of five axes, for any sizes.
-/
module
public import proofs.«01_k».proof.Proof.Gen.ReferenceIdeal
public import proofs.«01_k».proof.Proof.Gen.ReferenceIdeal.Run
public import proofs.«01_k».proof.Proof.RefScore
public import proofs.«01_k».proof.Proof.Softmax
public import proofs.«01_k».proof.Proof.Weights
public import Idealize.ShloMosaic.Lib.Pointwise
public import Idealize.ShloMosaic.Lib.Tactic.CleanTypes

@[expose] public section
set_option maxRecDepth 16384
noncomputable section

open Idealize.ShloMosaic Idealize.ShloMosaic.TcCoe Idealize.SL.Sem
open Cert.ReferenceIdeal Cert.ReferenceIdeal.Gen Cert.ReferenceIdeal.Value Idealize.ShloMosaic.Pointwise Idealize.ShloMosaic.StableHlo

namespace Cert.Flash

variable {n0 n1 n2 n3 n4 : ℕ}

/-- The maximum along the last of five axes, at an index. -/
theorem max_last (hr : (⟨5, ![n0, n1, n2, n3, n4]⟩ : Shape).ReducesTo [4] ⟨4, ![n0, n1, n2, n3]⟩) (hu : 0 < S_.numel)
    (W : FVec Ideal ⟨5, ![n0, n1, n2, n3, n4]⟩ .f32) (a : Fin n0) (b : Fin n1) (c : Fin n2) (d : Fin n3) :
    Host.reduce FloatOps.maximumf W (constant S_ .f32 0xFF800000#32) hr hu (ix4 a b c d)
      = Finset.fold max ⊥ (fun y : Fin n4 => W (ix5 a b c d y)) Finset.univ := by
  pointwise
  rw [ofBits_neg_inf]

/-- The maximum along the last of five axes is a number when a row's entries are numbers where `p` holds and the bottom
elsewhere, and `p` holds somewhere. -/
theorem max_last_real (hr : (⟨5, ![n0, n1, n2, n3, n4]⟩ : Shape).ReducesTo [4] ⟨4, ![n0, n1, n2, n3]⟩) (hu : 0 < S_.numel)
    (W : FVec Ideal ⟨5, ![n0, n1, n2, n3, n4]⟩ .f32) (a : Fin n0) (b : Fin n1) (c : Fin n2) (d : Fin n3)
    (s : Fin n4 → ℝ) (p : Fin n4 → Prop) [DecidablePred p]
    (hW : ∀ y, W (ix5 a b c d y) = if p y then ((s y : ℝ) : EReal) else ⊥) (i : Fin n4) (hi : p i) :
    ∃ M : ℝ, max (⊥ : EReal) (Host.reduce (α := Ideal .f32) FloatOps.maximumf W (constant S_ .f32 0xFF800000#32) hr hu (ix4 a b c d)) = (M : EReal) := by
  rw [max_last]
  exact max_real _ s p hW i hi

/-- The sum along the last of five axes, at an index. -/
theorem sum_last (hr : (⟨5, ![n0, n1, n2, n3, n4]⟩ : Shape).ReducesTo [4] ⟨4, ![n0, n1, n2, n3]⟩) (hu : 0 < S_.numel)
    (W : FVec Ideal ⟨5, ![n0, n1, n2, n3, n4]⟩ .f32) (a : Fin n0) (b : Fin n1) (c : Fin n2) (d : Fin n3) :
    Host.reduceAdd W (constant S_ .f32 0x00000000#32) hr hu (ix4 a b c d)
      = ∑ y : Fin n4, W (ix5 a b c d y) := by
  pointwise

end Cert.Flash
-- ==== Proof.RefProb.lean ====
/-
The reference's weights, read at an index.
-/
module
public import proofs.«01_k».proof.Proof.Gen.ReferenceIdeal
public import proofs.«01_k».proof.Proof.Gen.ReferenceIdeal.Run
public import proofs.«01_k».proof.Proof.RefScore
public import proofs.«01_k».proof.Proof.LastAxis
public import proofs.«01_k».proof.Proof.Softmax
public import proofs.«01_k».proof.Proof.Weights
public import Idealize.ShloMosaic.Lib.Pointwise
public import Idealize.ShloMosaic.Lib.Tactic.CleanTypes

@[expose] public section
set_option maxRecDepth 16384
noncomputable section

open Idealize.ShloMosaic Idealize.ShloMosaic.TcCoe Idealize.SL.Sem
open Cert.ReferenceIdeal Cert.ReferenceIdeal.Gen Cert.ReferenceIdeal.Value Idealize.ShloMosaic.Pointwise Idealize.ShloMosaic.StableHlo

namespace Cert.Flash

section
variable (V0 : Valuation τ sig (Elt Ideal)) (x0 : FVec Ideal S32768x3072 .bf16) (e0 : x0 = V0 (Proc.devRef .tc main_arg0)) (hx0 : ∀ i, x0 i = (((x0 i).toReal : ℝ) : EReal))
  (x1 : FVec Ideal S32x8 .f32) (e1 : x1 = V0 (Proc.devRef .tc main_arg1)) (hx1 : ∀ i, x1 i = (((x1 i).toReal : ℝ) : EReal))

/-- The exponential of a score less a number of its row, read at an index. -/
theorem exp_read (W : FVec Ideal S2x8x2x16384x16384 .f32) (Y : FVec Ideal S2x8x2x16384 .f32) (b : Fin 2) (h : Fin 8) (μ : Fin 2) (i j : Fin 16384) :
    (Host.exp (subf W (broadcastInDim S2x8x2x16384x16384 ![0, 1, 2, 3, 4] bcast_S2x8x2x16384x1_S2x8x2x16384x16384_0_1_2_3_4 (broadcastInDim S2x8x2x16384x1 ![0, 1, 2, 3] bcast_S2x8x2x16384_S2x8x2x16384x1_0_1_2_3 (maximumf (broadcastInDim S2x8x2x16384 ![] bcast_S_S2x8x2x16384 (constant S_ .f32 0xFF800000#32)) Y)))) : FVec Ideal S2x8x2x16384x16384 .f32) (ix5 b h μ i j)
      = Ideal.exp (W (ix5 b h μ i j) - max ⊥ (Y (ix4 b h μ i))) := by
  pointwise
  rw [ofBits_neg_inf]

/-- An entry over the sum of its row, read at an index. -/
theorem div_read (W : FVec Ideal S2x8x2x16384x16384 .f32) (b : Fin 2) (h : Fin 8) (μ : Fin 2) (i j : Fin 16384) :
    (Host.divf W (broadcastInDim S2x8x2x16384x16384 ![0, 1, 2, 3, 4] bcast_S2x8x2x16384x1_S2x8x2x16384x16384_0_1_2_3_4 (broadcastInDim S2x8x2x16384x1 ![0, 1, 2, 3] bcast_S2x8x2x16384_S2x8x2x16384x1_0_1_2_3 (Host.reduceAdd W (constant S_ .f32 0x00000000#32) reducesTo_S2x8x2x16384x16384_S2x8x2x16384_d4 h_S_))) : FVec Ideal S2x8x2x16384x16384 .f32) (ix5 b h μ i j)
      = Ideal.div (W (ix5 b h μ i j)) (∑ y : Fin 16384, W (ix5 b h μ i y)) := by
  have r := sum_last reducesTo_S2x8x2x16384x16384_S2x8x2x16384_d4 h_S_ W b h μ i
  generalize Host.reduceAdd W (constant S_ .f32 0x00000000#32) reducesTo_S2x8x2x16384x16384_S2x8x2x16384_d4 h_S_ = Y at r ⊢
  rw [← r]
  pointwise

include e0 hx0 e1 hx1 in
/-- The exponentials, up to one number of the row. -/
theorem exp_at (b : Fin 2) (h : Fin 8) (μ : Fin 2) (i : Fin 16384) :
    ∃ k : ℝ, k ≠ 0 ∧ ∀ j : Fin 16384, res_main_v69 V0 (ix5 b h μ i j)
      = ((wt (Pof x0) (Bof x1 h.val) b.val h.val μ.val i.val j.val * k : ℝ) : EReal) := by
  have sc := fun j => score_at V0 x0 e0 hx0 x1 e1 hx1 b h μ i j
  unfold res_main_v69
  obtain ⟨M, hM⟩ := max_last_real reducesTo_S2x8x2x16384x16384_S2x8x2x16384_d4 h_S_ (res_main_v62 V0) b h μ i _
    (fun j => j.val ≤ i.val) sc i le_rfl
  generalize hY : Host.reduce FloatOps.maximumf (res_main_v62 V0) (constant S_ .f32 0xFF800000#32) reducesTo_S2x8x2x16384x16384_S2x8x2x16384_d4 h_S_ = Y at hM ⊢
  clear hY
  generalize res_main_v62 V0 = W at sc ⊢
  refine ⟨Real.exp ((x1 (ix2 31 h)).toReal - M), (Real.exp_pos _).ne', fun j => ?_⟩
  refine (exp_read W Y b h μ i j).trans ?_
  rw [hM, sc j]
  exact exp_shift _ _ _ _

include e0 hx0 e1 hx1 in
/-- The weights over their sum. -/
theorem prob_at (b : Fin 2) (h : Fin 8) (μ : Fin 2) (i j : Fin 16384) :
    res_main_v73 V0 (ix5 b h μ i j)
      = ((wt (Pof x0) (Bof x1 h.val) b.val h.val μ.val i.val j.val
          / ∑ y : Fin 16384, wt (Pof x0) (Bof x1 h.val) b.val h.val μ.val i.val y.val : ℝ) : EReal) := by
  obtain ⟨k, hk, ex⟩ := exp_at V0 x0 e0 hx0 x1 e1 hx1 b h μ i
  unfold res_main_v73
  generalize res_main_v69 V0 = W at ex ⊢
  have pos : 0 < ∑ y : Fin 16384, wt (Pof x0) (Bof x1 h.val) b.val h.val μ.val i.val y.val := by
    have := wt_pos (P := Pof x0) (B := Bof x1 h.val) (bb := b.val) (h := h.val) μ.val i.val 16384 (by norm_num)
    rwa [Finset.sum_range] at this
  refine Eq.trans ?_ (div_shift (fun y : Fin 16384 => wt (Pof x0) (Bof x1 h.val) b.val h.val μ.val i.val y.val) k hk pos.ne' j)
  refine (div_read W b h μ i j).trans ?_
  rw [ex j]
  exact congrArg _ (Finset.sum_congr rfl fun y _ => ex y)

end

end Cert.Flash
-- ==== Proof.RefMix.lean ====
/-
The reference's output, read at an index: of a row and a head, the two maps' averages combined, normed and weighted —
the same number as the kernel's.
-/
module
public import proofs.«01_k».proof.Proof.Gen.ReferenceIdeal
public import proofs.«01_k».proof.Proof.Gen.ReferenceIdeal.Run
public import proofs.«01_k».proof.Proof.RefProb
public import proofs.«01_k».proof.Proof.Arr
public import Idealize.ShloMosaic.Lib.Pointwise
public import Idealize.ShloMosaic.Lib.Tactic.CleanTypes

@[expose] public section
set_option maxRecDepth 16384
noncomputable section

open Idealize.ShloMosaic Idealize.ShloMosaic.TcCoe Idealize.SL.Sem
open Cert.ReferenceIdeal Cert.ReferenceIdeal.Gen Cert.ReferenceIdeal.Value Idealize.ShloMosaic.Pointwise Idealize.ShloMosaic.StableHlo

namespace Cert.Flash

/-- The factor of the second map is real when its vectors are. -/
theorem lam_real (a b c d : Fin 64 → EReal) (ha : ∀ i, a i = (((a i).toReal : ℝ) : EReal)) (hb : ∀ i, b i = (((b i).toReal : ℝ) : EReal))
    (hc : ∀ i, c i = (((c i).toReal : ℝ) : EReal)) (hd : ∀ i, d i = (((d i).toReal : ℝ) : EReal)) :
    ∃ l : ℝ, lamOf a b c d = (l : EReal) := by
  obtain ⟨y, hy⟩ := ofBits_fifth
  have s : ∀ u v : Fin 64 → EReal, (∀ i, u i = (((u i).toReal : ℝ) : EReal)) → (∀ i, v i = (((v i).toReal : ℝ) : EReal)) →
      ∑ x, u x * v x = ((∑ x, (u x).toReal * (v x).toReal : ℝ) : EReal) := by
    intro u v hu hv
    rw [← sum_real]
    exact Finset.sum_congr rfl fun x _ => by rw [EReal.coe_mul, ← hu, ← hv]
  refine ⟨Real.exp (∑ x, (a x).toReal * (b x).toReal) - Real.exp (∑ x, (c x).toReal * (d x).toReal) + y, ?_⟩
  unfold lamOf
  rw [s a b ha hb, s c d hc hd, hy, Ideal.exp_coe, Ideal.exp_coe, ← EReal.coe_sub, ← EReal.coe_add]

/-- Values averaged by the difference of two maps: the difference of the averages. -/
theorem mix_avg {n : ℕ} (W1 W2 : ℕ → ℝ) (V : ℕ → Fin 128 → ℝ) (x : Fin 128) (l : ℝ) (A C U : Fin n → EReal)
    (hA : ∀ j, A j = ((W1 j.val / ∑ y : Fin n, W1 y.val : ℝ) : EReal)) (hC : ∀ j, C j = ((W2 j.val / ∑ y : Fin n, W2 y.val : ℝ) : EReal))
    (hU : ∀ j, U j = ((V j.val x : ℝ) : EReal)) :
    ∑ j, (A j - (l : EReal) * C j) * U j = (avg n W1 V x : EReal) - (l : EReal) * (avg n W2 V x : EReal) := by
  unfold avg
  simp only [Finset.sum_range, hA, hC, hU]
  exact avg_diff (fun j : Fin n => W1 j.val) (fun j : Fin n => W2 j.val) (fun j : Fin n => V j.val x) _ _ l

/-- The combined averages, read at an index. -/
theorem mix_read (W : FVec Ideal S2x8x2x16384x16384 .f32) (x0 : FVec Ideal S32768x3072 .bf16) (x2 x3 x4 x5 : FVec Ideal S64 .f32)
    (b : Fin 2) (h : Fin 8) (i : Fin 16384) (x : Fin 128) :
    (transpose S2x16384x8x128 [0, 2, 1, 3] (Host.dotGeneral dot_S2x8x16384x16384_S2x8x16384x128_S2x8x16384x128_3_2_2_3_01_01 none (subf (shapeCast S2x8x16384x16384 (extractStridedSlice S2x8x1x16384x16384 ![0, 0, 0, 0, 0] W slices_S2x8x2x16384x16384_S2x8x1x16384x16384_0_0_0_0_0) shapeCasts_S2x8x1x16384x16384_S2x8x16384x16384) (mulf (broadcastInDim S2x8x16384x16384 ![] bcast_S_S2x8x16384x16384 (addf (subf (Host.exp (Host.reduceAdd (mulf x2 x3) (constant S_ .f32 0x00000000#32) reducesTo_S64_S_d0 h_S_)) (Host.exp (Host.reduceAdd (mulf x4 x5) (constant S_ .f32 0x00000000#32) reducesTo_S64_S_d0 h_S_))) (constant S_ .f32 0x3E4CCCCD#32))) (shapeCast S2x8x16384x16384 (extractStridedSlice S2x8x1x16384x16384 ![0, 0, 1, 0, 0] W slices_S2x8x2x16384x16384_S2x8x1x16384x16384_0_0_1_0_0) shapeCasts_S2x8x1x16384x16384_S2x8x16384x16384))) (transpose S2x8x16384x128 [0, 2, 1, 3] (shapeCast S2x16384x8x128 (extractStridedSlice S2x16384x1024 ![0, 0, 2048] (shapeCast S2x16384x3072 (extf .f32 x0 bitsLt_bf16_f32) shapeCasts_S32768x3072_S2x16384x3072) slices_S2x16384x3072_S2x16384x1024_0_0_2048) shapeCasts_S2x16384x1024_S2x16384x8x128) transposes_S2x16384x8x128_S2x8x16384x128_0_2_1_3)) transposes_S2x8x16384x128_S2x16384x8x128_0_2_1_3 : FVec Ideal S2x16384x8x128 .f32) (Idealize.ShloMosaic.ix4 b i h x)
      = ∑ j : Fin 16384, (W (Idealize.ShloMosaic.ix5 b h 0 i j) - lamOf (fun y => x2 (Idealize.ShloMosaic.ix1 y)) (fun y => x3 (Idealize.ShloMosaic.ix1 y)) (fun y => x4 (Idealize.ShloMosaic.ix1 y)) (fun y => x5 (Idealize.ShloMosaic.ix1 y)) * W (Idealize.ShloMosaic.ix5 b h 1 i j))
          * x0 (ix2 (⟨b.val * 16384 + j.val, by omega⟩ : Fin 32768) (⟨2048 + (h.val * 128 + x.val), by omega⟩ : Fin 3072)) := by
  pointwise
  simp only [lamOf]

section
variable (V0 : Valuation τ sig (Elt Ideal)) (x0 : FVec Ideal S32768x3072 .bf16) (e0 : x0 = V0 (Proc.devRef .tc main_arg0)) (hx0 : ∀ i, x0 i = (((x0 i).toReal : ℝ) : EReal))
  (x1 : FVec Ideal S32x8 .f32) (e1 : x1 = V0 (Proc.devRef .tc main_arg1)) (hx1 : ∀ i, x1 i = (((x1 i).toReal : ℝ) : EReal))
  (x2 : FVec Ideal S64 .f32) (e2 : x2 = V0 (Proc.devRef .tc main_arg2)) (hx2 : ∀ i, x2 i = (((x2 i).toReal : ℝ) : EReal))
  (x3 : FVec Ideal S64 .f32) (e3 : x3 = V0 (Proc.devRef .tc main_arg3)) (hx3 : ∀ i, x3 i = (((x3 i).toReal : ℝ) : EReal))
  (x4 : FVec Ideal S64 .f32) (e4 : x4 = V0 (Proc.devRef .tc main_arg4)) (hx4 : ∀ i, x4 i = (((x4 i).toReal : ℝ) : EReal))
  (x5 : FVec Ideal S64 .f32) (e5 : x5 = V0 (Proc.devRef .tc main_arg5)) (hx5 : ∀ i, x5 i = (((x5 i).toReal : ℝ) : EReal))

include e0 hx0 e1 hx1 e2 hx2 e3 hx3 e4 hx4 e5 hx5 in
/-- The two maps' averages combined. -/
theorem mix_at (b : Fin 2) (h : Fin 8) (i : Fin 16384) (x : Fin 128) :
    res_main_v82 V0 (Idealize.ShloMosaic.ix4 b i h x)
      = (avg 16384 (wt (Pof x0) (Bof x1 h.val) b.val h.val 0 i.val) (valAt (Pof x0) b.val h.val) x : EReal)
        - lamOf (fun y => x2 (Idealize.ShloMosaic.ix1 y)) (fun y => x3 (Idealize.ShloMosaic.ix1 y)) (fun y => x4 (Idealize.ShloMosaic.ix1 y)) (fun y => x5 (Idealize.ShloMosaic.ix1 y))
          * (avg 16384 (wt (Pof x0) (Bof x1 h.val) b.val h.val 1 i.val) (valAt (Pof x0) b.val h.val) x : EReal) := by
  obtain ⟨l, hl⟩ := lam_real (fun y => x2 (Idealize.ShloMosaic.ix1 y)) (fun y => x3 (Idealize.ShloMosaic.ix1 y)) (fun y => x4 (Idealize.ShloMosaic.ix1 y)) (fun y => x5 (Idealize.ShloMosaic.ix1 y))
    (fun _ => hx2 _) (fun _ => hx3 _) (fun _ => hx4 _) (fun _ => hx5 _)
  have p0 := fun j => prob_at V0 x0 e0 hx0 x1 e1 hx1 b h 0 i j
  have p1 := fun j => prob_at V0 x0 e0 hx0 x1 e1 hx1 b h 1 i j
  unfold res_main_v82 res_main_v1
  generalize res_main_v73 V0 = W at p0 p1 ⊢
  rw [← e0, ← e2, ← e3, ← e4, ← e5]
  refine (mix_read W x0 x2 x3 x4 x5 b h i x).trans ?_
  rw [hl]
  refine mix_avg _ _ _ x l (fun j => W (Idealize.ShloMosaic.ix5 b h 0 i j)) (fun j => W (Idealize.ShloMosaic.ix5 b h 1 i j)) _ p0 p1 fun j => ?_
  rw [Pof_eq x0 hx0]
  unfold valAt
  have a1 : b.val * 16384 + j.val = 16384 * b.val + j.val := by omega
  have a2 : 2048 + (h.val * 128 + x.val) = 2048 + 128 * h.val + x.val := by omega
  simp only [a1, a2]

end

end Cert.Flash
-- ==== Proof.RefNorm.lean ====
/-
The reference's output, read at an index: of a row and a head, the two maps' averages combined, normed and weighted —
the same number as the kernel's.
-/
module
public import proofs.«01_k».proof.Proof.Gen.ReferenceIdeal
public import proofs.«01_k».proof.Proof.Gen.ReferenceIdeal.Run
public import proofs.«01_k».proof.Proof.RefProb
public import proofs.«01_k».proof.Proof.Arr
public import Idealize.ShloMosaic.Lib.Pointwise
public import Idealize.ShloMosaic.Lib.Tactic.CleanTypes

@[expose] public section
set_option maxRecDepth 16384
noncomputable section

open Idealize.ShloMosaic Idealize.ShloMosaic.TcCoe Idealize.SL.Sem
open Cert.ReferenceIdeal Cert.ReferenceIdeal.Gen Cert.ReferenceIdeal.Value Idealize.ShloMosaic.Pointwise Idealize.ShloMosaic.StableHlo

namespace Cert.Flash

/-- The output's two axes are the four of the combined averages. -/
theorem cast_read (Z : FVec Ideal S2x16384x8x128 .f32) (r : Fin 32768) (col : Fin 1024) :
    (truncf .bf16 (shapeCast S32768x1024 Z shapeCasts_S2x16384x8x128_S32768x1024) bitsLt_bf16_f32 : FVec Ideal S32768x1024 .bf16) (ix2 r col)
      = Z (Idealize.ShloMosaic.ix4 (⟨r.val / 16384, by omega⟩ : Fin 2) (⟨r.val % 16384, by omega⟩ : Fin 16384) (⟨col.val / 128, by omega⟩ : Fin 8) (⟨col.val % 128, by omega⟩ : Fin 128)) := by
  pointwise

/-- A row over the root of its mean square, by the weights and the constant, read at an index. -/
theorem norm_read (W : FVec Ideal S2x16384x8x128 .f32) (w : FVec Ideal S128 .f32) (b : Fin 2) (i : Fin 16384) (h : Fin 8) (x : Fin 128) :
    ((mulf (mulf (mulf W (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf W W) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x3727C5AC#32)))))) (broadcastInDim S2x16384x8x128 ![0, 1, 2, 3] bcast_S1x1x1x128_S2x16384x8x128_0_1_2_3 (broadcastInDim S1x1x1x128 ![3] bcast_S128_S1x1x1x128_3 w))) (broadcastInDim S2x16384x8x128 ![] bcast_S_S2x16384x8x128 (constant S_ .f32 0x3F4CCCCD#32))) : FVec Ideal S2x16384x8x128 .f32) (Idealize.ShloMosaic.ix4 b i h x)
      = normRow (fun y => W (Idealize.ShloMosaic.ix4 b i h y)) (fun y => w (Idealize.ShloMosaic.ix1 y)) x := by
  pointwise
  unfold normRow
  rfl

end Cert.Flash
-- ==== Proof.RefOut.lean ====
/-
The reference's output, read at an index: of a row and a head, the two maps' averages combined, normed and weighted —
the same number as the kernel's.
-/
module
public import proofs.«01_k».proof.Proof.Gen.ReferenceIdeal
public import proofs.«01_k».proof.Proof.Gen.ReferenceIdeal.Run
public import proofs.«01_k».proof.Proof.RefMix
public import proofs.«01_k».proof.Proof.RefNorm
public import proofs.«01_k».proof.Proof.Arr
public import Idealize.ShloMosaic.Lib.Pointwise
public import Idealize.ShloMosaic.Lib.Tactic.CleanTypes

@[expose] public section
set_option maxRecDepth 16384
noncomputable section

open Idealize.ShloMosaic Idealize.ShloMosaic.TcCoe Idealize.SL.Sem
open Cert.ReferenceIdeal Cert.ReferenceIdeal.Gen Cert.ReferenceIdeal.Value Idealize.ShloMosaic.Pointwise Idealize.ShloMosaic.StableHlo

namespace Cert.Flash

section
variable (V0 : Valuation τ sig (Elt Ideal)) (x0 : FVec Ideal S32768x3072 .bf16) (e0 : x0 = V0 (Proc.devRef .tc main_arg0)) (hx0 : ∀ i, x0 i = (((x0 i).toReal : ℝ) : EReal))
  (x1 : FVec Ideal S32x8 .f32) (e1 : x1 = V0 (Proc.devRef .tc main_arg1)) (hx1 : ∀ i, x1 i = (((x1 i).toReal : ℝ) : EReal))
  (x2 : FVec Ideal S64 .f32) (e2 : x2 = V0 (Proc.devRef .tc main_arg2)) (hx2 : ∀ i, x2 i = (((x2 i).toReal : ℝ) : EReal))
  (x3 : FVec Ideal S64 .f32) (e3 : x3 = V0 (Proc.devRef .tc main_arg3)) (hx3 : ∀ i, x3 i = (((x3 i).toReal : ℝ) : EReal))
  (x4 : FVec Ideal S64 .f32) (e4 : x4 = V0 (Proc.devRef .tc main_arg4)) (hx4 : ∀ i, x4 i = (((x4 i).toReal : ℝ) : EReal))
  (x5 : FVec Ideal S64 .f32) (e5 : x5 = V0 (Proc.devRef .tc main_arg5)) (hx5 : ∀ i, x5 i = (((x5 i).toReal : ℝ) : EReal))

include e0 hx0 e1 hx1 e2 hx2 e3 hx3 e4 hx4 e5 hx5 in
/-- The output, an entry of it. -/
theorem out_at (x6 : FVec Ideal S128 .f32) (e6 : x6 = V0 (Proc.devRef .tc main_arg6)) (y4 y5 y6 y7 : FVec Ideal Cert.KernelIdeal.S1x64 .f32) (y8 : FVec Ideal Cert.KernelIdeal.S1x128 .f32)
    (h4 : ∀ k : Fin 64, y4 (ix2 (0 : Fin 1) k) = x2 (Idealize.ShloMosaic.ix1 k)) (h5 : ∀ k : Fin 64, y5 (ix2 (0 : Fin 1) k) = x3 (Idealize.ShloMosaic.ix1 k))
    (h6 : ∀ k : Fin 64, y6 (ix2 (0 : Fin 1) k) = x4 (Idealize.ShloMosaic.ix1 k)) (h7 : ∀ k : Fin 64, y7 (ix2 (0 : Fin 1) k) = x5 (Idealize.ShloMosaic.ix1 k))
    (h8 : ∀ k : Fin 128, y8 (ix2 (0 : Fin 1) k) = x6 (Idealize.ShloMosaic.ix1 k)) (r : Fin 32768) (col : Fin 1024) :
    (truncf .bf16 (shapeCast S32768x1024 (mulf (mulf (mulf (res_main_v82 V0) (broadcastInDim S2x16384x8x128 ![0, 1, 2, 3] bcast_S2x16384x8x1_S2x16384x8x128_0_1_2_3 (Host.rsqrt (addf (Host.divf (broadcastInDim S2x16384x8x1 ![0, 1, 2] bcast_S2x16384x8_S2x16384x8x1_0_1_2 (Host.reduceAdd (mulf (res_main_v82 V0) (res_main_v82 V0)) (constant S_ .f32 0x00000000#32) reducesTo_S2x16384x8x128_S2x16384x8_d3 h_S_)) (broadcastInDim S2x16384x8x1 ![] bcast_S_S2x16384x8x1 (constant S_ .f32 0x43000000#32))) (broadcastInDim S2x16384x8x1 ![] bcast_S_S2x16384x8x1 (constant S_ .f32 0x3727C5AC#32)))))) (broadcastInDim S2x16384x8x128 ![0, 1, 2, 3] bcast_S1x1x1x128_S2x16384x8x128_0_1_2_3 (broadcastInDim S1x1x1x128 ![3] bcast_S128_S1x1x1x128_3 (V0 (Proc.devRef .tc main_arg6))))) (broadcastInDim S2x16384x8x128 ![] bcast_S_S2x16384x8x128 (constant S_ .f32 0x3F4CCCCD#32))) shapeCasts_S2x16384x8x128_S32768x1024) bitsLt_bf16_f32 : FVec Ideal S32768x1024 .bf16) (ix2 r col)
      = attnAt (Pof x0) (Bof x1) y4 y5 y6 y7 y8 r.val col.val := by
  have hm := mix_at V0 x0 e0 hx0 x1 e1 hx1 x2 e2 hx2 x3 e3 hx3 x4 e4 hx4 x5 e5 hx5
  generalize res_main_v82 V0 = W at hm ⊢
  refine (cast_read _ r col).trans ((norm_read W _ _ _ _ _).trans ?_)
  unfold attnAt outRow
  simp only [h4, h5, h6, h7, h8, hm, e6]
end

end Cert.Flash
-- ==== Proof.Value.lean ====
/-
The value of the kernel: over the extended reals the kernel and the reference end with the same attention.
-/
module
public import proofs.«01_k».proof.Proof.Claims
public import proofs.«01_k».proof.Proof.Gen.KernelIdeal.Value
public import proofs.«01_k».proof.Proof.Arr
public import proofs.«01_k».proof.Proof.Table
public import proofs.«01_k».proof.Proof.Finite
public import proofs.«01_k».proof.Proof.RefOut

@[expose] public section
set_option maxRecDepth 16384
noncomputable section

open Idealize.ShloMosaic Idealize.ShloMosaic.TcCoe Idealize.SL.Sem

namespace Cert.Flash

section
variable (m : (ℓ : Loc Cert.KernelIdeal.nD Cert.KernelIdeal.τ Cert.KernelIdeal.sig) → Buf (Elt Ideal) ℓ) (c : Dev Cert.KernelIdeal.nD)
  (x0 : FVec Ideal Cert.KernelIdeal.S32768x3072 .bf16) (e0 : x0 = m (c, Proc.tc.devRef Cert.KernelIdeal.main_arg0)) (hx0 : ∀ i, x0 i = (((x0 i).toReal : ℝ) : EReal))
  (x1 : FVec Ideal Cert.KernelIdeal.S32x8 .f32) (e1 : x1 = m (c, Proc.tc.devRef Cert.KernelIdeal.main_arg1)) (hx1 : ∀ i, x1 i = (((x1 i).toReal : ℝ) : EReal))

include e0 hx0 e1 hx1 in
/-- The array the kernel leaves, an entry of it, from finite queries, keys, values and bias. -/
theorem kernel_at (r : Fin 32768) (col : Fin 1024) :
    (Cert.KernelIdeal.Gen.dats m 0 c).arrAt 9 Cert.KernelIdeal.cfg0.N (Idealize.ShloMosaic.ix2 r col)
      = attnAt (Pof x0) (Bof x1) (Cert.KernelIdeal.Gen.V m c Cert.KernelIdeal.main_v46) (Cert.KernelIdeal.Gen.V m c Cert.KernelIdeal.main_v47)
          (Cert.KernelIdeal.Gen.V m c Cert.KernelIdeal.main_v48) (Cert.KernelIdeal.Gen.V m c Cert.KernelIdeal.main_v49)
          (Cert.KernelIdeal.Gen.V m c Cert.KernelIdeal.main_v50) r.val col.val := by
  have hP : ∀ i : Cert.KernelIdeal.S32768x3072.Idx, Cert.KernelIdeal.Gen.V m c Cert.KernelIdeal.main_arg0 i = ((Pof x0 (i 0).val (i 1).val : ℝ) : EReal) := by
    intro i
    rw [Cert.KernelIdeal.Gen.V_main_arg0 m c]
    obtain ⟨a, b, rfl⟩ : ∃ a b, i = Idealize.ShloMosaic.ix2 (n0 := 32768) (n1 := 3072) a b := ⟨_, _, eq_ix2 i⟩
    exact (congrFun e0 _).symm.trans (Pof_eq x0 hx0 a b)
  exact congrFun (arr_eq m c hP (table_at m c x1 e1 hx1) (fun h n hn => Bof_far x1 h n hn)) (Idealize.ShloMosaic.ix2 r col)

end

/-- Over the extended reals, from finite arguments, the kernel and the reference end with the same attention. -/
theorem algebraic : Cert.algebraic_KernelIdeal_ReferenceIdeal_pre_finite (hKernelIdeal := Cert.KernelIdeal.Gen.facts)
    (hReferenceIdeal := Cert.ReferenceIdeal.Gen.facts) (hPre_finite := Cert.Claims.pre_facts) := by
  intro m g m' g' pre agree
  refine ⟨fun c => (Cert.KernelIdeal.Gen.dats m 0 c).arrAt 9 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6⟩ := agree c
  obtain ⟨f0, f1, f2, f3, f4, f5⟩ := @finite_all Cert.Claims.pre_facts _ _ _ _ _ _ _ (pre c)
  funext i
  obtain ⟨r, col, rfl⟩ : ∃ r col, i = Idealize.ShloMosaic.ix2 (n0 := 32768) (n1 := 1024) r col := ⟨_, _, eq_ix2 i⟩
  refine (out_at (StableHlo.launchContents m' c) _ a0.symm f0 _ a1.symm f1 _ a2.symm f2 _ a3.symm f3 _ a4.symm f4 _ a5.symm f5 _ a6.symm _ _ _ _ _
    (small2 m c) (small3 m c) (small4 m c) (small5 m c) (small6 m c) r col).trans ?_
  exact (kernel_at m c _ rfl f0 _ rfl f1 r col).symm

end Cert.Flash
-- ==== Proof.Proj.lean ====
/-
One entry of an input projection: a token's row, scaled to unit mean square, modulated, times a column of the weights.
-/
module
public import Idealize.ShloMosaic.Lib.Pointwise
public import Idealize.ShloMosaic.Lib.WholeRead
public import Idealize.ShloMosaic.Lib.Pipeline.Value

@[expose] public section
noncomputable section

open Idealize.ShloMosaic

namespace Cert.Proj

/-- The product of a row `X`, over the root of its mean square plus the normalisation's epsilon, times the gain `g`, one plus
the scale `s`, plus the shift `h`, with a column `W`. -/
def rowProj (X g s h W : Fin 2048 → EReal) : EReal :=
  ∑ x, (X x * Ideal.rsqrt (Ideal.div (∑ y, X y * X y) (Ideal.ofBits FTy.f32 0x45000000#32) + Ideal.ofBits FTy.f32 0x358637BD#32) * g x
    * (1 + s x) + h x) * W x

theorem rowProj_congr {X g s h W X' g' s' h' W' : Fin 2048 → EReal} (e0 : ∀ k, X k = X' k) (e1 : ∀ k, g k = g' k) (e2 : ∀ k, s k = s' k)
    (e3 : ∀ k, h k = h' k) (e4 : ∀ k, W k = W' k) : rowProj X g s h W = rowProj X' g' s' h' W' := by
  rw [funext e0, funext e1, funext e2, funext e3, funext e4]

/-- A load of a whole memref. -/
theorem load_whole {sig : RefSig} {κ : Kind} {sp : Space} {S : Shape} {e : EltTy} (a : Memref sig κ sp S e) (h : a.IsWhole) (X : S.Idx → Elt Ideal e)
    {off : Fin S.rank → ℕ} (ho : off = fun _ => 0) (inb : ∀ a, off a + S.size a ≤ S.size a) :
    View.readAt (Elt Ideal) a.view (Rect.unit off S.size inb).toLoadRect (h.unread X) = X := by
  subst ho
  rw [View.readAt_eq_ld, h.read_unread]
  funext y
  exact congrArg X (Rect.emb_whole_apply _ y)

theorem origin2 : (![0, 0] : Fin 2 → ℕ) = fun _ => 0 := funext fun a => by fin_cases a <;> rfl
theorem origin3 : (![0, 0, 0] : Fin 3 → ℕ) = fun _ => 0 := funext fun a => by fin_cases a <;> rfl

/-- The projection's entry at a batch, a position and a column, from the layer's arrays. -/
def projAt {n : ℕ} (x : FVec Ideal ⟨3, ![2, 16384, 2048]⟩ .f32) (g : FVec Ideal ⟨1, ![2048]⟩ .f32) (s h : FVec Ideal ⟨2, ![2, 2048]⟩ .f32)
    (w : FVec Ideal ⟨2, ![2048, n]⟩ .f32) (b : Fin 2) (p : Fin 16384) (col : Fin n) : EReal :=
  rowProj (fun k => x (ix3 b p k)) (fun k => g (ix1 k)) (fun k => s (ix2 b k)) (fun k => h (ix2 b k)) (fun k => w (ix2 k col))

/-- The batch and the position of a token. -/
def batchOf (T : Fin 32768) : Fin 2 := ⟨T.val / 16384, by omega⟩
def posOf (T : Fin 32768) : Fin 16384 := ⟨T.val % 16384, by omega⟩

end Cert.Proj

end
-- ==== Proof.Proj2.lean ====
/-
The input projection with the shift by a token: what a step leaves, and the array after the run.
-/
module
public import proofs.«01_k».proof.Proof.Proj
public import proofs.«01_k».proof.Proof.Gen.Kernel2Ideal
public import proofs.«01_k».proof.Proof.Gen.Kernel2Ideal.Value
public import Idealize.ShloMosaic.Lib.Pointwise
public import Idealize.ShloMosaic.Lib.Pipeline.ValueKit
public import Idealize.ShloMosaic.Lib.StableHlo.ReadAt
public import Idealize.ShloMosaic.Lib.WritesUnit

@[expose] public section
set_option maxRecDepth 16384
noncomputable section

open Idealize.ShloMosaic Idealize.ShloMosaic.TcCoe Idealize.SL.Sem
open Cert.Kernel2Ideal Cert.Kernel2Ideal.Gen Idealize.ShloMosaic.Pointwise

namespace Cert.Proj2

open Cert.Proj

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val / 64, 0, 0] := (by decide +kernel : ∀ t : Fin grid0.N, _)
theorem at3 : ∀ t : Fin cfg0.N, win0_3.index t = ![t.val / 64, 0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![t.val, 0] := (by decide +kernel : ∀ t : Fin grid0.N, _)

/-- The host's arrays, at an index of the arguments they are. -/
theorem host0 (T : Fin 32768) (k : Fin 2048) : V (F := Ideal) m c main_v0 (ix2 T k : S32768x2048.Idx)
    = m (c, Proc.tc.devRef main_arg0) (ix3 (batchOf T) (posOf T) k : S2x16384x2048.Idx) := by
  unfold V
  simp only [hostOps0, List.flatten_cons, List.flatten_nil, List.append_nil, List.cons_append, List.nil_append]
  after_reads_at
  rfl
theorem host1 (k : Fin 2048) : V (F := Ideal) m c main_v2 (ix2 (0 : Fin 1) k : S1x2048.Idx) = m (c, Proc.tc.devRef main_arg1) (ix1 k : S2048.Idx) := by
  unfold V
  simp only [hostOps0, List.flatten_cons, List.flatten_nil, List.append_nil, List.cons_append, List.nil_append]
  after_reads_at
theorem host2 (b : Fin 2) (k : Fin 2048) : V (F := Ideal) m c main_v3 (ix3 b (0 : Fin 1) k : S2x1x2048.Idx) = m (c, Proc.tc.devRef main_arg2) (ix2 b k : S2x2048.Idx) := by
  unfold V
  simp only [hostOps0, List.flatten_cons, List.flatten_nil, List.append_nil, List.cons_append, List.nil_append]
  after_reads_at
theorem host3 (b : Fin 2) (k : Fin 2048) : V (F := Ideal) m c main_v4 (ix3 b (0 : Fin 1) k : S2x1x2048.Idx) = m (c, Proc.tc.devRef main_arg3) (ix2 b k : S2x2048.Idx) := by
  unfold V
  simp only [hostOps0, List.flatten_cons, List.flatten_nil, List.append_nil, List.cons_append, List.nil_append]
  after_reads_at
theorem host4 (k : Fin 2048) (n : Fin 3328) : V (F := Ideal) m c main_v1 (ix2 k n : S2048x3328.Idx) = m (c, Proc.tc.devRef main_arg4) (ix2 k n : S2048x3328.Idx) := by
  unfold V
  simp only [hostOps0, List.flatten_cons, List.flatten_nil, List.append_nil, List.cons_append, List.nil_append]
  after_reads_at

theorem host5 (n : Fin 3328) : V (F := Ideal) m c main_v5 (ix2 (0 : Fin 1) n : S1x3328.Idx) = m (c, Proc.tc.devRef main_arg5) (ix1 n : S3328.Idx) := by
  unfold V
  simp only [hostOps0, List.flatten_cons, List.flatten_nil, List.append_nil, List.cons_append, List.nil_append]
  after_reads_at

/-- The blocks of a step. -/
theorem blk0 (t : Fin cfg0.N) (r : Fin 256) (k : Fin 2048) (T : Fin 32768) (hT : T.val = 256 * t.val + r.val) :
    iblk m c 0 t (ix2 r k) = V m c main_v0 (ix2 T k : S32768x2048.Idx) := by
  blk_simp [iblk]
  refine congrArg (V m c main_v0) (funext fun a => Fin.ext ?_)
  match a with
  | ⟨0, _⟩ => blk_simp [at0 t]; show _ = T.val; rw [hT]; omega
  | ⟨1, _⟩ => blk_simp [at0 t]
theorem blk1 (t : Fin cfg0.N) : iblk m c 1 t = V m c main_v2 := by
  funext y
  blk_simp [iblk]
  refine congrArg (V m c main_v2) (funext fun a => Fin.ext ?_)
  match a with
  | ⟨0, _⟩ => blk_simp [at1 t]
  | ⟨1, _⟩ => blk_simp [at1 t]
theorem blk2 (t : Fin cfg0.N) (k : Fin 2048) (b : Fin 2) (hb : b.val = t.val / 64) :
    iblk m c 2 t (ix3 (0 : Fin 1) (0 : Fin 1) k) = V m c main_v3 (ix3 b (0 : Fin 1) k : S2x1x2048.Idx) := by
  blk_simp [iblk]
  refine congrArg (V m c main_v3) (funext fun a => Fin.ext ?_)
  match a with
  | ⟨0, _⟩ => blk_simp [at2 t]; show _ = b.val; rw [hb]; rfl
  | ⟨1, _⟩ => blk_simp [at2 t]
  | ⟨2, _⟩ => blk_simp [at2 t]
theorem blk3 (t : Fin cfg0.N) (k : Fin 2048) (b : Fin 2) (hb : b.val = t.val / 64) :
    iblk m c 3 t (ix3 (0 : Fin 1) (0 : Fin 1) k) = V m c main_v4 (ix3 b (0 : Fin 1) k : S2x1x2048.Idx) := by
  blk_simp [iblk]
  refine congrArg (V m c main_v4) (funext fun a => Fin.ext ?_)
  match a with
  | ⟨0, _⟩ => blk_simp [at3 t]; show _ = b.val; rw [hb]; rfl
  | ⟨1, _⟩ => blk_simp [at3 t]
  | ⟨2, _⟩ => blk_simp [at3 t]
theorem blk4 (t : Fin cfg0.N) : iblk m c 4 t = V m c main_v1 := by
  funext y
  blk_simp [iblk]
  refine congrArg (V m c main_v1) (funext fun a => Fin.ext ?_)
  match a with
  | ⟨0, _⟩ => blk_simp [at4 t]
  | ⟨1, _⟩ => blk_simp [at4 t]

theorem blk5 (t : Fin cfg0.N) : iblk m c 5 t = V m c main_v5 := by
  funext y
  blk_simp [iblk]
  refine congrArg (V m c main_v5) (funext fun a => Fin.ext ?_)
  match a with
  | ⟨0, _⟩ => blk_simp [at5 t]
  | ⟨1, _⟩ => blk_simp [at5 t]

/-- A step's rows before the shift. -/
theorem pay4_at (v0 : Vec Ideal S256x2048 .f32) (v12 : Vec Ideal S1x2048 .f32) (v16 v22 : Vec Ideal S1x1x2048 .f32) (v27 : Vec Ideal S2048x3328 .bf16) (r : Fin 256) (n : Fin 3328) :
    k0_pay4 v0 v12 v16 v22 v27 (ix2 r n) = rowProj (fun k => v0 (ix2 r k)) (fun k => v12 (ix2 0 k)) (fun k => v16 (ix3 0 0 k)) (fun k => v22 (ix3 0 0 k)) (fun k => v27 (ix2 k n)) := by
  unfold rowProj
  pointwise [k0_pay4]

theorem pay2_at (v : FVec Ideal S256x3328 .f32) (n : Fin 3328) : k0_pay2 v (ix2 (0 : Fin 1) n) = v (ix2 (255 : Fin 256) n) := by
  pointwise [k0_pay2]

theorem pay1_at (r : Fin 8) (n : Fin 3328) : k0_pay1 (F := Ideal) (ix2 r n) = 0 := by
  pointwise [k0_pay1]

/-- The shifted rows of a step: the row before, or the carried row before the first. -/
theorem pay3_at (v29 : FVec Ideal S256x3328 .f32) (v47 v56 : Vec Ideal S1x3328 .f32) (r : Fin 256) (n : Fin 3328) :
    k0_pay3 v29 v47 v56 (ix2 r n) = v29 (ix2 r n) + ((if r.val = 0 then v47 (ix2 0 n) else v29 (ix2 ⟨r.val - 1, by omega⟩ n)) - v29 (ix2 r n)) * v56 (ix2 0 n) := by
  have hr := r.isLt
  have e : k0_pay3 v29 v47 v56 (ix2 r n) = v29 (ix2 r n) + (Scalar.select (IntOp.cmpi CmpIPredicate.eq (BitVec.ofNat 32 r.val) 0#32) (v47 (ix2 0 n))
      (v29 (ix2 ⟨(r.val + 256 - 1) % 256, by omega⟩ n)) - v29 (ix2 r n)) * v56 (ix2 0 n) := by
    pointwise [k0_pay3]
  rw [e]
  by_cases h : r.val = 0
  · have e0 : BitVec.ofNat 32 r.val = 0#32 := by rw [h]
    rw [if_pos h, e0]
    rfl
  · have e1 : IntOp.cmpi CmpIPredicate.eq (BitVec.ofNat 32 r.val) 0#32 = 0#1 := by
      have : BitVec.ofNat 32 r.val ≠ 0#32 := fun e => h (by have := congrArg BitVec.toNat e; simp only [BitVec.toNat_ofNat] at this; omega)
      have hb : (BitVec.ofNat 32 r.val == 0#32) = false := beq_eq_false_iff_ne.mpr this
      show BitVec.ofBool (BitVec.ofNat 32 r.val == 0#32) = 0#1
      rw [hb]
      rfl
    have e2 : (⟨(r.val + 256 - 1) % 256, by omega⟩ : Fin 256) = ⟨r.val - 1, by omega⟩ := Fin.ext (by show (r.val + 256 - 1) % 256 = r.val - 1; omega)
    rw [if_neg h, e1, e2]
    rfl

/-- The first row of the carried rows, after it is stored. -/
theorem row_of_pieces {κ : Kind} {sp : Space} (v : View sig κ sp S8x3328 .f32) (f : v.ty.Contents (Elt Ideal)) (w : S1x3328.Idx → Elt Ideal .f32)
    (L : List (View.Piece (Elt Ideal) S8x3328 .f32)) (n : Fin 3328) :
    v.read (Elt Ideal) (v.writes (Elt Ideal) f (⟨Rect.unit (s := S8x3328) ![0, 0] S1x3328.size inb_S8x3328_S1x3328_0_0, w⟩ :: L)) (ix2 (0 : Fin 8) n) = w (ix2 (0 : Fin 1) n) :=
  View.read_writes_cons_unit_of_mem v f inb_S8x3328_S1x3328_0_0 w L _ (ix2 (0 : Fin 1) n) rfl fun a => by
    match a with
    | ⟨0, _⟩ => rfl
    | ⟨1, _⟩ => show n.val = 0 + n.val; omega

/-- The carried rows, after a store of all of them. -/
theorem all_of_pieces {κ : Kind} {sp : Space} (v : View sig κ sp S8x3328 .f32) (f : v.ty.Contents (Elt Ideal)) (w : S8x3328.Idx → Elt Ideal .f32)
    (r : Fin 8) (n : Fin 3328) :
    v.read (Elt Ideal) (v.writes (Elt Ideal) f [⟨Rect.unit (s := S8x3328) ![0, 0] S8x3328.size inb_S8x3328_S8x3328_0_0, w⟩]) (ix2 r n) = w (ix2 r n) :=
  View.read_writes_cons_unit_of_mem v f inb_S8x3328_S8x3328_0_0 w [] _ (ix2 r n) rfl fun a => by
    match a with
    | ⟨0, _⟩ => show r.val = 0 + r.val; omega
    | ⟨1, _⟩ => show n.val = 0 + n.val; omega

section
variable (i : grid0.Coords) (arg1 : Memref sig .tc .vmem S256x2048 .f32) (harg1 : arg1.IsWhole) (arg2 : Memref sig .tc .vmem S1x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x3328 .bf16) (harg5 : arg5.IsWhole) (arg6 : Memref sig .tc .vmem S1x3328 .f32) (harg6 : arg6.IsWhole) (arg7 : Memref sig .tc .vmem S256x3328 .f32) (harg7 : arg7.IsWhole) (arg8 : Memref sig .tc .vmem S8x3328 .f32) (harg8 : arg8.IsWhole)
  (x0 : Vec Ideal S256x2048 .f32) (x1 : Vec Ideal S1x2048 .f32) (x2 x3 : Vec Ideal S1x1x2048 .f32) (x4 : Vec Ideal S2048x3328 .bf16) (x5 : Vec Ideal S1x3328 .f32) (xs0 : Vec Ideal S8x3328 .f32)

theorem rA : kernelRun0_A.sl.r (F := Ideal) c arg1 harg1 arg2 harg2 arg3 harg3 arg4 harg4 arg5 harg5 x0 x1 x2 x3 x4 = k0_pay4 x0 x1 x2 x3 x4 := by
  have l0 := load_whole arg1 harg1 x0 origin2 inb_S256x2048_S256x2048_0_0
  have l1 := load_whole arg2 harg2 x1 origin2 inb_S1x2048_S1x2048_0_0
  have l2 := load_whole arg3 harg3 x2 origin3 inb_S1x1x2048_S1x1x2048_0_0_0
  have l3 := load_whole arg4 harg4 x3 origin3 inb_S1x1x2048_S1x1x2048_0_0_0
  have l4 := load_whole arg5 harg5 x4 origin2 inb_S2048x3328_S2048x3328_0_0
  unfold kernelRun0_A.sl.r
  rw [l0, l1, l2, l3, l4]

theorem rB : kernelRun0_B.sl.r (F := Ideal) c arg1 harg1 arg2 harg2 arg3 harg3 arg4 harg4 arg5 harg5 x0 x1 x2 x3 x4 = k0_pay4 x0 x1 x2 x3 x4 := by
  have l0 := load_whole arg1 harg1 x0 origin2 inb_S256x2048_S256x2048_0_0
  have l1 := load_whole arg2 harg2 x1 origin2 inb_S1x2048_S1x2048_0_0
  have l2 := load_whole arg3 harg3 x2 origin3 inb_S1x1x2048_S1x1x2048_0_0_0
  have l3 := load_whole arg4 harg4 x3 origin3 inb_S1x1x2048_S1x1x2048_0_0_0
  have l4 := load_whole arg5 harg5 x4 origin2 inb_S2048x3328_S2048x3328_0_0
  unfold kernelRun0_B.sl.r
  rw [l0, l1, l2, l3, l4]

/-- The carried row at the first step of a batch is zero. -/
theorem v47A (n : Fin 3328) : kernelRun0_A.sl.v47 (F := Ideal) c arg8 (ix2 (0 : Fin 1) n) = 0 := by
  unfold kernelRun0_A.sl.v47 kernelRun0_A.sl.HS0_1 View.readCov
  rw [View.readAt_eq_ld]
  refine Eq.trans ?_ (pay1_at 0 n)
  refine Eq.trans ?_ (all_of_pieces arg8.view arg8.view.junk (k0_pay1 (F := Ideal)) 0 n)
  refine congrArg (View.read (Elt Ideal) arg8.view _) (funext fun a => Fin.ext ?_)
  match a with
  | ⟨0, _⟩ => rfl
  | ⟨1, _⟩ => show 0 + 1 * n.val = n.val; omega

/-- The block of a first step of a batch. -/
theorem outA (hc0 : cond0_0 i) (r : Fin 256) (n : Fin 3328) :
    out0_A_6 c i arg1 harg1 arg2 harg2 arg3 harg3 arg4 harg4 arg5 harg5 arg6 harg6 arg7 harg7 arg8 harg8 hc0 x0 x1 x2 x3 x4 x5 (ix2 r n) = k0_pay4 x0 x1 x2 x3 x4 (ix2 r n)
      + ((if r.val = 0 then 0 else k0_pay4 x0 x1 x2 x3 x4 (ix2 ⟨r.val - 1, by omega⟩ n)) - k0_pay4 x0 x1 x2 x3 x4 (ix2 r n)) * x5 (ix2 0 n) := by
  have l5 := load_whole arg6 harg6 x5 origin2 inb_S1x3328_S1x3328_0_0
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4 x5)]
  unfold kernelRun0_A
  dsimp only
  rw [View.canon_unit_zero origin2, rA, l5, pay3_at, v47A]

/-- What a first step of a batch carries on. -/
theorem soutA (hc0 : cond0_0 i) (n : Fin 3328) :
    sout0_A_0 c i arg1 harg1 arg2 harg2 arg3 harg3 arg4 harg4 arg5 harg5 arg6 harg6 arg7 harg7 arg8 harg8 hc0 x0 x1 x2 x3 x4 x5 (ix2 (0 : Fin 8) n) = k0_pay4 x0 x1 x2 x3 x4 (ix2 (255 : Fin 256) n) := by
  unfold sout0_A_0 kernelRun0_A
  dsimp only
  rw [rA]
  exact (row_of_pieces _ _ _ _ n).trans (pay2_at _ n)

/-- The block of a later step. -/
theorem outB (hc0 : ¬ cond0_0 i) (r : Fin 256) (n : Fin 3328) :
    out0_B_6 c i arg1 harg1 arg2 harg2 arg3 harg3 arg4 harg4 arg5 harg5 arg6 harg6 arg7 harg7 arg8 harg8 hc0 x0 x1 x2 x3 x4 x5 xs0 (ix2 r n) = k0_pay4 x0 x1 x2 x3 x4 (ix2 r n)
      + ((if r.val = 0 then xs0 (ix2 (0 : Fin 8) n) else k0_pay4 x0 x1 x2 x3 x4 (ix2 ⟨r.val - 1, by omega⟩ n)) - k0_pay4 x0 x1 x2 x3 x4 (ix2 r n)) * x5 (ix2 0 n) := by
  have l5 := load_whole arg6 harg6 x5 origin2 inb_S1x3328_S1x3328_0_0
  have l8 : View.readAt (Elt Ideal) arg8.view (Rect.unit (s := S8x3328) ![0, 0] S1x3328.size inb_S8x3328_S1x3328_0_0).toLoadRect (harg8.unread xs0) (ix2 (0 : Fin 1) n) = xs0 (ix2 (0 : Fin 8) n) := by
    refine (harg8.readAt_unread xs0 _ _).trans (congrArg xs0 (funext fun a => Fin.ext ?_))
    match a with
    | ⟨0, _⟩ => rfl
    | ⟨1, _⟩ => show 0 + 1 * n.val = n.val; omega
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 x5 xs0)]
  unfold kernelRun0_B
  dsimp only
  rw [View.canon_unit_zero origin2, rB, l5, pay3_at, l8]

/-- What a later step carries on. -/
theorem soutB (hc0 : ¬ cond0_0 i) (n : Fin 3328) :
    sout0_B_0 c i arg1 harg1 arg2 harg2 arg3 harg3 arg4 harg4 arg5 harg5 arg6 harg6 arg7 harg7 arg8 harg8 hc0 x0 x1 x2 x3 x4 x5 xs0 (ix2 (0 : Fin 8) n) = k0_pay4 x0 x1 x2 x3 x4 (ix2 (255 : Fin 256) n) := by
  unfold sout0_B_0 kernelRun0_B
  dsimp only
  rw [rB]
  exact (row_of_pieces _ _ _ _ n).trans (pay2_at _ n)

end

end Cert.Proj2

end
-- ==== Proof.Arr2.lean ====
/-
The input projection with the shift by a token: the array after the run.
-/
module
public import proofs.«01_k».proof.Proof.Proj2

@[expose] public section
set_option maxRecDepth 16384
noncomputable section

open Idealize.ShloMosaic Idealize.ShloMosaic.TcCoe Idealize.SL.Sem
open Cert.Kernel2Ideal Cert.Kernel2Ideal.Gen Idealize.ShloMosaic.Pointwise

namespace Cert.Proj2

open Cert.Proj

variable (m : (ℓ : Loc nD τ sig) → Buf (Elt Ideal) ℓ) (c : Dev nD)

/-- A token's projection before the shift. -/
def tokAt (T : Fin 32768) (col : Fin 3328) : EReal :=
  projAt (m (c, Proc.tc.devRef main_arg0)) (m (c, Proc.tc.devRef main_arg1)) (m (c, Proc.tc.devRef main_arg2)) (m (c, Proc.tc.devRef main_arg3))
    (m (c, Proc.tc.devRef main_arg4)) (batchOf T) (posOf T) col

/-- The projection of the token before, zero at the start of a batch. -/
def prevAt (T : Fin 32768) (col : Fin 3328) : EReal := if T.val % 16384 = 0 then 0 else tokAt m c ⟨T.val - 1, by omega⟩ col

/-- The shifted projection. -/
def mixAt (T : Fin 32768) (col : Fin 3328) : EReal :=
  tokAt m c T col + (prevAt m c T col - tokAt m c T col) * m (c, Proc.tc.devRef main_arg5) (ix1 col : S3328.Idx)

/-- A step's rows before the shift are its tokens' projections. -/
theorem rows_at (t : Fin cfg0.N) (r : Fin 256) (n : Fin 3328) (T : Fin 32768) (hT : T.val = 256 * t.val + r.val) :
    k0_pay4 (iblk m c 0 t) (iblk m c 1 t) (iblk m c 2 t) (iblk m c 3 t) (iblk m c 4 t) (ix2 r n) = tokAt m c T n := by
  have ht : t.val < 128 := t.isLt
  have hr := r.isLt
  have hb : (batchOf T).val = t.val / 64 := by show T.val / 16384 = _; omega
  rw [pay4_at]
  unfold tokAt projAt
  simp only [blk0 m c t r _ T hT, blk1, blk2 m c t _ _ hb, blk3 m c t _ _ hb, blk4]
  exact rowProj_congr (fun k => host0 m c _ k) (fun k => host1 m c k) (fun k => host2 m c _ k) (fun k => host3 m c _ k) (fun k => host4 m c k n)

theorem mu_at (t : Fin cfg0.N) (n : Fin 3328) : iblk m c 5 t (ix2 (0 : Fin 1) n) = m (c, Proc.tc.devRef main_arg5) (ix1 n : S3328.Idx) := by
  rw [blk5]
  exact host5 m c n

/-- What a step carries on is the projection of its last token. -/
theorem carry_at (t : Fin cfg0.N) (n : Fin 3328) (T : Fin 32768) (hT : T.val = 256 * t.val + 255) :
    (outsAt0 m c t.val t.isLt).2 (ix2 (0 : Fin 8) n) = tokAt m c T n := by
  by_cases h : t.val % 64 = 0
  · rw [outsAt0_A m c t h]
    dsimp only
    rw [soutA]
    exact rows_at m c t 255 n T hT
  · rw [outsAt0_B m c t h]
    dsimp only
    rw [soutB]
    exact rows_at m c t 255 n T hT

/-- What a step leaves, at a row and a column of its block. -/
theorem after_at (t : Fin cfg0.N) (r : Fin 256) (n : Fin 3328) (T : Fin 32768) (hT : T.val = 256 * t.val + r.val) :
    (outsAt0 m c t.val t.isLt).1 (ix2 r n) = mixAt m c T n := by
  have ht : t.val < 128 := t.isLt
  have hr := r.isLt
  have key : ∀ q : EReal, (r.val = 0 → q = prevAt m c T n) →
      k0_pay4 (iblk m c 0 t) (iblk m c 1 t) (iblk m c 2 t) (iblk m c 3 t) (iblk m c 4 t) (ix2 r n)
        + ((if r.val = 0 then q else k0_pay4 (iblk m c 0 t) (iblk m c 1 t) (iblk m c 2 t) (iblk m c 3 t) (iblk m c 4 t) (ix2 ⟨r.val - 1, by omega⟩ n))
          - k0_pay4 (iblk m c 0 t) (iblk m c 1 t) (iblk m c 2 t) (iblk m c 3 t) (iblk m c 4 t) (ix2 r n)) * iblk m c 5 t (ix2 (0 : Fin 1) n) = mixAt m c T n := by
    intro q hq
    have e : (if r.val = 0 then q else k0_pay4 (iblk m c 0 t) (iblk m c 1 t) (iblk m c 2 t) (iblk m c 3 t) (iblk m c 4 t) (ix2 ⟨r.val - 1, by omega⟩ n)) = prevAt m c T n := by
      by_cases h : r.val = 0
      · rw [if_pos h, hq h]
      · rw [if_neg h, rows_at m c t ⟨r.val - 1, by omega⟩ n ⟨T.val - 1, by omega⟩ (by show T.val - 1 = 256 * t.val + (r.val - 1); omega)]
        unfold prevAt
        rw [if_neg (by omega)]
    rw [e, rows_at m c t r n T hT, mu_at]
    rfl
  by_cases h : t.val % 64 = 0
  · rw [outsAt0_A m c t h]
    dsimp only
    rw [outA]
    refine key 0 (fun h0 => ?_)
    unfold prevAt
    rw [if_pos (by omega)]
  · rw [outsAt0_B m c t h]
    dsimp only
    rw [outB]
    refine key _ (fun h0 => ?_)
    unfold prevAt
    rw [if_neg (by omega)]
    exact carry_at m c ⟨t.val - 1, by omega⟩ n ⟨T.val - 1, by omega⟩ (by show T.val - 1 = 256 * (t.val - 1) + 255; omega)

/-- The array after the run. -/
theorem arr_eq : (dats m 0 c).arrAt 6 cfg0.N = (fun i : S32768x3328.Idx => mixAt m c (i 0) (i 1)) := by
  refine (dats m 0 c).arrAt_eq_of_covers 6 _ (by decide +kernel) fun t hf y => ?_
  blk_simp [at6 t]
  rw [after0_6]
  obtain ⟨r, x, rfl⟩ : ∃ r x, y = ix2 (n0 := 256) (n1 := 3328) r x := ⟨_, _, eq_ix2 y⟩
  have ht : t.val < 128 := t.isLt
  have hr := r.isLt
  have e0 : (win0_6.blk t).view.emb (ix2 r x) 0 = (⟨256 * t.val + r.val, by omega⟩ : Fin 32768) := Fin.ext (by blk_simp [at6 t]; show t.val * 256 + r.val = 256 * t.val + r.val; omega)
  have e1 : (win0_6.blk t).view.emb (ix2 r x) 1 = x := Fin.ext (by blk_simp [at6 t])
  rw [e0, e1]
  exact after_at m c t r x _ rfl

end Cert.Proj2

end
-- ==== Proof.Proj2Ref.lean ====
/-
The reference's input projection with the shift by a token, an entry of it.
-/
module
public import proofs.«01_k».proof.Proof.Proj
public import proofs.«01_k».proof.Proof.Gen.Reference2Ideal
public import proofs.«01_k».proof.Proof.Gen.Reference2Ideal.Run
public import Idealize.ShloMosaic.Lib.Pointwise

@[expose] public section
set_option maxRecDepth 16384
noncomputable section

open Idealize.ShloMosaic Idealize.ShloMosaic.TcCoe Idealize.SL.Sem
open Cert.Reference2Ideal Cert.Reference2Ideal.Gen Idealize.ShloMosaic.Pointwise

namespace Cert.Proj

/-- The projection of a token before the shift. -/
theorem dot2_at (x : FVec Ideal S2x16384x2048 .f32) (g : FVec Ideal S2048 .f32) (s h : FVec Ideal S2x2048 .f32) (w : FVec Ideal S2048x3328 .f32)
    (b : Fin 2) (p : Fin 16384) (col : Fin 3328) :
    (Host.dotGeneral dot_S2x16384x2048_S2048x3328_S2x16384x3328_2_0_01_1_n_n none (addf (mulf (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 s)))) (broadcastInDim S2x16384x2048 ![0, 1, 2] bcast_S2x1x2048_S2x16384x2048_0_1_2 (broadcastInDim S2x1x2048 ![0, 2] bcast_S2x2048_S2x1x2048_0_2 h))) w) (ix3 b p col)
      = projAt x g s h w b p col := by
  unfold projAt rowProj
  pointwise

theorem sitofp_zero : FloatOps.sitofp (F := Ideal) FTy.f32 (0#32) = (0 : EReal) := by
  have e : (0#32 : BitVec 32).toInt = 0 := by decide
  show (((0#32 : BitVec 32).toInt : ℝ) : EReal) = 0
  rw [e, Int.cast_zero, EReal.coe_zero]

/-- The shift, over any array of projections. -/
theorem shift_at (D : FVec Ideal S2x16384x3328 .f32) (mu : FVec Ideal S3328 .f32) (T : Fin 32768) (col : Fin 3328) :
    (shapeCast S32768x3328 (addf D (mulf (subf (extractStridedSlice S2x16384x3328 ![0, 0, 0] (pad S2x16385x3328 ![0, 1, 0] ![0, 0, 0] ![0, 0, 0] D (sitofp .f32 (constantI S_ 32 0#32)) pads_S2x16384x3328_S2x16385x3328_000_100_000 h_S_) slices_S2x16385x3328_S2x16384x3328_0_0_0) D) (broadcastInDim S2x16384x3328 ![0, 1, 2] bcast_S1x1x3328_S2x16384x3328_0_1_2 (broadcastInDim S1x1x3328 ![2] bcast_S3328_S1x1x3328_2 mu)))) shapeCasts_S2x16384x3328_S32768x3328) (ix2 T col) = D (ix3 (batchOf T) (posOf T) col)
      + ((if T.val % 16384 = 0 then 0 else D (ix3 (batchOf T) ⟨T.val % 16384 - 1, by omega⟩ col)) - D (ix3 (batchOf T) (posOf T) col)) * mu (ix1 col) := by
  pointwise
  have hT := T.isLt
  refine congrArg (fun v : EReal => D (ix3 (batchOf T) (posOf T) col) + (v - D (ix3 (batchOf T) (posOf T) col)) * mu (ix1 col)) ?_
  by_cases h : T.val % 16384 = 0
  · exact (dif_neg (by omega)).trans (sitofp_zero.trans (if_pos h).symm)
  · exact (dif_pos (by omega)).trans (if_neg h).symm

/-- The shifted projection at a token and a column: the projection plus the mixing weight times the difference of the
token before's, zero at the start of a batch, and its own. -/
def shiftAt (x : FVec Ideal S2x16384x2048 .f32) (g : FVec Ideal S2048 .f32) (s h : FVec Ideal S2x2048 .f32) (w : FVec Ideal S2048x3328 .f32)
    (mu : FVec Ideal S3328 .f32) (T : Fin 32768) (col : Fin 3328) : EReal :=
  projAt x g s h w (batchOf T) (posOf T) col
    + ((if T.val % 16384 = 0 then 0 else projAt x g s h w (batchOf T) ⟨T.val % 16384 - 1, by omega⟩ col) - projAt x g s h w (batchOf T) (posOf T) col) * mu (ix1 col)

/-- The reference's result, an entry of it. -/
theorem ref2_at (x : FVec Ideal S2x16384x2048 .f32) (g : FVec Ideal S2048 .f32) (s h : FVec Ideal S2x2048 .f32) (w : FVec Ideal S2048x3328 .f32)
    (mu : FVec Ideal S3328 .f32) (T : Fin 32768) (col : Fin 3328) :
    (shapeCast S32768x3328 (addf (Host.dotGeneral dot_S2x16384x2048_S2048x3328_S2x16384x3328_2_0_01_1_n_n none (addf (mulf (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 s)))) (broadcastInDim S2x16384x2048 ![0, 1, 2] bcast_S2x1x2048_S2x16384x2048_0_1_2 (broadcastInDim S2x1x2048 ![0, 2] bcast_S2x2048_S2x1x2048_0_2 h))) w) (mulf (subf (extractStridedSlice S2x16384x3328 ![0, 0, 0] (pad S2x16385x3328 ![0, 1, 0] ![0, 0, 0] ![0, 0, 0] (Host.dotGeneral dot_S2x16384x2048_S2048x3328_S2x16384x3328_2_0_01_1_n_n none (addf (mulf (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 s)))) (broadcastInDim S2x16384x2048 ![0, 1, 2] bcast_S2x1x2048_S2x16384x2048_0_1_2 (broadcastInDim S2x1x2048 ![0, 2] bcast_S2x2048_S2x1x2048_0_2 h))) w) (sitofp .f32 (constantI S_ 32 0#32)) pads_S2x16384x3328_S2x16385x3328_000_100_000 h_S_) slices_S2x16385x3328_S2x16384x3328_0_0_0) (Host.dotGeneral dot_S2x16384x2048_S2048x3328_S2x16384x3328_2_0_01_1_n_n none (addf (mulf (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 s)))) (broadcastInDim S2x16384x2048 ![0, 1, 2] bcast_S2x1x2048_S2x16384x2048_0_1_2 (broadcastInDim S2x1x2048 ![0, 2] bcast_S2x2048_S2x1x2048_0_2 h))) w)) (broadcastInDim S2x16384x3328 ![0, 1, 2] bcast_S1x1x3328_S2x16384x3328_0_1_2 (broadcastInDim S1x1x3328 ![2] bcast_S3328_S1x1x3328_2 mu)))) shapeCasts_S2x16384x3328_S32768x3328) (ix2 T col) = shiftAt x g s h w mu T col := by
  refine (shift_at _ mu T col).trans ?_
  unfold shiftAt
  rw [dot2_at, dot2_at]

end Cert.Proj

end
-- ==== Proof.Value2.lean ====
/-
The value of the projection with the shift by a token: the kernel and the reference end with the same projection.
-/
module
public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Arr2
public import proofs.«01_k».proof.Proof.Proj2Ref

@[expose] public section
set_option maxRecDepth 16384
noncomputable section

open Idealize.ShloMosaic Idealize.ShloMosaic.TcCoe Idealize.SL.Sem

namespace Cert.Proj2

open Cert.Proj

/-- The shifted projection in the two ways of naming a token. -/
theorem ref_mix (m : (ℓ : Loc Cert.Kernel2Ideal.nD Cert.Kernel2Ideal.τ Cert.Kernel2Ideal.sig) → Buf (Elt Ideal) ℓ) (c : Dev Cert.Kernel2Ideal.nD) (T : Fin 32768) (col : Fin 3328) :
    shiftAt (m (c, Proc.tc.devRef Cert.Kernel2Ideal.main_arg0)) (m (c, Proc.tc.devRef Cert.Kernel2Ideal.main_arg1)) (m (c, Proc.tc.devRef Cert.Kernel2Ideal.main_arg2))
      (m (c, Proc.tc.devRef Cert.Kernel2Ideal.main_arg3)) (m (c, Proc.tc.devRef Cert.Kernel2Ideal.main_arg4)) (m (c, Proc.tc.devRef Cert.Kernel2Ideal.main_arg5)) T col = mixAt m c T col := by
  have hT := T.isLt
  unfold shiftAt mixAt prevAt
  by_cases h : T.val % 16384 = 0
  · rw [if_pos h, if_pos h]
    rfl
  · rw [if_neg h, if_neg h]
    have e0 : batchOf (⟨T.val - 1, by omega⟩ : Fin 32768) = batchOf T := Fin.ext (by show (T.val - 1) / 16384 = T.val / 16384; omega)
    have e1 : posOf (⟨T.val - 1, by omega⟩ : Fin 32768) = ⟨T.val % 16384 - 1, by omega⟩ := Fin.ext (by show (T.val - 1) % 16384 = T.val % 16384 - 1; omega)
    unfold tokAt
    rw [e0, e1]

theorem frame_p : Cert.quiescent_Kernel2 (hKernel2 := Cert.Kernel2.Gen.facts) := fun m g _ => Cert.Kernel2.Gen.frame m g

theorem frame_pi : Cert.quiescent_Kernel2Ideal (hKernel2Ideal := Cert.Kernel2Ideal.Gen.facts) := fun m g _ => Cert.Kernel2Ideal.Gen.frame m g

theorem frame_ri : Cert.quiescent_Reference2Ideal (hReference2Ideal := Cert.Reference2Ideal.Gen.facts) := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- Over the extended reals the kernel and the reference end with the same projection. -/
theorem algebraic : Cert.algebraic_Kernel2Ideal_Reference2Ideal (hKernel2Ideal := Cert.Kernel2Ideal.Gen.facts)
    (hReference2Ideal := Cert.Reference2Ideal.Gen.facts) := by
  intro m g m' g' _ agree
  refine ⟨fun c => (Cert.Kernel2Ideal.Gen.dats m 0 c).arrAt 6 Cert.Kernel2Ideal.cfg0.N, Cert.Kernel2Ideal.Value.run_blocks m g, ?_⟩
  refine (θ_run Cert.Reference2Ideal.defs _ _).mono (fun r h c => ⟨(h c).1.trans ?_, (h c).2⟩) (Cert.Reference2Ideal.Value.run (F := Ideal) m' g')
  obtain ⟨a0, a1, a2, a3, a4, a5⟩ := agree c
  unfold Cert.Reference2Ideal.Value.res_main_v29
  rw [a0, a1, a2, a3, a4, a5]
  funext i
  obtain ⟨T, col, rfl⟩ : ∃ T col, i = ix2 (n0 := 32768) (n1 := 3328) T col := ⟨_, _, eq_ix2 i⟩
  exact (ref2_at _ _ _ _ _ _ T col).trans ((ref_mix m c T col).trans (congrFun (arr_eq m c) (ix2 T col)).symm)

end Cert.Proj2

end
-- ==== Proof.Proj3.lean ====
/-
The input projection of the attention's columns: what a step leaves, and the array after the run.
-/
module
public import proofs.«01_k».proof.Proof.Proj
public import proofs.«01_k».proof.Proof.Gen.Kernel3Ideal
public import proofs.«01_k».proof.Proof.Gen.Kernel3Ideal.Value
public import Idealize.ShloMosaic.Lib.Pointwise
public import Idealize.ShloMosaic.Lib.Pipeline.ValueKit
public import Idealize.ShloMosaic.Lib.StableHlo.ReadAt
public import Idealize.ShloMosaic.Lib.WritesUnit

@[expose] public section
set_option maxRecDepth 16384
noncomputable section

open Idealize.ShloMosaic Idealize.ShloMosaic.TcCoe Idealize.SL.Sem
open Cert.Kernel3Ideal Cert.Kernel3Ideal.Gen Idealize.ShloMosaic.Pointwise

namespace Cert.Proj3

open Cert.Proj

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val / 64, 0, 0] := (by decide +kernel : ∀ t : Fin grid0.N, _)
theorem at3 : ∀ t : Fin cfg0.N, win0_3.index t = ![t.val / 64, 0, 0] := (by decide +kernel : ∀ t : Fin grid0.N, _)
theorem at4 : ∀ t : Fin cfg0.N, win0_4.index t = ![0, 0] := (by decide +kernel : ∀ t : Fin grid0.N, _)
theorem at6 : ∀ t : Fin cfg0.N, win0_6.index t = ![t.val, 0] := (by decide +kernel : ∀ t : Fin grid0.N, _)

/-- The host's arrays, at an index of the arguments they are. -/
theorem host0 (T : Fin 32768) (k : Fin 2048) : V (F := Ideal) m c main_v0 (ix2 T k : S32768x2048.Idx)
    = m (c, Proc.tc.devRef main_arg0) (ix3 (batchOf T) (posOf T) k : S2x16384x2048.Idx) := by
  unfold V
  simp only [hostOps0, List.flatten_cons, List.flatten_nil, List.append_nil, List.cons_append, List.nil_append]
  after_reads_at
  rfl
theorem host1 (k : Fin 2048) : V (F := Ideal) m c main_v3 (ix2 (0 : Fin 1) k : S1x2048.Idx) = m (c, Proc.tc.devRef main_arg1) (ix1 k : S2048.Idx) := by
  unfold V
  simp only [hostOps0, List.flatten_cons, List.flatten_nil, List.append_nil, List.cons_append, List.nil_append]
  after_reads_at
theorem host2 (b : Fin 2) (k : Fin 2048) : V (F := Ideal) m c main_v4 (ix3 b (0 : Fin 1) k : S2x1x2048.Idx) = m (c, Proc.tc.devRef main_arg2) (ix2 b k : S2x2048.Idx) := by
  unfold V
  simp only [hostOps0, List.flatten_cons, List.flatten_nil, List.append_nil, List.cons_append, List.nil_append]
  after_reads_at
theorem host3 (b : Fin 2) (k : Fin 2048) : V (F := Ideal) m c main_v5 (ix3 b (0 : Fin 1) k : S2x1x2048.Idx) = m (c, Proc.tc.devRef main_arg3) (ix2 b k : S2x2048.Idx) := by
  unfold V
  simp only [hostOps0, List.flatten_cons, List.flatten_nil, List.append_nil, List.cons_append, List.nil_append]
  after_reads_at
theorem host4 (k : Fin 2048) (n : Fin 3072) : V (F := Ideal) m c main_v1 (ix2 k n : S2048x3072.Idx) = m (c, Proc.tc.devRef main_arg4) (ix2 k n : S2048x3072.Idx) := by
  unfold V
  simp only [hostOps0, List.flatten_cons, List.flatten_nil, List.append_nil, List.cons_append, List.nil_append]
  after_reads_at

/-- The blocks of a step. -/
theorem blk0 (t : Fin cfg0.N) (r : Fin 256) (k : Fin 2048) (T : Fin 32768) (hT : T.val = 256 * t.val + r.val) :
    iblk m c 0 t (ix2 r k) = V m c main_v0 (ix2 T k : S32768x2048.Idx) := by
  blk_simp [iblk]
  refine congrArg (V m c main_v0) (funext fun a => Fin.ext ?_)
  match a with
  | ⟨0, _⟩ => blk_simp [at0 t]; show _ = T.val; rw [hT]; omega
  | ⟨1, _⟩ => blk_simp [at0 t]
theorem blk1 (t : Fin cfg0.N) : iblk m c 1 t = V m c main_v3 := by
  funext y
  blk_simp [iblk]
  refine congrArg (V m c main_v3) (funext fun a => Fin.ext ?_)
  match a with
  | ⟨0, _⟩ => blk_simp [at1 t]
  | ⟨1, _⟩ => blk_simp [at1 t]
theorem blk2 (t : Fin cfg0.N) (k : Fin 2048) (b : Fin 2) (hb : b.val = t.val / 64) :
    iblk m c 2 t (ix3 (0 : Fin 1) (0 : Fin 1) k) = V m c main_v4 (ix3 b (0 : Fin 1) k : S2x1x2048.Idx) := by
  blk_simp [iblk]
  refine congrArg (V m c main_v4) (funext fun a => Fin.ext ?_)
  match a with
  | ⟨0, _⟩ => blk_simp [at2 t]; show _ = b.val; rw [hb]; rfl
  | ⟨1, _⟩ => blk_simp [at2 t]
  | ⟨2, _⟩ => blk_simp [at2 t]
theorem blk3 (t : Fin cfg0.N) (k : Fin 2048) (b : Fin 2) (hb : b.val = t.val / 64) :
    iblk m c 3 t (ix3 (0 : Fin 1) (0 : Fin 1) k) = V m c main_v5 (ix3 b (0 : Fin 1) k : S2x1x2048.Idx) := by
  blk_simp [iblk]
  refine congrArg (V m c main_v5) (funext fun a => Fin.ext ?_)
  match a with
  | ⟨0, _⟩ => blk_simp [at3 t]; show _ = b.val; rw [hb]; rfl
  | ⟨1, _⟩ => blk_simp [at3 t]
  | ⟨2, _⟩ => blk_simp [at3 t]
theorem blk4 (t : Fin cfg0.N) : iblk m c 4 t = V m c main_v1 := by
  funext y
  blk_simp [iblk]
  refine congrArg (V m c main_v1) (funext fun a => Fin.ext ?_)
  match a with
  | ⟨0, _⟩ => blk_simp [at4 t]
  | ⟨1, _⟩ => blk_simp [at4 t]

/-- What the step computes, at a row and a column. -/
theorem pay_at (v0 : Vec Ideal S256x2048 .f32) (v12 : Vec Ideal S1x2048 .f32) (v16 v22 : Vec Ideal S1x1x2048 .f32) (v27 : Vec Ideal S2048x3072 .bf16) (r : Fin 256) (n : Fin 3072) :
    k0_pay1 v0 v12 v16 v22 v27 (ix2 r n) = rowProj (fun k => v0 (ix2 r k)) (fun k => v12 (ix2 0 k)) (fun k => v16 (ix3 0 0 k)) (fun k => v22 (ix3 0 0 k)) (fun k => v27 (ix2 k n)) := by
  unfold rowProj
  pointwise [k0_pay1]

section
variable (i : grid0.Coords) (arg1 : Memref sig .tc .vmem S256x2048 .f32) (harg1 : arg1.IsWhole) (arg2 : Memref sig .tc .vmem S1x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S2048x3072 .bf16) (harg5 : arg5.IsWhole) (arg6 : Memref sig .tc .vmem S1x3072 .f32) (harg6 : arg6.IsWhole) (arg7 : Memref sig .tc .vmem S256x3072 .bf16) (harg7 : arg7.IsWhole) (arg8 : Memref sig .tc .vmem S8x3072 .f32) (harg8 : arg8.IsWhole)
  (x0 : Vec Ideal S256x2048 .f32) (x1 : Vec Ideal S1x2048 .f32) (x2 x3 : Vec Ideal S1x1x2048 .f32) (x4 : Vec Ideal S2048x3072 .bf16) (x5 : Vec Ideal S1x3072 .f32)

/-- The block a step leaves. -/
theorem out_eq : out0_A_6 c i arg1 harg1 arg2 harg2 arg3 harg3 arg4 harg4 arg5 harg5 arg6 harg6 arg7 harg7 arg8 harg8 x0 x1 x2 x3 x4 x5 = k0_pay1 x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  rw [View.canon_unit_zero origin2]
  have l0 := load_whole arg1 harg1 x0 origin2 inb_S256x2048_S256x2048_0_0
  have l1 := load_whole arg2 harg2 x1 origin2 inb_S1x2048_S1x2048_0_0
  have l2 := load_whole arg3 harg3 x2 origin3 inb_S1x1x2048_S1x1x2048_0_0_0
  have l3 := load_whole arg4 harg4 x3 origin3 inb_S1x1x2048_S1x1x2048_0_0_0
  have l4 := load_whole arg5 harg5 x4 origin2 inb_S2048x3072_S2048x3072_0_0
  rw [l0, l1, l2, l3, l4]
end

/-- The array after the run. -/
theorem arr_eq (T : Fin 32768) (col : Fin 3072) :
    (dats m 0 c).arrAt 6 cfg0.N (ix2 T col) = projAt (m (c, Proc.tc.devRef main_arg0)) (m (c, Proc.tc.devRef main_arg1)) (m (c, Proc.tc.devRef main_arg2)) (m (c, Proc.tc.devRef main_arg3))
      (m (c, Proc.tc.devRef main_arg4)) (batchOf T) (posOf T) col := by
  suffices h : (dats m 0 c).arrAt 6 cfg0.N = (fun i : S32768x3072.Idx => projAt (m (c, Proc.tc.devRef main_arg0)) (m (c, Proc.tc.devRef main_arg1)) (m (c, Proc.tc.devRef main_arg2)) (m (c, Proc.tc.devRef main_arg3))
      (m (c, Proc.tc.devRef main_arg4)) (batchOf (i 0)) (posOf (i 0)) (i 1)) from congrFun h _
  refine (dats m 0 c).arrAt_eq_of_covers 6 _ (by decide +kernel) fun t hf y => ?_
  blk_simp [at6 t]
  rw [after0_6]
  obtain ⟨r, x, rfl⟩ : ∃ r x, y = ix2 (n0 := 256) (n1 := 3072) r x := ⟨_, _, eq_ix2 y⟩
  unfold outsAt0
  rw [out_eq, pay_at]
  have ht : t.val < 128 := t.isLt
  have hr := r.isLt
  have e0 : (win0_6.blk t).view.emb (ix2 r x) 0 = (⟨256 * t.val + r.val, by omega⟩ : Fin 32768) := Fin.ext (by blk_simp [at6 t]; show t.val * 256 + r.val = 256 * t.val + r.val; omega)
  have e1 : (win0_6.blk t).view.emb (ix2 r x) 1 = x := Fin.ext (by blk_simp [at6 t])
  rw [e0, e1]
  have hb : (batchOf (⟨256 * t.val + r.val, by omega⟩ : Fin 32768)).val = t.val / 64 := by show (256 * t.val + r.val) / 16384 = _; omega
  unfold projAt
  simp only [blk0 m c t r _ ⟨256 * t.val + r.val, by omega⟩ rfl, blk1, blk2 m c t _ _ hb, blk3 m c t _ _ hb, blk4]
  exact rowProj_congr (fun k => host0 m c _ k) (fun k => host1 m c k) (fun k => host2 m c _ k) (fun k => host3 m c _ k) (fun k => host4 m c k x)

end Cert.Proj3

end
-- ==== Proof.Proj3Ref.lean ====
/-
The reference's input projection of the attention's columns, an entry of it.
-/
module
public import proofs.«01_k».proof.Proof.Proj
public import proofs.«01_k».proof.Proof.Gen.Reference3Ideal
public import proofs.«01_k».proof.Proof.Gen.Reference3Ideal.Run
public import Idealize.ShloMosaic.Lib.Pointwise

@[expose] public section
set_option maxRecDepth 16384
noncomputable section

open Idealize.ShloMosaic Idealize.ShloMosaic.TcCoe Idealize.SL.Sem
open Cert.Reference3Ideal Cert.Reference3Ideal.Gen Idealize.ShloMosaic.Pointwise

namespace Cert.Proj

theorem ref3_at (x : FVec Ideal S2x16384x2048 .f32) (g : FVec Ideal S2048 .f32) (s h : FVec Ideal S2x2048 .f32) (w : FVec Ideal S2048x3072 .f32)
    (T : Fin 32768) (col : Fin 3072) :
    truncf .bf16 (shapeCast S32768x3072 (Host.dotGeneral dot_S2x16384x2048_S2048x3072_S2x16384x3072_2_0_01_1_n_n none (addf (mulf (mulf (mulf x (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf x x) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))) (broadcastInDim S2x16384x2048 ![0, 1, 2] bcast_S1x1x2048_S2x16384x2048_0_1_2 (broadcastInDim S1x1x2048 ![2] bcast_S2048_S1x1x2048_2 g))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 s)))) (broadcastInDim S2x16384x2048 ![0, 1, 2] bcast_S2x1x2048_S2x16384x2048_0_1_2 (broadcastInDim S2x1x2048 ![0, 2] bcast_S2x2048_S2x1x2048_0_2 h))) w) shapeCasts_S2x16384x3072_S32768x3072) bitsLt_bf16_f32 (ix2 T col)
      = projAt x g s h w (batchOf T) (posOf T) col := by
  unfold projAt rowProj
  pointwise
  rfl

end Cert.Proj

end
-- ==== Proof.Value3.lean ====
/-
The value of the projection of the attention's columns: the kernel and the reference end with the same projection.
-/
module
public import proofs.«01_k».proof.Defs
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Proj3
public import proofs.«01_k».proof.Proof.Proj3Ref

@[expose] public section
set_option maxRecDepth 16384
noncomputable section

open Idealize.ShloMosaic Idealize.ShloMosaic.TcCoe Idealize.SL.Sem

namespace Cert.Proj3

open Cert.Proj

theorem frame_p : Cert.quiescent_Kernel3 (hKernel3 := Cert.Kernel3.Gen.facts) := fun m g _ => Cert.Kernel3.Gen.frame m g

theorem frame_pi : Cert.quiescent_Kernel3Ideal (hKernel3Ideal := Cert.Kernel3Ideal.Gen.facts) := fun m g _ => Cert.Kernel3Ideal.Gen.frame m g

theorem frame_ri : Cert.quiescent_Reference3Ideal (hReference3Ideal := Cert.Reference3Ideal.Gen.facts) := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

/-- Over the extended reals the kernel and the reference end with the same projection. -/
theorem algebraic : Cert.algebraic_Kernel3Ideal_Reference3Ideal (hKernel3Ideal := Cert.Kernel3Ideal.Gen.facts)
    (hReference3Ideal := Cert.Reference3Ideal.Gen.facts) := by
  intro m g m' g' _ agree
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨a0, a1, a2, a3, a4⟩ := agree c
  rw [a0, a1, a2, a3, a4]
  funext i
  obtain ⟨T, col, rfl⟩ : ∃ T col, i = ix2 (n0 := 32768) (n1 := 3072) T col := ⟨_, _, eq_ix2 i⟩
  exact (ref3_at _ _ _ _ _ T col).trans (arr_eq m c T col).symm

end Cert.Proj3

end
-- ==== Proof.lean ====
/-
The certificate's claims, put together.
-/
module
public import proofs.«01_k».proof.Defs
public import proofs.«01_k».proof.Proof.Claims
public import proofs.«01_k».proof.Proof.Value
public import proofs.«01_k».proof.Proof.Value2
public import proofs.«01_k».proof.Proof.Value3

@[expose] public section

/-- The programs run to the end and leave their arguments; the idealised kernels are the printed ones, the attention's with its
two named constants; from finite arguments the attention kernel ends with the reference's attention, and from any arguments the
two projections' kernels end with the reference's projections. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Claims.pre_facts,
    Cert.Claims.frame_p, Cert.Claims.frame_pi, Cert.Claims.frame_pi_finite, Cert.Claims.frame_ri, Cert.Claims.frame_ri_finite,
    Cert.Proj2.frame_p, Cert.Proj2.frame_pi, Cert.Proj2.frame_ri,
    Cert.Proj3.frame_p, Cert.Proj3.frame_pi, Cert.Proj3.frame_ri,
    Cert.Claims.preserves, Cert.Flash.algebraic, trivial, Cert.Proj2.algebraic, trivial, Cert.Proj3.algebraic⟩
